-- ==== Defs.lean ====
def Pre_Mha (m : (ℓ : Loc Cert.Mha.nD Cert.Mha.τ Cert.Mha.sig) → Buf (Elt Bits) ℓ) : Prop :=
  True

def Pre_MhaIdeal (m : (ℓ : Loc Cert.MhaIdeal.nD Cert.MhaIdeal.τ Cert.MhaIdeal.sig) → Buf (Elt Ideal) ℓ) : Prop :=
  True

def Pre_MhaIdeal_finite_qk [hPre_finite_qk : Cert.Pre_finite_qk.Facts] (m : (ℓ : Loc Cert.MhaIdeal.nD Cert.MhaIdeal.τ Cert.MhaIdeal.sig) → Buf (Elt Ideal) ℓ) : Prop :=
  ∀ c : Dev Cert.MhaIdeal.nD,
    (Cert.Pre_finite_qk.fn (F := Ideal) (m ((c.tc : Thread Cert.MhaIdeal.nD Cert.MhaIdeal.τ).loc Cert.MhaIdeal.main_arg0)) (m ((c.tc : Thread Cert.MhaIdeal.nD Cert.MhaIdeal.τ).loc Cert.MhaIdeal.main_arg1)) (m ((c.tc : Thread Cert.MhaIdeal.nD Cert.MhaIdeal.τ).loc Cert.MhaIdeal.main_arg2)) (m ((c.tc : Thread Cert.MhaIdeal.nD Cert.MhaIdeal.τ).loc Cert.MhaIdeal.main_arg3)) (m ((c.tc : Thread Cert.MhaIdeal.nD Cert.MhaIdeal.τ).loc Cert.MhaIdeal.main_arg4))) = (fun _ => 1#1)

def Pre_MhaRefIdeal (m : (ℓ : Loc Cert.MhaRefIdeal.nD Cert.MhaRefIdeal.τ Cert.MhaRefIdeal.sig) → Buf (Elt Ideal) ℓ) : Prop :=
  True

def Pre_MhaRefIdeal_finite_qk [hPre_finite_qk : Cert.Pre_finite_qk.Facts] (m : (ℓ : Loc Cert.MhaRefIdeal.nD Cert.MhaRefIdeal.τ Cert.MhaRefIdeal.sig) → Buf (Elt Ideal) ℓ) : Prop :=
  ∀ c : Dev Cert.MhaRefIdeal.nD,
    (Cert.Pre_finite_qk.fn (F := Ideal) (m ((c.tc : Thread Cert.MhaRefIdeal.nD Cert.MhaRefIdeal.τ).loc Cert.MhaRefIdeal.main_arg0)) (m ((c.tc : Thread Cert.MhaRefIdeal.nD Cert.MhaRefIdeal.τ).loc Cert.MhaRefIdeal.main_arg1)) (m ((c.tc : Thread Cert.MhaRefIdeal.nD Cert.MhaRefIdeal.τ).loc Cert.MhaRefIdeal.main_arg2)) (m ((c.tc : Thread Cert.MhaRefIdeal.nD Cert.MhaRefIdeal.τ).loc Cert.MhaRefIdeal.main_arg3)) (m ((c.tc : Thread Cert.MhaRefIdeal.nD Cert.MhaRefIdeal.τ).loc Cert.MhaRefIdeal.main_arg4))) = (fun _ => 1#1)

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def Pre_Pre0 (m : (ℓ : Loc Cert.Pre0.nD Cert.Pre0.τ Cert.Pre0.sig) → Buf (Elt Bits) ℓ) : Prop :=
  True

def Pre_Pre0Ideal (m : (ℓ : Loc Cert.Pre0Ideal.nD Cert.Pre0Ideal.τ Cert.Pre0Ideal.sig) → Buf (Elt Ideal) ℓ) : Prop :=
  True

def Pre_Pre0RefIdeal (m : (ℓ : Loc Cert.Pre0RefIdeal.nD Cert.Pre0RefIdeal.τ Cert.Pre0RefIdeal.sig) → Buf (Elt Ideal) ℓ) : Prop :=
  True

def Pre_Pre1 (m : (ℓ : Loc Cert.Pre1.nD Cert.Pre1.τ Cert.Pre1.sig) → Buf (Elt Bits) ℓ) : Prop :=
  True

def Pre_Pre1Ideal (m : (ℓ : Loc Cert.Pre1Ideal.nD Cert.Pre1Ideal.τ Cert.Pre1Ideal.sig) → Buf (Elt Ideal) ℓ) : Prop :=
  True

def Pre_Pre1RefIdeal (m : (ℓ : Loc Cert.Pre1RefIdeal.nD Cert.Pre1RefIdeal.τ Cert.Pre1RefIdeal.sig) → Buf (Elt Ideal) ℓ) : Prop :=
  True

def Pre_Pre2 (m : (ℓ : Loc Cert.Pre2.nD Cert.Pre2.τ Cert.Pre2.sig) → Buf (Elt Bits) ℓ) : Prop :=
  True

def Pre_Pre2Ideal (m : (ℓ : Loc Cert.Pre2Ideal.nD Cert.Pre2Ideal.τ Cert.Pre2Ideal.sig) → Buf (Elt Ideal) ℓ) : Prop :=
  True

def Pre_Pre2RefIdeal (m : (ℓ : Loc Cert.Pre2RefIdeal.nD Cert.Pre2RefIdeal.τ Cert.Pre2RefIdeal.sig) → Buf (Elt Ideal) ℓ) : Prop :=
  True

def Pre_Flash0 (m : (ℓ : Loc Cert.Flash0.nD Cert.Flash0.τ Cert.Flash0.sig) → Buf (Elt Bits) ℓ) : Prop :=
  True

def Pre_Flash0Ideal (m : (ℓ : Loc Cert.Flash0Ideal.nD Cert.Flash0Ideal.τ Cert.Flash0Ideal.sig) → Buf (Elt Ideal) ℓ) : Prop :=
  True

def Pre_Flash0Ideal_first_ok [hPre_first_ok : Cert.Pre_first_ok.Facts] (m : (ℓ : Loc Cert.Flash0Ideal.nD Cert.Flash0Ideal.τ Cert.Flash0Ideal.sig) → Buf (Elt Ideal) ℓ) : Prop :=
  ∀ c : Dev Cert.Flash0Ideal.nD,
    (Cert.Pre_first_ok.fn (F := Ideal) (m ((c.tc : Thread Cert.Flash0Ideal.nD Cert.Flash0Ideal.τ).loc Cert.Flash0Ideal.main_arg0)) (m ((c.tc : Thread Cert.Flash0Ideal.nD Cert.Flash0Ideal.τ).loc Cert.Flash0Ideal.main_arg1)) (m ((c.tc : Thread Cert.Flash0Ideal.nD Cert.Flash0Ideal.τ).loc Cert.Flash0Ideal.main_arg2)) (m ((c.tc : Thread Cert.Flash0Ideal.nD Cert.Flash0Ideal.τ).loc Cert.Flash0Ideal.main_arg3)) (m ((c.tc : Thread Cert.Flash0Ideal.nD Cert.Flash0Ideal.τ).loc Cert.Flash0Ideal.main_arg4)) (m ((c.tc : Thread Cert.Flash0Ideal.nD Cert.Flash0Ideal.τ).loc Cert.Flash0Ideal.main_arg5)) (m ((c.tc : Thread Cert.Flash0Ideal.nD Cert.Flash0Ideal.τ).loc Cert.Flash0Ideal.main_arg6))) = (fun _ => 1#1)

def Pre_Flash0RefIdeal (m : (ℓ : Loc Cert.Flash0RefIdeal.nD Cert.Flash0RefIdeal.τ Cert.Flash0RefIdeal.sig) → Buf (Elt Ideal) ℓ) : Prop :=
  True

def Pre_Flash0RefIdeal_first_ok [hPre_first_ok : Cert.Pre_first_ok.Facts] (m : (ℓ : Loc Cert.Flash0RefIdeal.nD Cert.Flash0RefIdeal.τ Cert.Flash0RefIdeal.sig) → Buf (Elt Ideal) ℓ) : Prop :=
  ∀ c : Dev Cert.Flash0RefIdeal.nD,
    (Cert.Pre_first_ok.fn (F := Ideal) (m ((c.tc : Thread Cert.Flash0RefIdeal.nD Cert.Flash0RefIdeal.τ).loc Cert.Flash0RefIdeal.main_arg0)) (m ((c.tc : Thread Cert.Flash0RefIdeal.nD Cert.Flash0RefIdeal.τ).loc Cert.Flash0RefIdeal.main_arg1)) (m ((c.tc : Thread Cert.Flash0RefIdeal.nD Cert.Flash0RefIdeal.τ).loc Cert.Flash0RefIdeal.main_arg2)) (m ((c.tc : Thread Cert.Flash0RefIdeal.nD Cert.Flash0RefIdeal.τ).loc Cert.Flash0RefIdeal.main_arg3)) (m ((c.tc : Thread Cert.Flash0RefIdeal.nD Cert.Flash0RefIdeal.τ).loc Cert.Flash0RefIdeal.main_arg4)) (m ((c.tc : Thread Cert.Flash0RefIdeal.nD Cert.Flash0RefIdeal.τ).loc Cert.Flash0RefIdeal.main_arg5)) (m ((c.tc : Thread Cert.Flash0RefIdeal.nD Cert.Flash0RefIdeal.τ).loc Cert.Flash0RefIdeal.main_arg6))) = (fun _ => 1#1)

def Pre_Flash1 (m : (ℓ : Loc Cert.Flash1.nD Cert.Flash1.τ Cert.Flash1.sig) → Buf (Elt Bits) ℓ) : Prop :=
  True

def Pre_Flash1Ideal (m : (ℓ : Loc Cert.Flash1Ideal.nD Cert.Flash1Ideal.τ Cert.Flash1Ideal.sig) → Buf (Elt Ideal) ℓ) : Prop :=
  True

def Pre_Flash1Ideal_middle_ok [hPre_middle_ok : Cert.Pre_middle_ok.Facts] (m : (ℓ : Loc Cert.Flash1Ideal.nD Cert.Flash1Ideal.τ Cert.Flash1Ideal.sig) → Buf (Elt Ideal) ℓ) : Prop :=
  ∀ c : Dev Cert.Flash1Ideal.nD,
    (Cert.Pre_middle_ok.fn (F := Ideal) (m ((c.tc : Thread Cert.Flash1Ideal.nD Cert.Flash1Ideal.τ).loc Cert.Flash1Ideal.main_arg0)) (m ((c.tc : Thread Cert.Flash1Ideal.nD Cert.Flash1Ideal.τ).loc Cert.Flash1Ideal.main_arg1)) (m ((c.tc : Thread Cert.Flash1Ideal.nD Cert.Flash1Ideal.τ).loc Cert.Flash1Ideal.main_arg2)) (m ((c.tc : Thread Cert.Flash1Ideal.nD Cert.Flash1Ideal.τ).loc Cert.Flash1Ideal.main_arg3)) (m ((c.tc : Thread Cert.Flash1Ideal.nD Cert.Flash1Ideal.τ).loc Cert.Flash1Ideal.main_arg4)) (m ((c.tc : Thread Cert.Flash1Ideal.nD Cert.Flash1Ideal.τ).loc Cert.Flash1Ideal.main_arg5)) (m ((c.tc : Thread Cert.Flash1Ideal.nD Cert.Flash1Ideal.τ).loc Cert.Flash1Ideal.main_arg6)) (m ((c.tc : Thread Cert.Flash1Ideal.nD Cert.Flash1Ideal.τ).loc Cert.Flash1Ideal.main_arg7))) = (fun _ => 1#1)

def Pre_Flash1RefIdeal (m : (ℓ : Loc Cert.Flash1RefIdeal.nD Cert.Flash1RefIdeal.τ Cert.Flash1RefIdeal.sig) → Buf (Elt Ideal) ℓ) : Prop :=
  True

def Pre_Flash1RefIdeal_middle_ok [hPre_middle_ok : Cert.Pre_middle_ok.Facts] (m : (ℓ : Loc Cert.Flash1RefIdeal.nD Cert.Flash1RefIdeal.τ Cert.Flash1RefIdeal.sig) → Buf (Elt Ideal) ℓ) : Prop :=
  ∀ c : Dev Cert.Flash1RefIdeal.nD,
    (Cert.Pre_middle_ok.fn (F := Ideal) (m ((c.tc : Thread Cert.Flash1RefIdeal.nD Cert.Flash1RefIdeal.τ).loc Cert.Flash1RefIdeal.main_arg0)) (m ((c.tc : Thread Cert.Flash1RefIdeal.nD Cert.Flash1RefIdeal.τ).loc Cert.Flash1RefIdeal.main_arg1)) (m ((c.tc : Thread Cert.Flash1RefIdeal.nD Cert.Flash1RefIdeal.τ).loc Cert.Flash1RefIdeal.main_arg2)) (m ((c.tc : Thread Cert.Flash1RefIdeal.nD Cert.Flash1RefIdeal.τ).loc Cert.Flash1RefIdeal.main_arg3)) (m ((c.tc : Thread Cert.Flash1RefIdeal.nD Cert.Flash1RefIdeal.τ).loc Cert.Flash1RefIdeal.main_arg4)) (m ((c.tc : Thread Cert.Flash1RefIdeal.nD Cert.Flash1RefIdeal.τ).loc Cert.Flash1RefIdeal.main_arg5)) (m ((c.tc : Thread Cert.Flash1RefIdeal.nD Cert.Flash1RefIdeal.τ).loc Cert.Flash1RefIdeal.main_arg6)) (m ((c.tc : Thread Cert.Flash1RefIdeal.nD Cert.Flash1RefIdeal.τ).loc Cert.Flash1RefIdeal.main_arg7))) = (fun _ => 1#1)

def Pre_Flash2 (m : (ℓ : Loc Cert.Flash2.nD Cert.Flash2.τ Cert.Flash2.sig) → Buf (Elt Bits) ℓ) : Prop :=
  True

def Pre_Flash2Ideal (m : (ℓ : Loc Cert.Flash2Ideal.nD Cert.Flash2Ideal.τ Cert.Flash2Ideal.sig) → Buf (Elt Ideal) ℓ) : Prop :=
  True

def Pre_Flash2Ideal_last_ok [hPre_last_ok : Cert.Pre_last_ok.Facts] (m : (ℓ : Loc Cert.Flash2Ideal.nD Cert.Flash2Ideal.τ Cert.Flash2Ideal.sig) → Buf (Elt Ideal) ℓ) : Prop :=
  ∀ c : Dev Cert.Flash2Ideal.nD,
    (Cert.Pre_last_ok.fn (F := Ideal) (m ((c.tc : Thread Cert.Flash2Ideal.nD Cert.Flash2Ideal.τ).loc Cert.Flash2Ideal.main_arg0)) (m ((c.tc : Thread Cert.Flash2Ideal.nD Cert.Flash2Ideal.τ).loc Cert.Flash2Ideal.main_arg1)) (m ((c.tc : Thread Cert.Flash2Ideal.nD Cert.Flash2Ideal.τ).loc Cert.Flash2Ideal.main_arg2)) (m ((c.tc : Thread Cert.Flash2Ideal.nD Cert.Flash2Ideal.τ).loc Cert.Flash2Ideal.main_arg3)) (m ((c.tc : Thread Cert.Flash2Ideal.nD Cert.Flash2Ideal.τ).loc Cert.Flash2Ideal.main_arg4)) (m ((c.tc : Thread Cert.Flash2Ideal.nD Cert.Flash2Ideal.τ).loc Cert.Flash2Ideal.main_arg5)) (m ((c.tc : Thread Cert.Flash2Ideal.nD Cert.Flash2Ideal.τ).loc Cert.Flash2Ideal.main_arg6))) = (fun _ => 1#1)

def Pre_Flash2RefIdeal (m : (ℓ : Loc Cert.Flash2RefIdeal.nD Cert.Flash2RefIdeal.τ Cert.Flash2RefIdeal.sig) → Buf (Elt Ideal) ℓ) : Prop :=
  True

def Pre_Flash2RefIdeal_last_ok [hPre_last_ok : Cert.Pre_last_ok.Facts] (m : (ℓ : Loc Cert.Flash2RefIdeal.nD Cert.Flash2RefIdeal.τ Cert.Flash2RefIdeal.sig) → Buf (Elt Ideal) ℓ) : Prop :=
  ∀ c : Dev Cert.Flash2RefIdeal.nD,
    (Cert.Pre_last_ok.fn (F := Ideal) (m ((c.tc : Thread Cert.Flash2RefIdeal.nD Cert.Flash2RefIdeal.τ).loc Cert.Flash2RefIdeal.main_arg0)) (m ((c.tc : Thread Cert.Flash2RefIdeal.nD Cert.Flash2RefIdeal.τ).loc Cert.Flash2RefIdeal.main_arg1)) (m ((c.tc : Thread Cert.Flash2RefIdeal.nD Cert.Flash2RefIdeal.τ).loc Cert.Flash2RefIdeal.main_arg2)) (m ((c.tc : Thread Cert.Flash2RefIdeal.nD Cert.Flash2RefIdeal.τ).loc Cert.Flash2RefIdeal.main_arg3)) (m ((c.tc : Thread Cert.Flash2RefIdeal.nD Cert.Flash2RefIdeal.τ).loc Cert.Flash2RefIdeal.main_arg4)) (m ((c.tc : Thread Cert.Flash2RefIdeal.nD Cert.Flash2RefIdeal.τ).loc Cert.Flash2RefIdeal.main_arg5)) (m ((c.tc : Thread Cert.Flash2RefIdeal.nD Cert.Flash2RefIdeal.τ).loc Cert.Flash2RefIdeal.main_arg6))) = (fun _ => 1#1)

def quiescent_Mha [hMha : Cert.Mha.Facts] : Prop :=
  ∀ (m : (ℓ : Loc Cert.Mha.nD Cert.Mha.τ Cert.Mha.sig) → Buf (Elt Bits) ℓ) (g : Dev Cert.Mha.nD → PrngReg), Pre_Mha m →
    θ_run (Cert.Mha.defs (F := Bits)) (onTc (τ := Cert.Mha.τ) (Cert.Mha.main (F := Bits))) ⟨m, fun _ => 0, g⟩ (fun r => (∀ c : Dev Cert.Mha.nD,
      r.2.mem ((c.tc : Thread Cert.Mha.nD Cert.Mha.τ).loc Cert.Mha.main_arg0) = m ((c.tc : Thread Cert.Mha.nD Cert.Mha.τ).loc Cert.Mha.main_arg0)
      ∧ r.2.mem ((c.tc : Thread Cert.Mha.nD Cert.Mha.τ).loc Cert.Mha.main_arg1) = m ((c.tc : Thread Cert.Mha.nD Cert.Mha.τ).loc Cert.Mha.main_arg1)
      ∧ r.2.mem ((c.tc : Thread Cert.Mha.nD Cert.Mha.τ).loc Cert.Mha.main_arg2) = m ((c.tc : Thread Cert.Mha.nD Cert.Mha.τ).loc Cert.Mha.main_arg2)
      ∧ r.2.mem ((c.tc : Thread Cert.Mha.nD Cert.Mha.τ).loc Cert.Mha.main_arg3) = m ((c.tc : Thread Cert.Mha.nD Cert.Mha.τ).loc Cert.Mha.main_arg3)
      ∧ r.2.mem ((c.tc : Thread Cert.Mha.nD Cert.Mha.τ).loc Cert.Mha.main_arg4) = m ((c.tc : Thread Cert.Mha.nD Cert.Mha.τ).loc Cert.Mha.main_arg4))
      ∧ r.2.sem = fun _ => 0)

def quiescent_MhaIdeal [hMhaIdeal : Cert.MhaIdeal.Facts] : Prop :=
  ∀ (m : (ℓ : Loc Cert.MhaIdeal.nD Cert.MhaIdeal.τ Cert.MhaIdeal.sig) → Buf (Elt Ideal) ℓ) (g : Dev Cert.MhaIdeal.nD → PrngReg), Pre_MhaIdeal m →
    θ_run (Cert.MhaIdeal.defs (F := Ideal)) (onTc (τ := Cert.MhaIdeal.τ) (Cert.MhaIdeal.main (F := Ideal))) ⟨m, fun _ => 0, g⟩ (fun r => (∀ c : Dev Cert.MhaIdeal.nD,
      r.2.mem ((c.tc : Thread Cert.MhaIdeal.nD Cert.MhaIdeal.τ).loc Cert.MhaIdeal.main_arg0) = m ((c.tc : Thread Cert.MhaIdeal.nD Cert.MhaIdeal.τ).loc Cert.MhaIdeal.main_arg0)
      ∧ r.2.mem ((c.tc : Thread Cert.MhaIdeal.nD Cert.MhaIdeal.τ).loc Cert.MhaIdeal.main_arg1) = m ((c.tc : Thread Cert.MhaIdeal.nD Cert.MhaIdeal.τ).loc Cert.MhaIdeal.main_arg1)
      ∧ r.2.mem ((c.tc : Thread Cert.MhaIdeal.nD Cert.MhaIdeal.τ).loc Cert.MhaIdeal.main_arg2) = m ((c.tc : Thread Cert.MhaIdeal.nD Cert.MhaIdeal.τ).loc Cert.MhaIdeal.main_arg2)
      ∧ r.2.mem ((c.tc : Thread Cert.MhaIdeal.nD Cert.MhaIdeal.τ).loc Cert.MhaIdeal.main_arg3) = m ((c.tc : Thread Cert.MhaIdeal.nD Cert.MhaIdeal.τ).loc Cert.MhaIdeal.main_arg3)
      ∧ r.2.mem ((c.tc : Thread Cert.MhaIdeal.nD Cert.MhaIdeal.τ).loc Cert.MhaIdeal.main_arg4) = m ((c.tc : Thread Cert.MhaIdeal.nD Cert.MhaIdeal.τ).loc Cert.MhaIdeal.main_arg4))
      ∧ r.2.sem = fun _ => 0)

def quiescent_MhaIdeal_pre_finite_qk [hMhaIdeal : Cert.MhaIdeal.Facts] [hPre_finite_qk : Cert.Pre_finite_qk.Facts] : Prop :=
  ∀ (m : (ℓ : Loc Cert.MhaIdeal.nD Cert.MhaIdeal.τ Cert.MhaIdeal.sig) → Buf (Elt Ideal) ℓ) (g : Dev Cert.MhaIdeal.nD → PrngReg), Pre_MhaIdeal_finite_qk m →
    θ_run (Cert.MhaIdeal.defs (F := Ideal)) (onTc (τ := Cert.MhaIdeal.τ) (Cert.MhaIdeal.main (F := Ideal))) ⟨m, fun _ => 0, g⟩ (fun r => (∀ c : Dev Cert.MhaIdeal.nD,
      r.2.mem ((c.tc : Thread Cert.MhaIdeal.nD Cert.MhaIdeal.τ).loc Cert.MhaIdeal.main_arg0) = m ((c.tc : Thread Cert.MhaIdeal.nD Cert.MhaIdeal.τ).loc Cert.MhaIdeal.main_arg0)
      ∧ r.2.mem ((c.tc : Thread Cert.MhaIdeal.nD Cert.MhaIdeal.τ).loc Cert.MhaIdeal.main_arg1) = m ((c.tc : Thread Cert.MhaIdeal.nD Cert.MhaIdeal.τ).loc Cert.MhaIdeal.main_arg1)
      ∧ r.2.mem ((c.tc : Thread Cert.MhaIdeal.nD Cert.MhaIdeal.τ).loc Cert.MhaIdeal.main_arg2) = m ((c.tc : Thread Cert.MhaIdeal.nD Cert.MhaIdeal.τ).loc Cert.MhaIdeal.main_arg2)
      ∧ r.2.mem ((c.tc : Thread Cert.MhaIdeal.nD Cert.MhaIdeal.τ).loc Cert.MhaIdeal.main_arg3) = m ((c.tc : Thread Cert.MhaIdeal.nD Cert.MhaIdeal.τ).loc Cert.MhaIdeal.main_arg3)
      ∧ r.2.mem ((c.tc : Thread Cert.MhaIdeal.nD Cert.MhaIdeal.τ).loc Cert.MhaIdeal.main_arg4) = m ((c.tc : Thread Cert.MhaIdeal.nD Cert.MhaIdeal.τ).loc Cert.MhaIdeal.main_arg4))
      ∧ r.2.sem = fun _ => 0)

def quiescent_MhaRefIdeal [hMhaRefIdeal : Cert.MhaRefIdeal.Facts] : Prop :=
  ∀ (m : (ℓ : Loc Cert.MhaRefIdeal.nD Cert.MhaRefIdeal.τ Cert.MhaRefIdeal.sig) → Buf (Elt Ideal) ℓ) (g : Dev Cert.MhaRefIdeal.nD → PrngReg), Pre_MhaRefIdeal m →
    θ_run (Cert.MhaRefIdeal.defs (F := Ideal)) (onTc (τ := Cert.MhaRefIdeal.τ) (Cert.MhaRefIdeal.main (F := Ideal))) ⟨m, fun _ => 0, g⟩ (fun r => (∀ c : Dev Cert.MhaRefIdeal.nD,
      r.2.mem ((c.tc : Thread Cert.MhaRefIdeal.nD Cert.MhaRefIdeal.τ).loc Cert.MhaRefIdeal.main_arg0) = m ((c.tc : Thread Cert.MhaRefIdeal.nD Cert.MhaRefIdeal.τ).loc Cert.MhaRefIdeal.main_arg0)
      ∧ r.2.mem ((c.tc : Thread Cert.MhaRefIdeal.nD Cert.MhaRefIdeal.τ).loc Cert.MhaRefIdeal.main_arg1) = m ((c.tc : Thread Cert.MhaRefIdeal.nD Cert.MhaRefIdeal.τ).loc Cert.MhaRefIdeal.main_arg1)
      ∧ r.2.mem ((c.tc : Thread Cert.MhaRefIdeal.nD Cert.MhaRefIdeal.τ).loc Cert.MhaRefIdeal.main_arg2) = m ((c.tc : Thread Cert.MhaRefIdeal.nD Cert.MhaRefIdeal.τ).loc Cert.MhaRefIdeal.main_arg2)
      ∧ r.2.mem ((c.tc : Thread Cert.MhaRefIdeal.nD Cert.MhaRefIdeal.τ).loc Cert.MhaRefIdeal.main_arg3) = m ((c.tc : Thread Cert.MhaRefIdeal.nD Cert.MhaRefIdeal.τ).loc Cert.MhaRefIdeal.main_arg3)
      ∧ r.2.mem ((c.tc : Thread Cert.MhaRefIdeal.nD Cert.MhaRefIdeal.τ).loc Cert.MhaRefIdeal.main_arg4) = m ((c.tc : Thread Cert.MhaRefIdeal.nD Cert.MhaRefIdeal.τ).loc Cert.MhaRefIdeal.main_arg4))
      ∧ r.2.sem = fun _ => 0)

def quiescent_MhaRefIdeal_pre_finite_qk [hMhaRefIdeal : Cert.MhaRefIdeal.Facts] [hPre_finite_qk : Cert.Pre_finite_qk.Facts] : Prop :=
  ∀ (m : (ℓ : Loc Cert.MhaRefIdeal.nD Cert.MhaRefIdeal.τ Cert.MhaRefIdeal.sig) → Buf (Elt Ideal) ℓ) (g : Dev Cert.MhaRefIdeal.nD → PrngReg), Pre_MhaRefIdeal_finite_qk m →
    θ_run (Cert.MhaRefIdeal.defs (F := Ideal)) (onTc (τ := Cert.MhaRefIdeal.τ) (Cert.MhaRefIdeal.main (F := Ideal))) ⟨m, fun _ => 0, g⟩ (fun r => (∀ c : Dev Cert.MhaRefIdeal.nD,
      r.2.mem ((c.tc : Thread Cert.MhaRefIdeal.nD Cert.MhaRefIdeal.τ).loc Cert.MhaRefIdeal.main_arg0) = m ((c.tc : Thread Cert.MhaRefIdeal.nD Cert.MhaRefIdeal.τ).loc Cert.MhaRefIdeal.main_arg0)
      ∧ r.2.mem ((c.tc : Thread Cert.MhaRefIdeal.nD Cert.MhaRefIdeal.τ).loc Cert.MhaRefIdeal.main_arg1) = m ((c.tc : Thread Cert.MhaRefIdeal.nD Cert.MhaRefIdeal.τ).loc Cert.MhaRefIdeal.main_arg1)
      ∧ r.2.mem ((c.tc : Thread Cert.MhaRefIdeal.nD Cert.MhaRefIdeal.τ).loc Cert.MhaRefIdeal.main_arg2) = m ((c.tc : Thread Cert.MhaRefIdeal.nD Cert.MhaRefIdeal.τ).loc Cert.MhaRefIdeal.main_arg2)
      ∧ r.2.mem ((c.tc : Thread Cert.MhaRefIdeal.nD Cert.MhaRefIdeal.τ).loc Cert.MhaRefIdeal.main_arg3) = m ((c.tc : Thread Cert.MhaRefIdeal.nD Cert.MhaRefIdeal.τ).loc Cert.MhaRefIdeal.main_arg3)
      ∧ r.2.mem ((c.tc : Thread Cert.MhaRefIdeal.nD Cert.MhaRefIdeal.τ).loc Cert.MhaRefIdeal.main_arg4) = m ((c.tc : Thread Cert.MhaRefIdeal.nD Cert.MhaRefIdeal.τ).loc Cert.MhaRefIdeal.main_arg4))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2)
      ∧ r.2.mem ((c.tc : Thread Cert.Qkv.nD Cert.Qkv.τ).loc Cert.Qkv.main_arg3) = m ((c.tc : Thread Cert.Qkv.nD Cert.Qkv.τ).loc Cert.Qkv.main_arg3)
      ∧ r.2.mem ((c.tc : Thread Cert.Qkv.nD Cert.Qkv.τ).loc Cert.Qkv.main_arg4) = m ((c.tc : Thread Cert.Qkv.nD Cert.Qkv.τ).loc Cert.Qkv.main_arg4)
      ∧ r.2.mem ((c.tc : Thread Cert.Qkv.nD Cert.Qkv.τ).loc Cert.Qkv.main_arg5) = m ((c.tc : Thread Cert.Qkv.nD Cert.Qkv.τ).loc Cert.Qkv.main_arg5)
      ∧ r.2.mem ((c.tc : Thread Cert.Qkv.nD Cert.Qkv.τ).loc Cert.Qkv.main_arg6) = m ((c.tc : Thread Cert.Qkv.nD Cert.Qkv.τ).loc Cert.Qkv.main_arg6))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
      ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
      ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
      ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2)
      ∧ r.2.mem ((c.tc : Thread Cert.QkvRefIdeal.nD Cert.QkvRefIdeal.τ).loc Cert.QkvRefIdeal.main_arg3) = m ((c.tc : Thread Cert.QkvRefIdeal.nD Cert.QkvRefIdeal.τ).loc Cert.QkvRefIdeal.main_arg3)
      ∧ r.2.mem ((c.tc : Thread Cert.QkvRefIdeal.nD Cert.QkvRefIdeal.τ).loc Cert.QkvRefIdeal.main_arg4) = m ((c.tc : Thread Cert.QkvRefIdeal.nD Cert.QkvRefIdeal.τ).loc Cert.QkvRefIdeal.main_arg4)
      ∧ r.2.mem ((c.tc : Thread Cert.QkvRefIdeal.nD Cert.QkvRefIdeal.τ).loc Cert.QkvRefIdeal.main_arg5) = m ((c.tc : Thread Cert.QkvRefIdeal.nD Cert.QkvRefIdeal.τ).loc Cert.QkvRefIdeal.main_arg5)
      ∧ r.2.mem ((c.tc : Thread Cert.QkvRefIdeal.nD Cert.QkvRefIdeal.τ).loc Cert.QkvRefIdeal.main_arg6) = m ((c.tc : Thread Cert.QkvRefIdeal.nD Cert.QkvRefIdeal.τ).loc Cert.QkvRefIdeal.main_arg6))
      ∧ r.2.sem = fun _ => 0)

def quiescent_Pre0 [hPre0 : Cert.Pre0.Facts] : Prop :=
  ∀ (m : (ℓ : Loc Cert.Pre0.nD Cert.Pre0.τ Cert.Pre0.sig) → Buf (Elt Bits) ℓ) (g : Dev Cert.Pre0.nD → PrngReg), Pre_Pre0 m →
    θ_run (Cert.Pre0.defs (F := Bits)) (onTc (τ := Cert.Pre0.τ) (Cert.Pre0.main (F := Bits))) ⟨m, fun _ => 0, g⟩ (fun r => (∀ c : Dev Cert.Pre0.nD,
      r.2.mem ((c.tc : Thread Cert.Pre0.nD Cert.Pre0.τ).loc Cert.Pre0.main_arg0) = m ((c.tc : Thread Cert.Pre0.nD Cert.Pre0.τ).loc Cert.Pre0.main_arg0)
      ∧ r.2.mem ((c.tc : Thread Cert.Pre0.nD Cert.Pre0.τ).loc Cert.Pre0.main_arg1) = m ((c.tc : Thread Cert.Pre0.nD Cert.Pre0.τ).loc Cert.Pre0.main_arg1)
      ∧ r.2.mem ((c.tc : Thread Cert.Pre0.nD Cert.Pre0.τ).loc Cert.Pre0.main_arg2) = m ((c.tc : Thread Cert.Pre0.nD Cert.Pre0.τ).loc Cert.Pre0.main_arg2)
      ∧ r.2.mem ((c.tc : Thread Cert.Pre0.nD Cert.Pre0.τ).loc Cert.Pre0.main_arg3) = m ((c.tc : Thread Cert.Pre0.nD Cert.Pre0.τ).loc Cert.Pre0.main_arg3))
      ∧ r.2.sem = fun _ => 0)

def quiescent_Pre0Ideal [hPre0Ideal : Cert.Pre0Ideal.Facts] : Prop :=
  ∀ (m : (ℓ : Loc Cert.Pre0Ideal.nD Cert.Pre0Ideal.τ Cert.Pre0Ideal.sig) → Buf (Elt Ideal) ℓ) (g : Dev Cert.Pre0Ideal.nD → PrngReg), Pre_Pre0Ideal m →
    θ_run (Cert.Pre0Ideal.defs (F := Ideal)) (onTc (τ := Cert.Pre0Ideal.τ) (Cert.Pre0Ideal.main (F := Ideal))) ⟨m, fun _ => 0, g⟩ (fun r => (∀ c : Dev Cert.Pre0Ideal.nD,
      r.2.mem ((c.tc : Thread Cert.Pre0Ideal.nD Cert.Pre0Ideal.τ).loc Cert.Pre0Ideal.main_arg0) = m ((c.tc : Thread Cert.Pre0Ideal.nD Cert.Pre0Ideal.τ).loc Cert.Pre0Ideal.main_arg0)
      ∧ r.2.mem ((c.tc : Thread Cert.Pre0Ideal.nD Cert.Pre0Ideal.τ).loc Cert.Pre0Ideal.main_arg1) = m ((c.tc : Thread Cert.Pre0Ideal.nD Cert.Pre0Ideal.τ).loc Cert.Pre0Ideal.main_arg1)
      ∧ r.2.mem ((c.tc : Thread Cert.Pre0Ideal.nD Cert.Pre0Ideal.τ).loc Cert.Pre0Ideal.main_arg2) = m ((c.tc : Thread Cert.Pre0Ideal.nD Cert.Pre0Ideal.τ).loc Cert.Pre0Ideal.main_arg2)
      ∧ r.2.mem ((c.tc : Thread Cert.Pre0Ideal.nD Cert.Pre0Ideal.τ).loc Cert.Pre0Ideal.main_arg3) = m ((c.tc : Thread Cert.Pre0Ideal.nD Cert.Pre0Ideal.τ).loc Cert.Pre0Ideal.main_arg3))
      ∧ r.2.sem = fun _ => 0)

def quiescent_Pre0RefIdeal [hPre0RefIdeal : Cert.Pre0RefIdeal.Facts] : Prop :=
  ∀ (m : (ℓ : Loc Cert.Pre0RefIdeal.nD Cert.Pre0RefIdeal.τ Cert.Pre0RefIdeal.sig) → Buf (Elt Ideal) ℓ) (g : Dev Cert.Pre0RefIdeal.nD → PrngReg), Pre_Pre0RefIdeal m →
    θ_run (Cert.Pre0RefIdeal.defs (F := Ideal)) (onTc (τ := Cert.Pre0RefIdeal.τ) (Cert.Pre0RefIdeal.main (F := Ideal))) ⟨m, fun _ => 0, g⟩ (fun r => (∀ c : Dev Cert.Pre0RefIdeal.nD,
      r.2.mem ((c.tc : Thread Cert.Pre0RefIdeal.nD Cert.Pre0RefIdeal.τ).loc Cert.Pre0RefIdeal.main_arg0) = m ((c.tc : Thread Cert.Pre0RefIdeal.nD Cert.Pre0RefIdeal.τ).loc Cert.Pre0RefIdeal.main_arg0)
      ∧ r.2.mem ((c.tc : Thread Cert.Pre0RefIdeal.nD Cert.Pre0RefIdeal.τ).loc Cert.Pre0RefIdeal.main_arg1) = m ((c.tc : Thread Cert.Pre0RefIdeal.nD Cert.Pre0RefIdeal.τ).loc Cert.Pre0RefIdeal.main_arg1)
      ∧ r.2.mem ((c.tc : Thread Cert.Pre0RefIdeal.nD Cert.Pre0RefIdeal.τ).loc Cert.Pre0RefIdeal.main_arg2) = m ((c.tc : Thread Cert.Pre0RefIdeal.nD Cert.Pre0RefIdeal.τ).loc Cert.Pre0RefIdeal.main_arg2)
      ∧ r.2.mem ((c.tc : Thread Cert.Pre0RefIdeal.nD Cert.Pre0RefIdeal.τ).loc Cert.Pre0RefIdeal.main_arg3) = m ((c.tc : Thread Cert.Pre0RefIdeal.nD Cert.Pre0RefIdeal.τ).loc Cert.Pre0RefIdeal.main_arg3))
      ∧ r.2.sem = fun _ => 0)

def quiescent_Pre1 [hPre1 : Cert.Pre1.Facts] : Prop :=
  ∀ (m : (ℓ : Loc Cert.Pre1.nD Cert.Pre1.τ Cert.Pre1.sig) → Buf (Elt Bits) ℓ) (g : Dev Cert.Pre1.nD → PrngReg), Pre_Pre1 m →
    θ_run (Cert.Pre1.defs (F := Bits)) (onTc (τ := Cert.Pre1.τ) (Cert.Pre1.main (F := Bits))) ⟨m, fun _ => 0, g⟩ (fun r => (∀ c : Dev Cert.Pre1.nD,
      r.2.mem ((c.tc : Thread Cert.Pre1.nD Cert.Pre1.τ).loc Cert.Pre1.main_arg0) = m ((c.tc : Thread Cert.Pre1.nD Cert.Pre1.τ).loc Cert.Pre1.main_arg0)
      ∧ r.2.mem ((c.tc : Thread Cert.Pre1.nD Cert.Pre1.τ).loc Cert.Pre1.main_arg1) = m ((c.tc : Thread Cert.Pre1.nD Cert.Pre1.τ).loc Cert.Pre1.main_arg1)
      ∧ r.2.mem ((c.tc : Thread Cert.Pre1.nD Cert.Pre1.τ).loc Cert.Pre1.main_arg2) = m ((c.tc : Thread Cert.Pre1.nD Cert.Pre1.τ).loc Cert.Pre1.main_arg2)
      ∧ r.2.mem ((c.tc : Thread Cert.Pre1.nD Cert.Pre1.τ).loc Cert.Pre1.main_arg3) = m ((c.tc : Thread Cert.Pre1.nD Cert.Pre1.τ).loc Cert.Pre1.main_arg3))
      ∧ r.2.sem = fun _ => 0)

def quiescent_Pre1Ideal [hPre1Ideal : Cert.Pre1Ideal.Facts] : Prop :=
  ∀ (m : (ℓ : Loc Cert.Pre1Ideal.nD Cert.Pre1Ideal.τ Cert.Pre1Ideal.sig) → Buf (Elt Ideal) ℓ) (g : Dev Cert.Pre1Ideal.nD → PrngReg), Pre_Pre1Ideal m →
    θ_run (Cert.Pre1Ideal.defs (F := Ideal)) (onTc (τ := Cert.Pre1Ideal.τ) (Cert.Pre1Ideal.main (F := Ideal))) ⟨m, fun _ => 0, g⟩ (fun r => (∀ c : Dev Cert.Pre1Ideal.nD,
      r.2.mem ((c.tc : Thread Cert.Pre1Ideal.nD Cert.Pre1Ideal.τ).loc Cert.Pre1Ideal.main_arg0) = m ((c.tc : Thread Cert.Pre1Ideal.nD Cert.Pre1Ideal.τ).loc Cert.Pre1Ideal.main_arg0)
      ∧ r.2.mem ((c.tc : Thread Cert.Pre1Ideal.nD Cert.Pre1Ideal.τ).loc Cert.Pre1Ideal.main_arg1) = m ((c.tc : Thread Cert.Pre1Ideal.nD Cert.Pre1Ideal.τ).loc Cert.Pre1Ideal.main_arg1)
      ∧ r.2.mem ((c.tc : Thread Cert.Pre1Ideal.nD Cert.Pre1Ideal.τ).loc Cert.Pre1Ideal.main_arg2) = m ((c.tc : Thread Cert.Pre1Ideal.nD Cert.Pre1Ideal.τ).loc Cert.Pre1Ideal.main_arg2)
      ∧ r.2.mem ((c.tc : Thread Cert.Pre1Ideal.nD Cert.Pre1Ideal.τ).loc Cert.Pre1Ideal.main_arg3) = m ((c.tc : Thread Cert.Pre1Ideal.nD Cert.Pre1Ideal.τ).loc Cert.Pre1Ideal.main_arg3))
      ∧ r.2.sem = fun _ => 0)

def quiescent_Pre1RefIdeal [hPre1RefIdeal : Cert.Pre1RefIdeal.Facts] : Prop :=
  ∀ (m : (ℓ : Loc Cert.Pre1RefIdeal.nD Cert.Pre1RefIdeal.τ Cert.Pre1RefIdeal.sig) → Buf (Elt Ideal) ℓ) (g : Dev Cert.Pre1RefIdeal.nD → PrngReg), Pre_Pre1RefIdeal m →
    θ_run (Cert.Pre1RefIdeal.defs (F := Ideal)) (onTc (τ := Cert.Pre1RefIdeal.τ) (Cert.Pre1RefIdeal.main (F := Ideal))) ⟨m, fun _ => 0, g⟩ (fun r => (∀ c : Dev Cert.Pre1RefIdeal.nD,
      r.2.mem ((c.tc : Thread Cert.Pre1RefIdeal.nD Cert.Pre1RefIdeal.τ).loc Cert.Pre1RefIdeal.main_arg0) = m ((c.tc : Thread Cert.Pre1RefIdeal.nD Cert.Pre1RefIdeal.τ).loc Cert.Pre1RefIdeal.main_arg0)
      ∧ r.2.mem ((c.tc : Thread Cert.Pre1RefIdeal.nD Cert.Pre1RefIdeal.τ).loc Cert.Pre1RefIdeal.main_arg1) = m ((c.tc : Thread Cert.Pre1RefIdeal.nD Cert.Pre1RefIdeal.τ).loc Cert.Pre1RefIdeal.main_arg1)
      ∧ r.2.mem ((c.tc : Thread Cert.Pre1RefIdeal.nD Cert.Pre1RefIdeal.τ).loc Cert.Pre1RefIdeal.main_arg2) = m ((c.tc : Thread Cert.Pre1RefIdeal.nD Cert.Pre1RefIdeal.τ).loc Cert.Pre1RefIdeal.main_arg2)
      ∧ r.2.mem ((c.tc : Thread Cert.Pre1RefIdeal.nD Cert.Pre1RefIdeal.τ).loc Cert.Pre1RefIdeal.main_arg3) = m ((c.tc : Thread Cert.Pre1RefIdeal.nD Cert.Pre1RefIdeal.τ).loc Cert.Pre1RefIdeal.main_arg3))
      ∧ r.2.sem = fun _ => 0)

def quiescent_Pre2 [hPre2 : Cert.Pre2.Facts] : Prop :=
  ∀ (m : (ℓ : Loc Cert.Pre2.nD Cert.Pre2.τ Cert.Pre2.sig) → Buf (Elt Bits) ℓ) (g : Dev Cert.Pre2.nD → PrngReg), Pre_Pre2 m →
    θ_run (Cert.Pre2.defs (F := Bits)) (onTc (τ := Cert.Pre2.τ) (Cert.Pre2.main (F := Bits))) ⟨m, fun _ => 0, g⟩ (fun r => (∀ c : Dev Cert.Pre2.nD,
      r.2.mem ((c.tc : Thread Cert.Pre2.nD Cert.Pre2.τ).loc Cert.Pre2.main_arg0) = m ((c.tc : Thread Cert.Pre2.nD Cert.Pre2.τ).loc Cert.Pre2.main_arg0)
      ∧ r.2.mem ((c.tc : Thread Cert.Pre2.nD Cert.Pre2.τ).loc Cert.Pre2.main_arg1) = m ((c.tc : Thread Cert.Pre2.nD Cert.Pre2.τ).loc Cert.Pre2.main_arg1)
      ∧ r.2.mem ((c.tc : Thread Cert.Pre2.nD Cert.Pre2.τ).loc Cert.Pre2.main_arg2) = m ((c.tc : Thread Cert.Pre2.nD Cert.Pre2.τ).loc Cert.Pre2.main_arg2)
      ∧ r.2.mem ((c.tc : Thread Cert.Pre2.nD Cert.Pre2.τ).loc Cert.Pre2.main_arg3) = m ((c.tc : Thread Cert.Pre2.nD Cert.Pre2.τ).loc Cert.Pre2.main_arg3))
      ∧ r.2.sem = fun _ => 0)

def quiescent_Pre2Ideal [hPre2Ideal : Cert.Pre2Ideal.Facts] : Prop :=
  ∀ (m : (ℓ : Loc Cert.Pre2Ideal.nD Cert.Pre2Ideal.τ Cert.Pre2Ideal.sig) → Buf (Elt Ideal) ℓ) (g : Dev Cert.Pre2Ideal.nD → PrngReg), Pre_Pre2Ideal m →
    θ_run (Cert.Pre2Ideal.defs (F := Ideal)) (onTc (τ := Cert.Pre2Ideal.τ) (Cert.Pre2Ideal.main (F := Ideal))) ⟨m, fun _ => 0, g⟩ (fun r => (∀ c : Dev Cert.Pre2Ideal.nD,
      r.2.mem ((c.tc : Thread Cert.Pre2Ideal.nD Cert.Pre2Ideal.τ).loc Cert.Pre2Ideal.main_arg0) = m ((c.tc : Thread Cert.Pre2Ideal.nD Cert.Pre2Ideal.τ).loc Cert.Pre2Ideal.main_arg0)
      ∧ r.2.mem ((c.tc : Thread Cert.Pre2Ideal.nD Cert.Pre2Ideal.τ).loc Cert.Pre2Ideal.main_arg1) = m ((c.tc : Thread Cert.Pre2Ideal.nD Cert.Pre2Ideal.τ).loc Cert.Pre2Ideal.main_arg1)
      ∧ r.2.mem ((c.tc : Thread Cert.Pre2Ideal.nD Cert.Pre2Ideal.τ).loc Cert.Pre2Ideal.main_arg2) = m ((c.tc : Thread Cert.Pre2Ideal.nD Cert.Pre2Ideal.τ).loc Cert.Pre2Ideal.main_arg2)
      ∧ r.2.mem ((c.tc : Thread Cert.Pre2Ideal.nD Cert.Pre2Ideal.τ).loc Cert.Pre2Ideal.main_arg3) = m ((c.tc : Thread Cert.Pre2Ideal.nD Cert.Pre2Ideal.τ).loc Cert.Pre2Ideal.main_arg3))
      ∧ r.2.sem = fun _ => 0)

def quiescent_Pre2RefIdeal [hPre2RefIdeal : Cert.Pre2RefIdeal.Facts] : Prop :=
  ∀ (m : (ℓ : Loc Cert.Pre2RefIdeal.nD Cert.Pre2RefIdeal.τ Cert.Pre2RefIdeal.sig) → Buf (Elt Ideal) ℓ) (g : Dev Cert.Pre2RefIdeal.nD → PrngReg), Pre_Pre2RefIdeal m →
    θ_run (Cert.Pre2RefIdeal.defs (F := Ideal)) (onTc (τ := Cert.Pre2RefIdeal.τ) (Cert.Pre2RefIdeal.main (F := Ideal))) ⟨m, fun _ => 0, g⟩ (fun r => (∀ c : Dev Cert.Pre2RefIdeal.nD,
      r.2.mem ((c.tc : Thread Cert.Pre2RefIdeal.nD Cert.Pre2RefIdeal.τ).loc Cert.Pre2RefIdeal.main_arg0) = m ((c.tc : Thread Cert.Pre2RefIdeal.nD Cert.Pre2RefIdeal.τ).loc Cert.Pre2RefIdeal.main_arg0)
      ∧ r.2.mem ((c.tc : Thread Cert.Pre2RefIdeal.nD Cert.Pre2RefIdeal.τ).loc Cert.Pre2RefIdeal.main_arg1) = m ((c.tc : Thread Cert.Pre2RefIdeal.nD Cert.Pre2RefIdeal.τ).loc Cert.Pre2RefIdeal.main_arg1)
      ∧ r.2.mem ((c.tc : Thread Cert.Pre2RefIdeal.nD Cert.Pre2RefIdeal.τ).loc Cert.Pre2RefIdeal.main_arg2) = m ((c.tc : Thread Cert.Pre2RefIdeal.nD Cert.Pre2RefIdeal.τ).loc Cert.Pre2RefIdeal.main_arg2)
      ∧ r.2.mem ((c.tc : Thread Cert.Pre2RefIdeal.nD Cert.Pre2RefIdeal.τ).loc Cert.Pre2RefIdeal.main_arg3) = m ((c.tc : Thread Cert.Pre2RefIdeal.nD Cert.Pre2RefIdeal.τ).loc Cert.Pre2RefIdeal.main_arg3))
      ∧ r.2.sem = fun _ => 0)

def quiescent_Flash0 [hFlash0 : Cert.Flash0.Facts] : Prop :=
  ∀ (m : (ℓ : Loc Cert.Flash0.nD Cert.Flash0.τ Cert.Flash0.sig) → Buf (Elt Bits) ℓ) (g : Dev Cert.Flash0.nD → PrngReg), Pre_Flash0 m →
    θ_run (Cert.Flash0.defs (F := Bits)) (onTc (τ := Cert.Flash0.τ) (Cert.Flash0.main (F := Bits))) ⟨m, fun _ => 0, g⟩ (fun r => (∀ c : Dev Cert.Flash0.nD,
      r.2.mem ((c.tc : Thread Cert.Flash0.nD Cert.Flash0.τ).loc Cert.Flash0.main_arg0) = m ((c.tc : Thread Cert.Flash0.nD Cert.Flash0.τ).loc Cert.Flash0.main_arg0)
      ∧ r.2.mem ((c.tc : Thread Cert.Flash0.nD Cert.Flash0.τ).loc Cert.Flash0.main_arg1) = m ((c.tc : Thread Cert.Flash0.nD Cert.Flash0.τ).loc Cert.Flash0.main_arg1)
      ∧ r.2.mem ((c.tc : Thread Cert.Flash0.nD Cert.Flash0.τ).loc Cert.Flash0.main_arg2) = m ((c.tc : Thread Cert.Flash0.nD Cert.Flash0.τ).loc Cert.Flash0.main_arg2)
      ∧ r.2.mem ((c.tc : Thread Cert.Flash0.nD Cert.Flash0.τ).loc Cert.Flash0.main_arg3) = m ((c.tc : Thread Cert.Flash0.nD Cert.Flash0.τ).loc Cert.Flash0.main_arg3)
      ∧ r.2.mem ((c.tc : Thread Cert.Flash0.nD Cert.Flash0.τ).loc Cert.Flash0.main_arg4) = m ((c.tc : Thread Cert.Flash0.nD Cert.Flash0.τ).loc Cert.Flash0.main_arg4)
      ∧ r.2.mem ((c.tc : Thread Cert.Flash0.nD Cert.Flash0.τ).loc Cert.Flash0.main_arg5) = m ((c.tc : Thread Cert.Flash0.nD Cert.Flash0.τ).loc Cert.Flash0.main_arg5)
      ∧ r.2.mem ((c.tc : Thread Cert.Flash0.nD Cert.Flash0.τ).loc Cert.Flash0.main_arg6) = m ((c.tc : Thread Cert.Flash0.nD Cert.Flash0.τ).loc Cert.Flash0.main_arg6))
      ∧ r.2.sem = fun _ => 0)

def quiescent_Flash0Ideal [hFlash0Ideal : Cert.Flash0Ideal.Facts] : Prop :=
  ∀ (m : (ℓ : Loc Cert.Flash0Ideal.nD Cert.Flash0Ideal.τ Cert.Flash0Ideal.sig) → Buf (Elt Ideal) ℓ) (g : Dev Cert.Flash0Ideal.nD → PrngReg), Pre_Flash0Ideal m →
    θ_run (Cert.Flash0Ideal.defs (F := Ideal)) (onTc (τ := Cert.Flash0Ideal.τ) (Cert.Flash0Ideal.main (F := Ideal))) ⟨m, fun _ => 0, g⟩ (fun r => (∀ c : Dev Cert.Flash0Ideal.nD,
      r.2.mem ((c.tc : Thread Cert.Flash0Ideal.nD Cert.Flash0Ideal.τ).loc Cert.Flash0Ideal.main_arg0) = m ((c.tc : Thread Cert.Flash0Ideal.nD Cert.Flash0Ideal.τ).loc Cert.Flash0Ideal.main_arg0)
      ∧ r.2.mem ((c.tc : Thread Cert.Flash0Ideal.nD Cert.Flash0Ideal.τ).loc Cert.Flash0Ideal.main_arg1) = m ((c.tc : Thread Cert.Flash0Ideal.nD Cert.Flash0Ideal.τ).loc Cert.Flash0Ideal.main_arg1)
      ∧ r.2.mem ((c.tc : Thread Cert.Flash0Ideal.nD Cert.Flash0Ideal.τ).loc Cert.Flash0Ideal.main_arg2) = m ((c.tc : Thread Cert.Flash0Ideal.nD Cert.Flash0Ideal.τ).loc Cert.Flash0Ideal.main_arg2)
      ∧ r.2.mem ((c.tc : Thread Cert.Flash0Ideal.nD Cert.Flash0Ideal.τ).loc Cert.Flash0Ideal.main_arg3) = m ((c.tc : Thread Cert.Flash0Ideal.nD Cert.Flash0Ideal.τ).loc Cert.Flash0Ideal.main_arg3)
      ∧ r.2.mem ((c.tc : Thread Cert.Flash0Ideal.nD Cert.Flash0Ideal.τ).loc Cert.Flash0Ideal.main_arg4) = m ((c.tc : Thread Cert.Flash0Ideal.nD Cert.Flash0Ideal.τ).loc Cert.Flash0Ideal.main_arg4)
      ∧ r.2.mem ((c.tc : Thread Cert.Flash0Ideal.nD Cert.Flash0Ideal.τ).loc Cert.Flash0Ideal.main_arg5) = m ((c.tc : Thread Cert.Flash0Ideal.nD Cert.Flash0Ideal.τ).loc Cert.Flash0Ideal.main_arg5)
      ∧ r.2.mem ((c.tc : Thread Cert.Flash0Ideal.nD Cert.Flash0Ideal.τ).loc Cert.Flash0Ideal.main_arg6) = m ((c.tc : Thread Cert.Flash0Ideal.nD Cert.Flash0Ideal.τ).loc Cert.Flash0Ideal.main_arg6))
      ∧ r.2.sem = fun _ => 0)

def quiescent_Flash0Ideal_pre_first_ok [hFlash0Ideal : Cert.Flash0Ideal.Facts] [hPre_first_ok : Cert.Pre_first_ok.Facts] : Prop :=
  ∀ (m : (ℓ : Loc Cert.Flash0Ideal.nD Cert.Flash0Ideal.τ Cert.Flash0Ideal.sig) → Buf (Elt Ideal) ℓ) (g : Dev Cert.Flash0Ideal.nD → PrngReg), Pre_Flash0Ideal_first_ok m →
    θ_run (Cert.Flash0Ideal.defs (F := Ideal)) (onTc (τ := Cert.Flash0Ideal.τ) (Cert.Flash0Ideal.main (F := Ideal))) ⟨m, fun _ => 0, g⟩ (fun r => (∀ c : Dev Cert.Flash0Ideal.nD,
      r.2.mem ((c.tc : Thread Cert.Flash0Ideal.nD Cert.Flash0Ideal.τ).loc Cert.Flash0Ideal.main_arg0) = m ((c.tc : Thread Cert.Flash0Ideal.nD Cert.Flash0Ideal.τ).loc Cert.Flash0Ideal.main_arg0)
      ∧ r.2.mem ((c.tc : Thread Cert.Flash0Ideal.nD Cert.Flash0Ideal.τ).loc Cert.Flash0Ideal.main_arg1) = m ((c.tc : Thread Cert.Flash0Ideal.nD Cert.Flash0Ideal.τ).loc Cert.Flash0Ideal.main_arg1)
      ∧ r.2.mem ((c.tc : Thread Cert.Flash0Ideal.nD Cert.Flash0Ideal.τ).loc Cert.Flash0Ideal.main_arg2) = m ((c.tc : Thread Cert.Flash0Ideal.nD Cert.Flash0Ideal.τ).loc Cert.Flash0Ideal.main_arg2)
      ∧ r.2.mem ((c.tc : Thread Cert.Flash0Ideal.nD Cert.Flash0Ideal.τ).loc Cert.Flash0Ideal.main_arg3) = m ((c.tc : Thread Cert.Flash0Ideal.nD Cert.Flash0Ideal.τ).loc Cert.Flash0Ideal.main_arg3)
      ∧ r.2.mem ((c.tc : Thread Cert.Flash0Ideal.nD Cert.Flash0Ideal.τ).loc Cert.Flash0Ideal.main_arg4) = m ((c.tc : Thread Cert.Flash0Ideal.nD Cert.Flash0Ideal.τ).loc Cert.Flash0Ideal.main_arg4)
      ∧ r.2.mem ((c.tc : Thread Cert.Flash0Ideal.nD Cert.Flash0Ideal.τ).loc Cert.Flash0Ideal.main_arg5) = m ((c.tc : Thread Cert.Flash0Ideal.nD Cert.Flash0Ideal.τ).loc Cert.Flash0Ideal.main_arg5)
      ∧ r.2.mem ((c.tc : Thread Cert.Flash0Ideal.nD Cert.Flash0Ideal.τ).loc Cert.Flash0Ideal.main_arg6) = m ((c.tc : Thread Cert.Flash0Ideal.nD Cert.Flash0Ideal.τ).loc Cert.Flash0Ideal.main_arg6))
      ∧ r.2.sem = fun _ => 0)

def quiescent_Flash0RefIdeal [hFlash0RefIdeal : Cert.Flash0RefIdeal.Facts] : Prop :=
  ∀ (m : (ℓ : Loc Cert.Flash0RefIdeal.nD Cert.Flash0RefIdeal.τ Cert.Flash0RefIdeal.sig) → Buf (Elt Ideal) ℓ) (g : Dev Cert.Flash0RefIdeal.nD → PrngReg), Pre_Flash0RefIdeal m →
    θ_run (Cert.Flash0RefIdeal.defs (F := Ideal)) (onTc (τ := Cert.Flash0RefIdeal.τ) (Cert.Flash0RefIdeal.main (F := Ideal))) ⟨m, fun _ => 0, g⟩ (fun r => (∀ c : Dev Cert.Flash0RefIdeal.nD,
      r.2.mem ((c.tc : Thread Cert.Flash0RefIdeal.nD Cert.Flash0RefIdeal.τ).loc Cert.Flash0RefIdeal.main_arg0) = m ((c.tc : Thread Cert.Flash0RefIdeal.nD Cert.Flash0RefIdeal.τ).loc Cert.Flash0RefIdeal.main_arg0)
      ∧ r.2.mem ((c.tc : Thread Cert.Flash0RefIdeal.nD Cert.Flash0RefIdeal.τ).loc Cert.Flash0RefIdeal.main_arg1) = m ((c.tc : Thread Cert.Flash0RefIdeal.nD Cert.Flash0RefIdeal.τ).loc Cert.Flash0RefIdeal.main_arg1)
      ∧ r.2.mem ((c.tc : Thread Cert.Flash0RefIdeal.nD Cert.Flash0RefIdeal.τ).loc Cert.Flash0RefIdeal.main_arg2) = m ((c.tc : Thread Cert.Flash0RefIdeal.nD Cert.Flash0RefIdeal.τ).loc Cert.Flash0RefIdeal.main_arg2)
      ∧ r.2.mem ((c.tc : Thread Cert.Flash0RefIdeal.nD Cert.Flash0RefIdeal.τ).loc Cert.Flash0RefIdeal.main_arg3) = m ((c.tc : Thread Cert.Flash0RefIdeal.nD Cert.Flash0RefIdeal.τ).loc Cert.Flash0RefIdeal.main_arg3)
      ∧ r.2.mem ((c.tc : Thread Cert.Flash0RefIdeal.nD Cert.Flash0RefIdeal.τ).loc Cert.Flash0RefIdeal.main_arg4) = m ((c.tc : Thread Cert.Flash0RefIdeal.nD Cert.Flash0RefIdeal.τ).loc Cert.Flash0RefIdeal.main_arg4)
      ∧ r.2.mem ((c.tc : Thread Cert.Flash0RefIdeal.nD Cert.Flash0RefIdeal.τ).loc Cert.Flash0RefIdeal.main_arg5) = m ((c.tc : Thread Cert.Flash0RefIdeal.nD Cert.Flash0RefIdeal.τ).loc Cert.Flash0RefIdeal.main_arg5)
      ∧ r.2.mem ((c.tc : Thread Cert.Flash0RefIdeal.nD Cert.Flash0RefIdeal.τ).loc Cert.Flash0RefIdeal.main_arg6) = m ((c.tc : Thread Cert.Flash0RefIdeal.nD Cert.Flash0RefIdeal.τ).loc Cert.Flash0RefIdeal.main_arg6))
      ∧ r.2.sem = fun _ => 0)

def quiescent_Flash0RefIdeal_pre_first_ok [hFlash0RefIdeal : Cert.Flash0RefIdeal.Facts] [hPre_first_ok : Cert.Pre_first_ok.Facts] : Prop :=
  ∀ (m : (ℓ : Loc Cert.Flash0RefIdeal.nD Cert.Flash0RefIdeal.τ Cert.Flash0RefIdeal.sig) → Buf (Elt Ideal) ℓ) (g : Dev Cert.Flash0RefIdeal.nD → PrngReg), Pre_Flash0RefIdeal_first_ok m →
    θ_run (Cert.Flash0RefIdeal.defs (F := Ideal)) (onTc (τ := Cert.Flash0RefIdeal.τ) (Cert.Flash0RefIdeal.main (F := Ideal))) ⟨m, fun _ => 0, g⟩ (fun r => (∀ c : Dev Cert.Flash0RefIdeal.nD,
      r.2.mem ((c.tc : Thread Cert.Flash0RefIdeal.nD Cert.Flash0RefIdeal.τ).loc Cert.Flash0RefIdeal.main_arg0) = m ((c.tc : Thread Cert.Flash0RefIdeal.nD Cert.Flash0RefIdeal.τ).loc Cert.Flash0RefIdeal.main_arg0)
      ∧ r.2.mem ((c.tc : Thread Cert.Flash0RefIdeal.nD Cert.Flash0RefIdeal.τ).loc Cert.Flash0RefIdeal.main_arg1) = m ((c.tc : Thread Cert.Flash0RefIdeal.nD Cert.Flash0RefIdeal.τ).loc Cert.Flash0RefIdeal.main_arg1)
      ∧ r.2.mem ((c.tc : Thread Cert.Flash0RefIdeal.nD Cert.Flash0RefIdeal.τ).loc Cert.Flash0RefIdeal.main_arg2) = m ((c.tc : Thread Cert.Flash0RefIdeal.nD Cert.Flash0RefIdeal.τ).loc Cert.Flash0RefIdeal.main_arg2)
      ∧ r.2.mem ((c.tc : Thread Cert.Flash0RefIdeal.nD Cert.Flash0RefIdeal.τ).loc Cert.Flash0RefIdeal.main_arg3) = m ((c.tc : Thread Cert.Flash0RefIdeal.nD Cert.Flash0RefIdeal.τ).loc Cert.Flash0RefIdeal.main_arg3)
      ∧ r.2.mem ((c.tc : Thread Cert.Flash0RefIdeal.nD Cert.Flash0RefIdeal.τ).loc Cert.Flash0RefIdeal.main_arg4) = m ((c.tc : Thread Cert.Flash0RefIdeal.nD Cert.Flash0RefIdeal.τ).loc Cert.Flash0RefIdeal.main_arg4)
      ∧ r.2.mem ((c.tc : Thread Cert.Flash0RefIdeal.nD Cert.Flash0RefIdeal.τ).loc Cert.Flash0RefIdeal.main_arg5) = m ((c.tc : Thread Cert.Flash0RefIdeal.nD Cert.Flash0RefIdeal.τ).loc Cert.Flash0RefIdeal.main_arg5)
      ∧ r.2.mem ((c.tc : Thread Cert.Flash0RefIdeal.nD Cert.Flash0RefIdeal.τ).loc Cert.Flash0RefIdeal.main_arg6) = m ((c.tc : Thread Cert.Flash0RefIdeal.nD Cert.Flash0RefIdeal.τ).loc Cert.Flash0RefIdeal.main_arg6))
      ∧ r.2.sem = fun _ => 0)

def quiescent_Flash1 [hFlash1 : Cert.Flash1.Facts] : Prop :=
  ∀ (m : (ℓ : Loc Cert.Flash1.nD Cert.Flash1.τ Cert.Flash1.sig) → Buf (Elt Bits) ℓ) (g : Dev Cert.Flash1.nD → PrngReg), Pre_Flash1 m →
    θ_run (Cert.Flash1.defs (F := Bits)) (onTc (τ := Cert.Flash1.τ) (Cert.Flash1.main (F := Bits))) ⟨m, fun _ => 0, g⟩ (fun r => (∀ c : Dev Cert.Flash1.nD,
      r.2.mem ((c.tc : Thread Cert.Flash1.nD Cert.Flash1.τ).loc Cert.Flash1.main_arg0) = m ((c.tc : Thread Cert.Flash1.nD Cert.Flash1.τ).loc Cert.Flash1.main_arg0)
      ∧ r.2.mem ((c.tc : Thread Cert.Flash1.nD Cert.Flash1.τ).loc Cert.Flash1.main_arg1) = m ((c.tc : Thread Cert.Flash1.nD Cert.Flash1.τ).loc Cert.Flash1.main_arg1)
      ∧ r.2.mem ((c.tc : Thread Cert.Flash1.nD Cert.Flash1.τ).loc Cert.Flash1.main_arg2) = m ((c.tc : Thread Cert.Flash1.nD Cert.Flash1.τ).loc Cert.Flash1.main_arg2)
      ∧ r.2.mem ((c.tc : Thread Cert.Flash1.nD Cert.Flash1.τ).loc Cert.Flash1.main_arg3) = m ((c.tc : Thread Cert.Flash1.nD Cert.Flash1.τ).loc Cert.Flash1.main_arg3)
      ∧ r.2.mem ((c.tc : Thread Cert.Flash1.nD Cert.Flash1.τ).loc Cert.Flash1.main_arg4) = m ((c.tc : Thread Cert.Flash1.nD Cert.Flash1.τ).loc Cert.Flash1.main_arg4)
      ∧ r.2.mem ((c.tc : Thread Cert.Flash1.nD Cert.Flash1.τ).loc Cert.Flash1.main_arg5) = m ((c.tc : Thread Cert.Flash1.nD Cert.Flash1.τ).loc Cert.Flash1.main_arg5)
      ∧ r.2.mem ((c.tc : Thread Cert.Flash1.nD Cert.Flash1.τ).loc Cert.Flash1.main_arg6) = m ((c.tc : Thread Cert.Flash1.nD Cert.Flash1.τ).loc Cert.Flash1.main_arg6)
      ∧ r.2.mem ((c.tc : Thread Cert.Flash1.nD Cert.Flash1.τ).loc Cert.Flash1.main_arg7) = m ((c.tc : Thread Cert.Flash1.nD Cert.Flash1.τ).loc Cert.Flash1.main_arg7))
      ∧ r.2.sem = fun _ => 0)

def quiescent_Flash1Ideal [hFlash1Ideal : Cert.Flash1Ideal.Facts] : Prop :=
  ∀ (m : (ℓ : Loc Cert.Flash1Ideal.nD Cert.Flash1Ideal.τ Cert.Flash1Ideal.sig) → Buf (Elt Ideal) ℓ) (g : Dev Cert.Flash1Ideal.nD → PrngReg), Pre_Flash1Ideal m →
    θ_run (Cert.Flash1Ideal.defs (F := Ideal)) (onTc (τ := Cert.Flash1Ideal.τ) (Cert.Flash1Ideal.main (F := Ideal))) ⟨m, fun _ => 0, g⟩ (fun r => (∀ c : Dev Cert.Flash1Ideal.nD,
      r.2.mem ((c.tc : Thread Cert.Flash1Ideal.nD Cert.Flash1Ideal.τ).loc Cert.Flash1Ideal.main_arg0) = m ((c.tc : Thread Cert.Flash1Ideal.nD Cert.Flash1Ideal.τ).loc Cert.Flash1Ideal.main_arg0)
      ∧ r.2.mem ((c.tc : Thread Cert.Flash1Ideal.nD Cert.Flash1Ideal.τ).loc Cert.Flash1Ideal.main_arg1) = m ((c.tc : Thread Cert.Flash1Ideal.nD Cert.Flash1Ideal.τ).loc Cert.Flash1Ideal.main_arg1)
      ∧ r.2.mem ((c.tc : Thread Cert.Flash1Ideal.nD Cert.Flash1Ideal.τ).loc Cert.Flash1Ideal.main_arg2) = m ((c.tc : Thread Cert.Flash1Ideal.nD Cert.Flash1Ideal.τ).loc Cert.Flash1Ideal.main_arg2)
      ∧ r.2.mem ((c.tc : Thread Cert.Flash1Ideal.nD Cert.Flash1Ideal.τ).loc Cert.Flash1Ideal.main_arg3) = m ((c.tc : Thread Cert.Flash1Ideal.nD Cert.Flash1Ideal.τ).loc Cert.Flash1Ideal.main_arg3)
      ∧ r.2.mem ((c.tc : Thread Cert.Flash1Ideal.nD Cert.Flash1Ideal.τ).loc Cert.Flash1Ideal.main_arg4) = m ((c.tc : Thread Cert.Flash1Ideal.nD Cert.Flash1Ideal.τ).loc Cert.Flash1Ideal.main_arg4)
      ∧ r.2.mem ((c.tc : Thread Cert.Flash1Ideal.nD Cert.Flash1Ideal.τ).loc Cert.Flash1Ideal.main_arg5) = m ((c.tc : Thread Cert.Flash1Ideal.nD Cert.Flash1Ideal.τ).loc Cert.Flash1Ideal.main_arg5)
      ∧ r.2.mem ((c.tc : Thread Cert.Flash1Ideal.nD Cert.Flash1Ideal.τ).loc Cert.Flash1Ideal.main_arg6) = m ((c.tc : Thread Cert.Flash1Ideal.nD Cert.Flash1Ideal.τ).loc Cert.Flash1Ideal.main_arg6)
      ∧ r.2.mem ((c.tc : Thread Cert.Flash1Ideal.nD Cert.Flash1Ideal.τ).loc Cert.Flash1Ideal.main_arg7) = m ((c.tc : Thread Cert.Flash1Ideal.nD Cert.Flash1Ideal.τ).loc Cert.Flash1Ideal.main_arg7))
      ∧ r.2.sem = fun _ => 0)

def quiescent_Flash1Ideal_pre_middle_ok [hFlash1Ideal : Cert.Flash1Ideal.Facts] [hPre_middle_ok : Cert.Pre_middle_ok.Facts] : Prop :=
  ∀ (m : (ℓ : Loc Cert.Flash1Ideal.nD Cert.Flash1Ideal.τ Cert.Flash1Ideal.sig) → Buf (Elt Ideal) ℓ) (g : Dev Cert.Flash1Ideal.nD → PrngReg), Pre_Flash1Ideal_middle_ok m →
    θ_run (Cert.Flash1Ideal.defs (F := Ideal)) (onTc (τ := Cert.Flash1Ideal.τ) (Cert.Flash1Ideal.main (F := Ideal))) ⟨m, fun _ => 0, g⟩ (fun r => (∀ c : Dev Cert.Flash1Ideal.nD,
      r.2.mem ((c.tc : Thread Cert.Flash1Ideal.nD Cert.Flash1Ideal.τ).loc Cert.Flash1Ideal.main_arg0) = m ((c.tc : Thread Cert.Flash1Ideal.nD Cert.Flash1Ideal.τ).loc Cert.Flash1Ideal.main_arg0)
      ∧ r.2.mem ((c.tc : Thread Cert.Flash1Ideal.nD Cert.Flash1Ideal.τ).loc Cert.Flash1Ideal.main_arg1) = m ((c.tc : Thread Cert.Flash1Ideal.nD Cert.Flash1Ideal.τ).loc Cert.Flash1Ideal.main_arg1)
      ∧ r.2.mem ((c.tc : Thread Cert.Flash1Ideal.nD Cert.Flash1Ideal.τ).loc Cert.Flash1Ideal.main_arg2) = m ((c.tc : Thread Cert.Flash1Ideal.nD Cert.Flash1Ideal.τ).loc Cert.Flash1Ideal.main_arg2)
      ∧ r.2.mem ((c.tc : Thread Cert.Flash1Ideal.nD Cert.Flash1Ideal.τ).loc Cert.Flash1Ideal.main_arg3) = m ((c.tc : Thread Cert.Flash1Ideal.nD Cert.Flash1Ideal.τ).loc Cert.Flash1Ideal.main_arg3)
      ∧ r.2.mem ((c.tc : Thread Cert.Flash1Ideal.nD Cert.Flash1Ideal.τ).loc Cert.Flash1Ideal.main_arg4) = m ((c.tc : Thread Cert.Flash1Ideal.nD Cert.Flash1Ideal.τ).loc Cert.Flash1Ideal.main_arg4)
      ∧ r.2.mem ((c.tc : Thread Cert.Flash1Ideal.nD Cert.Flash1Ideal.τ).loc Cert.Flash1Ideal.main_arg5) = m ((c.tc : Thread Cert.Flash1Ideal.nD Cert.Flash1Ideal.τ).loc Cert.Flash1Ideal.main_arg5)
      ∧ r.2.mem ((c.tc : Thread Cert.Flash1Ideal.nD Cert.Flash1Ideal.τ).loc Cert.Flash1Ideal.main_arg6) = m ((c.tc : Thread Cert.Flash1Ideal.nD Cert.Flash1Ideal.τ).loc Cert.Flash1Ideal.main_arg6)
      ∧ r.2.mem ((c.tc : Thread Cert.Flash1Ideal.nD Cert.Flash1Ideal.τ).loc Cert.Flash1Ideal.main_arg7) = m ((c.tc : Thread Cert.Flash1Ideal.nD Cert.Flash1Ideal.τ).loc Cert.Flash1Ideal.main_arg7))
      ∧ r.2.sem = fun _ => 0)

def quiescent_Flash1RefIdeal [hFlash1RefIdeal : Cert.Flash1RefIdeal.Facts] : Prop :=
  ∀ (m : (ℓ : Loc Cert.Flash1RefIdeal.nD Cert.Flash1RefIdeal.τ Cert.Flash1RefIdeal.sig) → Buf (Elt Ideal) ℓ) (g : Dev Cert.Flash1RefIdeal.nD → PrngReg), Pre_Flash1RefIdeal m →
    θ_run (Cert.Flash1RefIdeal.defs (F := Ideal)) (onTc (τ := Cert.Flash1RefIdeal.τ) (Cert.Flash1RefIdeal.main (F := Ideal))) ⟨m, fun _ => 0, g⟩ (fun r => (∀ c : Dev Cert.Flash1RefIdeal.nD,
      r.2.mem ((c.tc : Thread Cert.Flash1RefIdeal.nD Cert.Flash1RefIdeal.τ).loc Cert.Flash1RefIdeal.main_arg0) = m ((c.tc : Thread Cert.Flash1RefIdeal.nD Cert.Flash1RefIdeal.τ).loc Cert.Flash1RefIdeal.main_arg0)
      ∧ r.2.mem ((c.tc : Thread Cert.Flash1RefIdeal.nD Cert.Flash1RefIdeal.τ).loc Cert.Flash1RefIdeal.main_arg1) = m ((c.tc : Thread Cert.Flash1RefIdeal.nD Cert.Flash1RefIdeal.τ).loc Cert.Flash1RefIdeal.main_arg1)
      ∧ r.2.mem ((c.tc : Thread Cert.Flash1RefIdeal.nD Cert.Flash1RefIdeal.τ).loc Cert.Flash1RefIdeal.main_arg2) = m ((c.tc : Thread Cert.Flash1RefIdeal.nD Cert.Flash1RefIdeal.τ).loc Cert.Flash1RefIdeal.main_arg2)
      ∧ r.2.mem ((c.tc : Thread Cert.Flash1RefIdeal.nD Cert.Flash1RefIdeal.τ).loc Cert.Flash1RefIdeal.main_arg3) = m ((c.tc : Thread Cert.Flash1RefIdeal.nD Cert.Flash1RefIdeal.τ).loc Cert.Flash1RefIdeal.main_arg3)
      ∧ r.2.mem ((c.tc : Thread Cert.Flash1RefIdeal.nD Cert.Flash1RefIdeal.τ).loc Cert.Flash1RefIdeal.main_arg4) = m ((c.tc : Thread Cert.Flash1RefIdeal.nD Cert.Flash1RefIdeal.τ).loc Cert.Flash1RefIdeal.main_arg4)
      ∧ r.2.mem ((c.tc : Thread Cert.Flash1RefIdeal.nD Cert.Flash1RefIdeal.τ).loc Cert.Flash1RefIdeal.main_arg5) = m ((c.tc : Thread Cert.Flash1RefIdeal.nD Cert.Flash1RefIdeal.τ).loc Cert.Flash1RefIdeal.main_arg5)
      ∧ r.2.mem ((c.tc : Thread Cert.Flash1RefIdeal.nD Cert.Flash1RefIdeal.τ).loc Cert.Flash1RefIdeal.main_arg6) = m ((c.tc : Thread Cert.Flash1RefIdeal.nD Cert.Flash1RefIdeal.τ).loc Cert.Flash1RefIdeal.main_arg6)
      ∧ r.2.mem ((c.tc : Thread Cert.Flash1RefIdeal.nD Cert.Flash1RefIdeal.τ).loc Cert.Flash1RefIdeal.main_arg7) = m ((c.tc : Thread Cert.Flash1RefIdeal.nD Cert.Flash1RefIdeal.τ).loc Cert.Flash1RefIdeal.main_arg7))
      ∧ r.2.sem = fun _ => 0)

def quiescent_Flash1RefIdeal_pre_middle_ok [hFlash1RefIdeal : Cert.Flash1RefIdeal.Facts] [hPre_middle_ok : Cert.Pre_middle_ok.Facts] : Prop :=
  ∀ (m : (ℓ : Loc Cert.Flash1RefIdeal.nD Cert.Flash1RefIdeal.τ Cert.Flash1RefIdeal.sig) → Buf (Elt Ideal) ℓ) (g : Dev Cert.Flash1RefIdeal.nD → PrngReg), Pre_Flash1RefIdeal_middle_ok m →
    θ_run (Cert.Flash1RefIdeal.defs (F := Ideal)) (onTc (τ := Cert.Flash1RefIdeal.τ) (Cert.Flash1RefIdeal.main (F := Ideal))) ⟨m, fun _ => 0, g⟩ (fun r => (∀ c : Dev Cert.Flash1RefIdeal.nD,
      r.2.mem ((c.tc : Thread Cert.Flash1RefIdeal.nD Cert.Flash1RefIdeal.τ).loc Cert.Flash1RefIdeal.main_arg0) = m ((c.tc : Thread Cert.Flash1RefIdeal.nD Cert.Flash1RefIdeal.τ).loc Cert.Flash1RefIdeal.main_arg0)
      ∧ r.2.mem ((c.tc : Thread Cert.Flash1RefIdeal.nD Cert.Flash1RefIdeal.τ).loc Cert.Flash1RefIdeal.main_arg1) = m ((c.tc : Thread Cert.Flash1RefIdeal.nD Cert.Flash1RefIdeal.τ).loc Cert.Flash1RefIdeal.main_arg1)
      ∧ r.2.mem ((c.tc : Thread Cert.Flash1RefIdeal.nD Cert.Flash1RefIdeal.τ).loc Cert.Flash1RefIdeal.main_arg2) = m ((c.tc : Thread Cert.Flash1RefIdeal.nD Cert.Flash1RefIdeal.τ).loc Cert.Flash1RefIdeal.main_arg2)
      ∧ r.2.mem ((c.tc : Thread Cert.Flash1RefIdeal.nD Cert.Flash1RefIdeal.τ).loc Cert.Flash1RefIdeal.main_arg3) = m ((c.tc : Thread Cert.Flash1RefIdeal.nD Cert.Flash1RefIdeal.τ).loc Cert.Flash1RefIdeal.main_arg3)
      ∧ r.2.mem ((c.tc : Thread Cert.Flash1RefIdeal.nD Cert.Flash1RefIdeal.τ).loc Cert.Flash1RefIdeal.main_arg4) = m ((c.tc : Thread Cert.Flash1RefIdeal.nD Cert.Flash1RefIdeal.τ).loc Cert.Flash1RefIdeal.main_arg4)
      ∧ r.2.mem ((c.tc : Thread Cert.Flash1RefIdeal.nD Cert.Flash1RefIdeal.τ).loc Cert.Flash1RefIdeal.main_arg5) = m ((c.tc : Thread Cert.Flash1RefIdeal.nD Cert.Flash1RefIdeal.τ).loc Cert.Flash1RefIdeal.main_arg5)
      ∧ r.2.mem ((c.tc : Thread Cert.Flash1RefIdeal.nD Cert.Flash1RefIdeal.τ).loc Cert.Flash1RefIdeal.main_arg6) = m ((c.tc : Thread Cert.Flash1RefIdeal.nD Cert.Flash1RefIdeal.τ).loc Cert.Flash1RefIdeal.main_arg6)
      ∧ r.2.mem ((c.tc : Thread Cert.Flash1RefIdeal.nD Cert.Flash1RefIdeal.τ).loc Cert.Flash1RefIdeal.main_arg7) = m ((c.tc : Thread Cert.Flash1RefIdeal.nD Cert.Flash1RefIdeal.τ).loc Cert.Flash1RefIdeal.main_arg7))
      ∧ r.2.sem = fun _ => 0)

def quiescent_Flash2 [hFlash2 : Cert.Flash2.Facts] : Prop :=
  ∀ (m : (ℓ : Loc Cert.Flash2.nD Cert.Flash2.τ Cert.Flash2.sig) → Buf (Elt Bits) ℓ) (g : Dev Cert.Flash2.nD → PrngReg), Pre_Flash2 m →
    θ_run (Cert.Flash2.defs (F := Bits)) (onTc (τ := Cert.Flash2.τ) (Cert.Flash2.main (F := Bits))) ⟨m, fun _ => 0, g⟩ (fun r => (∀ c : Dev Cert.Flash2.nD,
      r.2.mem ((c.tc : Thread Cert.Flash2.nD Cert.Flash2.τ).loc Cert.Flash2.main_arg0) = m ((c.tc : Thread Cert.Flash2.nD Cert.Flash2.τ).loc Cert.Flash2.main_arg0)
      ∧ r.2.mem ((c.tc : Thread Cert.Flash2.nD Cert.Flash2.τ).loc Cert.Flash2.main_arg1) = m ((c.tc : Thread Cert.Flash2.nD Cert.Flash2.τ).loc Cert.Flash2.main_arg1)
      ∧ r.2.mem ((c.tc : Thread Cert.Flash2.nD Cert.Flash2.τ).loc Cert.Flash2.main_arg2) = m ((c.tc : Thread Cert.Flash2.nD Cert.Flash2.τ).loc Cert.Flash2.main_arg2)
      ∧ r.2.mem ((c.tc : Thread Cert.Flash2.nD Cert.Flash2.τ).loc Cert.Flash2.main_arg3) = m ((c.tc : Thread Cert.Flash2.nD Cert.Flash2.τ).loc Cert.Flash2.main_arg3)
      ∧ r.2.mem ((c.tc : Thread Cert.Flash2.nD Cert.Flash2.τ).loc Cert.Flash2.main_arg4) = m ((c.tc : Thread Cert.Flash2.nD Cert.Flash2.τ).loc Cert.Flash2.main_arg4)
      ∧ r.2.mem ((c.tc : Thread Cert.Flash2.nD Cert.Flash2.τ).loc Cert.Flash2.main_arg5) = m ((c.tc : Thread Cert.Flash2.nD Cert.Flash2.τ).loc Cert.Flash2.main_arg5)
      ∧ r.2.mem ((c.tc : Thread Cert.Flash2.nD Cert.Flash2.τ).loc Cert.Flash2.main_arg6) = m ((c.tc : Thread Cert.Flash2.nD Cert.Flash2.τ).loc Cert.Flash2.main_arg6))
      ∧ r.2.sem = fun _ => 0)

def quiescent_Flash2Ideal [hFlash2Ideal : Cert.Flash2Ideal.Facts] : Prop :=
  ∀ (m : (ℓ : Loc Cert.Flash2Ideal.nD Cert.Flash2Ideal.τ Cert.Flash2Ideal.sig) → Buf (Elt Ideal) ℓ) (g : Dev Cert.Flash2Ideal.nD → PrngReg), Pre_Flash2Ideal m →
    θ_run (Cert.Flash2Ideal.defs (F := Ideal)) (onTc (τ := Cert.Flash2Ideal.τ) (Cert.Flash2Ideal.main (F := Ideal))) ⟨m, fun _ => 0, g⟩ (fun r => (∀ c : Dev Cert.Flash2Ideal.nD,
      r.2.mem ((c.tc : Thread Cert.Flash2Ideal.nD Cert.Flash2Ideal.τ).loc Cert.Flash2Ideal.main_arg0) = m ((c.tc : Thread Cert.Flash2Ideal.nD Cert.Flash2Ideal.τ).loc Cert.Flash2Ideal.main_arg0)
      ∧ r.2.mem ((c.tc : Thread Cert.Flash2Ideal.nD Cert.Flash2Ideal.τ).loc Cert.Flash2Ideal.main_arg1) = m ((c.tc : Thread Cert.Flash2Ideal.nD Cert.Flash2Ideal.τ).loc Cert.Flash2Ideal.main_arg1)
      ∧ r.2.mem ((c.tc : Thread Cert.Flash2Ideal.nD Cert.Flash2Ideal.τ).loc Cert.Flash2Ideal.main_arg2) = m ((c.tc : Thread Cert.Flash2Ideal.nD Cert.Flash2Ideal.τ).loc Cert.Flash2Ideal.main_arg2)
      ∧ r.2.mem ((c.tc : Thread Cert.Flash2Ideal.nD Cert.Flash2Ideal.τ).loc Cert.Flash2Ideal.main_arg3) = m ((c.tc : Thread Cert.Flash2Ideal.nD Cert.Flash2Ideal.τ).loc Cert.Flash2Ideal.main_arg3)
      ∧ r.2.mem ((c.tc : Thread Cert.Flash2Ideal.nD Cert.Flash2Ideal.τ).loc Cert.Flash2Ideal.main_arg4) = m ((c.tc : Thread Cert.Flash2Ideal.nD Cert.Flash2Ideal.τ).loc Cert.Flash2Ideal.main_arg4)
      ∧ r.2.mem ((c.tc : Thread Cert.Flash2Ideal.nD Cert.Flash2Ideal.τ).loc Cert.Flash2Ideal.main_arg5) = m ((c.tc : Thread Cert.Flash2Ideal.nD Cert.Flash2Ideal.τ).loc Cert.Flash2Ideal.main_arg5)
      ∧ r.2.mem ((c.tc : Thread Cert.Flash2Ideal.nD Cert.Flash2Ideal.τ).loc Cert.Flash2Ideal.main_arg6) = m ((c.tc : Thread Cert.Flash2Ideal.nD Cert.Flash2Ideal.τ).loc Cert.Flash2Ideal.main_arg6))
      ∧ r.2.sem = fun _ => 0)

def quiescent_Flash2Ideal_pre_last_ok [hFlash2Ideal : Cert.Flash2Ideal.Facts] [hPre_last_ok : Cert.Pre_last_ok.Facts] : Prop :=
  ∀ (m : (ℓ : Loc Cert.Flash2Ideal.nD Cert.Flash2Ideal.τ Cert.Flash2Ideal.sig) → Buf (Elt Ideal) ℓ) (g : Dev Cert.Flash2Ideal.nD → PrngReg), Pre_Flash2Ideal_last_ok m →
    θ_run (Cert.Flash2Ideal.defs (F := Ideal)) (onTc (τ := Cert.Flash2Ideal.τ) (Cert.Flash2Ideal.main (F := Ideal))) ⟨m, fun _ => 0, g⟩ (fun r => (∀ c : Dev Cert.Flash2Ideal.nD,
      r.2.mem ((c.tc : Thread Cert.Flash2Ideal.nD Cert.Flash2Ideal.τ).loc Cert.Flash2Ideal.main_arg0) = m ((c.tc : Thread Cert.Flash2Ideal.nD Cert.Flash2Ideal.τ).loc Cert.Flash2Ideal.main_arg0)
      ∧ r.2.mem ((c.tc : Thread Cert.Flash2Ideal.nD Cert.Flash2Ideal.τ).loc Cert.Flash2Ideal.main_arg1) = m ((c.tc : Thread Cert.Flash2Ideal.nD Cert.Flash2Ideal.τ).loc Cert.Flash2Ideal.main_arg1)
      ∧ r.2.mem ((c.tc : Thread Cert.Flash2Ideal.nD Cert.Flash2Ideal.τ).loc Cert.Flash2Ideal.main_arg2) = m ((c.tc : Thread Cert.Flash2Ideal.nD Cert.Flash2Ideal.τ).loc Cert.Flash2Ideal.main_arg2)
      ∧ r.2.mem ((c.tc : Thread Cert.Flash2Ideal.nD Cert.Flash2Ideal.τ).loc Cert.Flash2Ideal.main_arg3) = m ((c.tc : Thread Cert.Flash2Ideal.nD Cert.Flash2Ideal.τ).loc Cert.Flash2Ideal.main_arg3)
      ∧ r.2.mem ((c.tc : Thread Cert.Flash2Ideal.nD Cert.Flash2Ideal.τ).loc Cert.Flash2Ideal.main_arg4) = m ((c.tc : Thread Cert.Flash2Ideal.nD Cert.Flash2Ideal.τ).loc Cert.Flash2Ideal.main_arg4)
      ∧ r.2.mem ((c.tc : Thread Cert.Flash2Ideal.nD Cert.Flash2Ideal.τ).loc Cert.Flash2Ideal.main_arg5) = m ((c.tc : Thread Cert.Flash2Ideal.nD Cert.Flash2Ideal.τ).loc Cert.Flash2Ideal.main_arg5)
      ∧ r.2.mem ((c.tc : Thread Cert.Flash2Ideal.nD Cert.Flash2Ideal.τ).loc Cert.Flash2Ideal.main_arg6) = m ((c.tc : Thread Cert.Flash2Ideal.nD Cert.Flash2Ideal.τ).loc Cert.Flash2Ideal.main_arg6))
      ∧ r.2.sem = fun _ => 0)

def quiescent_Flash2RefIdeal [hFlash2RefIdeal : Cert.Flash2RefIdeal.Facts] : Prop :=
  ∀ (m : (ℓ : Loc Cert.Flash2RefIdeal.nD Cert.Flash2RefIdeal.τ Cert.Flash2RefIdeal.sig) → Buf (Elt Ideal) ℓ) (g : Dev Cert.Flash2RefIdeal.nD → PrngReg), Pre_Flash2RefIdeal m →
    θ_run (Cert.Flash2RefIdeal.defs (F := Ideal)) (onTc (τ := Cert.Flash2RefIdeal.τ) (Cert.Flash2RefIdeal.main (F := Ideal))) ⟨m, fun _ => 0, g⟩ (fun r => (∀ c : Dev Cert.Flash2RefIdeal.nD,
      r.2.mem ((c.tc : Thread Cert.Flash2RefIdeal.nD Cert.Flash2RefIdeal.τ).loc Cert.Flash2RefIdeal.main_arg0) = m ((c.tc : Thread Cert.Flash2RefIdeal.nD Cert.Flash2RefIdeal.τ).loc Cert.Flash2RefIdeal.main_arg0)
      ∧ r.2.mem ((c.tc : Thread Cert.Flash2RefIdeal.nD Cert.Flash2RefIdeal.τ).loc Cert.Flash2RefIdeal.main_arg1) = m ((c.tc : Thread Cert.Flash2RefIdeal.nD Cert.Flash2RefIdeal.τ).loc Cert.Flash2RefIdeal.main_arg1)
      ∧ r.2.mem ((c.tc : Thread Cert.Flash2RefIdeal.nD Cert.Flash2RefIdeal.τ).loc Cert.Flash2RefIdeal.main_arg2) = m ((c.tc : Thread Cert.Flash2RefIdeal.nD Cert.Flash2RefIdeal.τ).loc Cert.Flash2RefIdeal.main_arg2)
      ∧ r.2.mem ((c.tc : Thread Cert.Flash2RefIdeal.nD Cert.Flash2RefIdeal.τ).loc Cert.Flash2RefIdeal.main_arg3) = m ((c.tc : Thread Cert.Flash2RefIdeal.nD Cert.Flash2RefIdeal.τ).loc Cert.Flash2RefIdeal.main_arg3)
      ∧ r.2.mem ((c.tc : Thread Cert.Flash2RefIdeal.nD Cert.Flash2RefIdeal.τ).loc Cert.Flash2RefIdeal.main_arg4) = m ((c.tc : Thread Cert.Flash2RefIdeal.nD Cert.Flash2RefIdeal.τ).loc Cert.Flash2RefIdeal.main_arg4)
      ∧ r.2.mem ((c.tc : Thread Cert.Flash2RefIdeal.nD Cert.Flash2RefIdeal.τ).loc Cert.Flash2RefIdeal.main_arg5) = m ((c.tc : Thread Cert.Flash2RefIdeal.nD Cert.Flash2RefIdeal.τ).loc Cert.Flash2RefIdeal.main_arg5)
      ∧ r.2.mem ((c.tc : Thread Cert.Flash2RefIdeal.nD Cert.Flash2RefIdeal.τ).loc Cert.Flash2RefIdeal.main_arg6) = m ((c.tc : Thread Cert.Flash2RefIdeal.nD Cert.Flash2RefIdeal.τ).loc Cert.Flash2RefIdeal.main_arg6))
      ∧ r.2.sem = fun _ => 0)

def quiescent_Flash2RefIdeal_pre_last_ok [hFlash2RefIdeal : Cert.Flash2RefIdeal.Facts] [hPre_last_ok : Cert.Pre_last_ok.Facts] : Prop :=
  ∀ (m : (ℓ : Loc Cert.Flash2RefIdeal.nD Cert.Flash2RefIdeal.τ Cert.Flash2RefIdeal.sig) → Buf (Elt Ideal) ℓ) (g : Dev Cert.Flash2RefIdeal.nD → PrngReg), Pre_Flash2RefIdeal_last_ok m →
    θ_run (Cert.Flash2RefIdeal.defs (F := Ideal)) (onTc (τ := Cert.Flash2RefIdeal.τ) (Cert.Flash2RefIdeal.main (F := Ideal))) ⟨m, fun _ => 0, g⟩ (fun r => (∀ c : Dev Cert.Flash2RefIdeal.nD,
      r.2.mem ((c.tc : Thread Cert.Flash2RefIdeal.nD Cert.Flash2RefIdeal.τ).loc Cert.Flash2RefIdeal.main_arg0) = m ((c.tc : Thread Cert.Flash2RefIdeal.nD Cert.Flash2RefIdeal.τ).loc Cert.Flash2RefIdeal.main_arg0)
      ∧ r.2.mem ((c.tc : Thread Cert.Flash2RefIdeal.nD Cert.Flash2RefIdeal.τ).loc Cert.Flash2RefIdeal.main_arg1) = m ((c.tc : Thread Cert.Flash2RefIdeal.nD Cert.Flash2RefIdeal.τ).loc Cert.Flash2RefIdeal.main_arg1)
      ∧ r.2.mem ((c.tc : Thread Cert.Flash2RefIdeal.nD Cert.Flash2RefIdeal.τ).loc Cert.Flash2RefIdeal.main_arg2) = m ((c.tc : Thread Cert.Flash2RefIdeal.nD Cert.Flash2RefIdeal.τ).loc Cert.Flash2RefIdeal.main_arg2)
      ∧ r.2.mem ((c.tc : Thread Cert.Flash2RefIdeal.nD Cert.Flash2RefIdeal.τ).loc Cert.Flash2RefIdeal.main_arg3) = m ((c.tc : Thread Cert.Flash2RefIdeal.nD Cert.Flash2RefIdeal.τ).loc Cert.Flash2RefIdeal.main_arg3)
      ∧ r.2.mem ((c.tc : Thread Cert.Flash2RefIdeal.nD Cert.Flash2RefIdeal.τ).loc Cert.Flash2RefIdeal.main_arg4) = m ((c.tc : Thread Cert.Flash2RefIdeal.nD Cert.Flash2RefIdeal.τ).loc Cert.Flash2RefIdeal.main_arg4)
      ∧ r.2.mem ((c.tc : Thread Cert.Flash2RefIdeal.nD Cert.Flash2RefIdeal.τ).loc Cert.Flash2RefIdeal.main_arg5) = m ((c.tc : Thread Cert.Flash2RefIdeal.nD Cert.Flash2RefIdeal.τ).loc Cert.Flash2RefIdeal.main_arg5)
      ∧ r.2.mem ((c.tc : Thread Cert.Flash2RefIdeal.nD Cert.Flash2RefIdeal.τ).loc Cert.Flash2RefIdeal.main_arg6) = m ((c.tc : Thread Cert.Flash2RefIdeal.nD Cert.Flash2RefIdeal.τ).loc Cert.Flash2RefIdeal.main_arg6))
      ∧ r.2.sem = fun _ => 0)

def preserves_Mha_MhaIdeal : Prop :=
  True

def algebraic_MhaIdeal_MhaRefIdeal_pre_finite_qk [hMhaIdeal : Cert.MhaIdeal.Facts] [hMhaRefIdeal : Cert.MhaRefIdeal.Facts] [hPre_finite_qk : Cert.Pre_finite_qk.Facts] : Prop :=
  ∀ (m : (ℓ : Loc Cert.MhaIdeal.nD Cert.MhaIdeal.τ Cert.MhaIdeal.sig) → Buf (Elt Ideal) ℓ) (g : Dev Cert.MhaIdeal.nD → PrngReg)
    (m' : (ℓ : Loc Cert.MhaRefIdeal.nD Cert.MhaRefIdeal.τ Cert.MhaRefIdeal.sig) → Buf (Elt Ideal) ℓ) (g' : Dev Cert.MhaRefIdeal.nD → PrngReg), Pre_MhaIdeal_finite_qk m →
    (∀ c : Dev Cert.MhaIdeal.nD,
      m' ((c.tc : Thread Cert.MhaRefIdeal.nD Cert.MhaRefIdeal.τ).loc Cert.MhaRefIdeal.main_arg0) = m ((c.tc : Thread Cert.MhaIdeal.nD Cert.MhaIdeal.τ).loc Cert.MhaIdeal.main_arg0)
      ∧ m' ((c.tc : Thread Cert.MhaRefIdeal.nD Cert.MhaRefIdeal.τ).loc Cert.MhaRefIdeal.main_arg1) = m ((c.tc : Thread Cert.MhaIdeal.nD Cert.MhaIdeal.τ).loc Cert.MhaIdeal.main_arg1)
      ∧ m' ((c.tc : Thread Cert.MhaRefIdeal.nD Cert.MhaRefIdeal.τ).loc Cert.MhaRefIdeal.main_arg2) = m ((c.tc : Thread Cert.MhaIdeal.nD Cert.MhaIdeal.τ).loc Cert.MhaIdeal.main_arg2)
      ∧ m' ((c.tc : Thread Cert.MhaRefIdeal.nD Cert.MhaRefIdeal.τ).loc Cert.MhaRefIdeal.main_arg3) = m ((c.tc : Thread Cert.MhaIdeal.nD Cert.MhaIdeal.τ).loc Cert.MhaIdeal.main_arg3)
      ∧ m' ((c.tc : Thread Cert.MhaRefIdeal.nD Cert.MhaRefIdeal.τ).loc Cert.MhaRefIdeal.main_arg4) = m ((c.tc : Thread Cert.MhaIdeal.nD Cert.MhaIdeal.τ).loc Cert.MhaIdeal.main_arg4)) →
    ∃ (v0 : (c : Dev Cert.MhaIdeal.nD) → Buf (Elt Ideal) ((c.tc : Thread Cert.MhaIdeal.nD Cert.MhaIdeal.τ).loc Cert.MhaIdeal.main_v1)),
      θ_run (Cert.MhaIdeal.defs (F := Ideal)) (onTc (τ := Cert.MhaIdeal.τ) (Cert.MhaIdeal.main (F := Ideal))) ⟨m, fun _ => 0, g⟩ (fun r => ∀ c : Dev Cert.MhaIdeal.nD,
          r.2.mem ((c.tc : Thread Cert.MhaIdeal.nD Cert.MhaIdeal.τ).loc Cert.MhaIdeal.main_v1) = v0 c
          ∧ r.2.mem ((c.tc : Thread Cert.MhaIdeal.nD Cert.MhaIdeal.τ).loc Cert.MhaIdeal.main_arg0) = m ((c.tc : Thread Cert.MhaIdeal.nD Cert.MhaIdeal.τ).loc Cert.MhaIdeal.main_arg0)
          ∧ r.2.mem ((c.tc : Thread Cert.MhaIdeal.nD Cert.MhaIdeal.τ).loc Cert.MhaIdeal.main_arg1) = m ((c.tc : Thread Cert.MhaIdeal.nD Cert.MhaIdeal.τ).loc Cert.MhaIdeal.main_arg1)
          ∧ r.2.mem ((c.tc : Thread Cert.MhaIdeal.nD Cert.MhaIdeal.τ).loc Cert.MhaIdeal.main_arg2) = m ((c.tc : Thread Cert.MhaIdeal.nD Cert.MhaIdeal.τ).loc Cert.MhaIdeal.main_arg2)
          ∧ r.2.mem ((c.tc : Thread Cert.MhaIdeal.nD Cert.MhaIdeal.τ).loc Cert.MhaIdeal.main_arg3) = m ((c.tc : Thread Cert.MhaIdeal.nD Cert.MhaIdeal.τ).loc Cert.MhaIdeal.main_arg3)
          ∧ r.2.mem ((c.tc : Thread Cert.MhaIdeal.nD Cert.MhaIdeal.τ).loc Cert.MhaIdeal.main_arg4) = m ((c.tc : Thread Cert.MhaIdeal.nD Cert.MhaIdeal.τ).loc Cert.MhaIdeal.main_arg4))
      ∧ θ_run (Cert.MhaRefIdeal.defs (F := Ideal)) (onTc (τ := Cert.MhaRefIdeal.τ) (Cert.MhaRefIdeal.main (F := Ideal))) ⟨m', fun _ => 0, g'⟩ (fun r => ∀ c : Dev Cert.MhaRefIdeal.nD,
          r.2.mem ((c.tc : Thread Cert.MhaRefIdeal.nD Cert.MhaRefIdeal.τ).loc Cert.MhaRefIdeal.main_v27) = v0 c
          ∧ r.2.mem ((c.tc : Thread Cert.MhaRefIdeal.nD Cert.MhaRefIdeal.τ).loc Cert.MhaRefIdeal.main_arg0) = m' ((c.tc : Thread Cert.MhaRefIdeal.nD Cert.MhaRefIdeal.τ).loc Cert.MhaRefIdeal.main_arg0)
          ∧ r.2.mem ((c.tc : Thread Cert.MhaRefIdeal.nD Cert.MhaRefIdeal.τ).loc Cert.MhaRefIdeal.main_arg1) = m' ((c.tc : Thread Cert.MhaRefIdeal.nD Cert.MhaRefIdeal.τ).loc Cert.MhaRefIdeal.main_arg1)
          ∧ r.2.mem ((c.tc : Thread Cert.MhaRefIdeal.nD Cert.MhaRefIdeal.τ).loc Cert.MhaRefIdeal.main_arg2) = m' ((c.tc : Thread Cert.MhaRefIdeal.nD Cert.MhaRefIdeal.τ).loc Cert.MhaRefIdeal.main_arg2)
          ∧ r.2.mem ((c.tc : Thread Cert.MhaRefIdeal.nD Cert.MhaRefIdeal.τ).loc Cert.MhaRefIdeal.main_arg3) = m' ((c.tc : Thread Cert.MhaRefIdeal.nD Cert.MhaRefIdeal.τ).loc Cert.MhaRefIdeal.main_arg3)
          ∧ r.2.mem ((c.tc : Thread Cert.MhaRefIdeal.nD Cert.MhaRefIdeal.τ).loc Cert.MhaRefIdeal.main_arg4) = m' ((c.tc : Thread Cert.MhaRefIdeal.nD Cert.MhaRefIdeal.τ).loc Cert.MhaRefIdeal.main_arg4))

def preserves_Qkv_QkvIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)
      ∧ m' ((c.tc : Thread Cert.QkvRefIdeal.nD Cert.QkvRefIdeal.τ).loc Cert.QkvRefIdeal.main_arg2) = m ((c.tc : Thread Cert.QkvIdeal.nD Cert.QkvIdeal.τ).loc Cert.QkvIdeal.main_arg2)
      ∧ m' ((c.tc : Thread Cert.QkvRefIdeal.nD Cert.QkvRefIdeal.τ).loc Cert.QkvRefIdeal.main_arg3) = m ((c.tc : Thread Cert.QkvIdeal.nD Cert.QkvIdeal.τ).loc Cert.QkvIdeal.main_arg3)
      ∧ m' ((c.tc : Thread Cert.QkvRefIdeal.nD Cert.QkvRefIdeal.τ).loc Cert.QkvRefIdeal.main_arg4) = m ((c.tc : Thread Cert.QkvIdeal.nD Cert.QkvIdeal.τ).loc Cert.QkvIdeal.main_arg4)
      ∧ m' ((c.tc : Thread Cert.QkvRefIdeal.nD Cert.QkvRefIdeal.τ).loc Cert.QkvRefIdeal.main_arg5) = m ((c.tc : Thread Cert.QkvIdeal.nD Cert.QkvIdeal.τ).loc Cert.QkvIdeal.main_arg5)
      ∧ m' ((c.tc : Thread Cert.QkvRefIdeal.nD Cert.QkvRefIdeal.τ).loc Cert.QkvRefIdeal.main_arg6) = m ((c.tc : Thread Cert.QkvIdeal.nD Cert.QkvIdeal.τ).loc Cert.QkvIdeal.main_arg6)) →
    ∃ (v0 : (c : Dev Cert.QkvIdeal.nD) → Buf (Elt Ideal) ((c.tc : Thread Cert.QkvIdeal.nD Cert.QkvIdeal.τ).loc Cert.QkvIdeal.main_v3_0)) (v1 : (c : Dev Cert.QkvIdeal.nD) → Buf (Elt Ideal) ((c.tc : Thread Cert.QkvIdeal.nD Cert.QkvIdeal.τ).loc Cert.QkvIdeal.main_v3_1)) (v2 : (c : Dev Cert.QkvIdeal.nD) → Buf (Elt Ideal) ((c.tc : Thread Cert.QkvIdeal.nD Cert.QkvIdeal.τ).loc Cert.QkvIdeal.main_v3_2)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v3_0) = v0 c
          ∧ r.2.mem ((c.tc : Thread Cert.QkvIdeal.nD Cert.QkvIdeal.τ).loc Cert.QkvIdeal.main_v3_1) = v1 c
          ∧ r.2.mem ((c.tc : Thread Cert.QkvIdeal.nD Cert.QkvIdeal.τ).loc Cert.QkvIdeal.main_v3_2) = v2 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
          ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
          ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
          ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
          ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v4) = v0 c
          ∧ r.2.mem ((c.tc : Thread Cert.QkvRefIdeal.nD Cert.QkvRefIdeal.τ).loc Cert.QkvRefIdeal.main_v9) = v1 c
          ∧ r.2.mem ((c.tc : Thread Cert.QkvRefIdeal.nD Cert.QkvRefIdeal.τ).loc Cert.QkvRefIdeal.main_v14) = v2 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1)
          ∧ r.2.mem ((c.tc : Thread Cert.QkvRefIdeal.nD Cert.QkvRefIdeal.τ).loc Cert.QkvRefIdeal.main_arg2) = m' ((c.tc : Thread Cert.QkvRefIdeal.nD Cert.QkvRefIdeal.τ).loc Cert.QkvRefIdeal.main_arg2)
          ∧ r.2.mem ((c.tc : Thread Cert.QkvRefIdeal.nD Cert.QkvRefIdeal.τ).loc Cert.QkvRefIdeal.main_arg3) = m' ((c.tc : Thread Cert.QkvRefIdeal.nD Cert.QkvRefIdeal.τ).loc Cert.QkvRefIdeal.main_arg3)
          ∧ r.2.mem ((c.tc : Thread Cert.QkvRefIdeal.nD Cert.QkvRefIdeal.τ).loc Cert.QkvRefIdeal.main_arg4) = m' ((c.tc : Thread Cert.QkvRefIdeal.nD Cert.QkvRefIdeal.τ).loc Cert.QkvRefIdeal.main_arg4)
          ∧ r.2.mem ((c.tc : Thread Cert.QkvRefIdeal.nD Cert.QkvRefIdeal.τ).loc Cert.QkvRefIdeal.main_arg5) = m' ((c.tc : Thread Cert.QkvRefIdeal.nD Cert.QkvRefIdeal.τ).loc Cert.QkvRefIdeal.main_arg5)
          ∧ r.2.mem ((c.tc : Thread Cert.QkvRefIdeal.nD Cert.QkvRefIdeal.τ).loc Cert.QkvRefIdeal.main_arg6) = m' ((c.tc : Thread Cert.QkvRefIdeal.nD Cert.QkvRefIdeal.τ).loc Cert.QkvRefIdeal.main_arg6))

def preserves_Pre0_Pre0Ideal : Prop :=
  True

def algebraic_Pre0Ideal_Pre0RefIdeal [hPre0Ideal : Cert.Pre0Ideal.Facts] [hPre0RefIdeal : Cert.Pre0RefIdeal.Facts] : Prop :=
  ∀ (m : (ℓ : Loc Cert.Pre0Ideal.nD Cert.Pre0Ideal.τ Cert.Pre0Ideal.sig) → Buf (Elt Ideal) ℓ) (g : Dev Cert.Pre0Ideal.nD → PrngReg)
    (m' : (ℓ : Loc Cert.Pre0RefIdeal.nD Cert.Pre0RefIdeal.τ Cert.Pre0RefIdeal.sig) → Buf (Elt Ideal) ℓ) (g' : Dev Cert.Pre0RefIdeal.nD → PrngReg), Pre_Pre0Ideal m →
    (∀ c : Dev Cert.Pre0Ideal.nD,
      m' ((c.tc : Thread Cert.Pre0RefIdeal.nD Cert.Pre0RefIdeal.τ).loc Cert.Pre0RefIdeal.main_arg0) = m ((c.tc : Thread Cert.Pre0Ideal.nD Cert.Pre0Ideal.τ).loc Cert.Pre0Ideal.main_arg0)
      ∧ m' ((c.tc : Thread Cert.Pre0RefIdeal.nD Cert.Pre0RefIdeal.τ).loc Cert.Pre0RefIdeal.main_arg1) = m ((c.tc : Thread Cert.Pre0Ideal.nD Cert.Pre0Ideal.τ).loc Cert.Pre0Ideal.main_arg1)
      ∧ m' ((c.tc : Thread Cert.Pre0RefIdeal.nD Cert.Pre0RefIdeal.τ).loc Cert.Pre0RefIdeal.main_arg2) = m ((c.tc : Thread Cert.Pre0Ideal.nD Cert.Pre0Ideal.τ).loc Cert.Pre0Ideal.main_arg2)
      ∧ m' ((c.tc : Thread Cert.Pre0RefIdeal.nD Cert.Pre0RefIdeal.τ).loc Cert.Pre0RefIdeal.main_arg3) = m ((c.tc : Thread Cert.Pre0Ideal.nD Cert.Pre0Ideal.τ).loc Cert.Pre0Ideal.main_arg3)) →
    ∃ (v0 : (c : Dev Cert.Pre0Ideal.nD) → Buf (Elt Ideal) ((c.tc : Thread Cert.Pre0Ideal.nD Cert.Pre0Ideal.τ).loc Cert.Pre0Ideal.main_v0_0)) (v1 : (c : Dev Cert.Pre0Ideal.nD) → Buf (Elt Ideal) ((c.tc : Thread Cert.Pre0Ideal.nD Cert.Pre0Ideal.τ).loc Cert.Pre0Ideal.main_v0_1)) (v2 : (c : Dev Cert.Pre0Ideal.nD) → Buf (Elt Ideal) ((c.tc : Thread Cert.Pre0Ideal.nD Cert.Pre0Ideal.τ).loc Cert.Pre0Ideal.main_v0_2)) (v3 : (c : Dev Cert.Pre0Ideal.nD) → Buf (Elt Ideal) ((c.tc : Thread Cert.Pre0Ideal.nD Cert.Pre0Ideal.τ).loc Cert.Pre0Ideal.main_v0_3)),
      θ_run (Cert.Pre0Ideal.defs (F := Ideal)) (onTc (τ := Cert.Pre0Ideal.τ) (Cert.Pre0Ideal.main (F := Ideal))) ⟨m, fun _ => 0, g⟩ (fun r => ∀ c : Dev Cert.Pre0Ideal.nD,
          r.2.mem ((c.tc : Thread Cert.Pre0Ideal.nD Cert.Pre0Ideal.τ).loc Cert.Pre0Ideal.main_v0_0) = v0 c
          ∧ r.2.mem ((c.tc : Thread Cert.Pre0Ideal.nD Cert.Pre0Ideal.τ).loc Cert.Pre0Ideal.main_v0_1) = v1 c
          ∧ r.2.mem ((c.tc : Thread Cert.Pre0Ideal.nD Cert.Pre0Ideal.τ).loc Cert.Pre0Ideal.main_v0_2) = v2 c
          ∧ r.2.mem ((c.tc : Thread Cert.Pre0Ideal.nD Cert.Pre0Ideal.τ).loc Cert.Pre0Ideal.main_v0_3) = v3 c
          ∧ r.2.mem ((c.tc : Thread Cert.Pre0Ideal.nD Cert.Pre0Ideal.τ).loc Cert.Pre0Ideal.main_arg0) = m ((c.tc : Thread Cert.Pre0Ideal.nD Cert.Pre0Ideal.τ).loc Cert.Pre0Ideal.main_arg0)
          ∧ r.2.mem ((c.tc : Thread Cert.Pre0Ideal.nD Cert.Pre0Ideal.τ).loc Cert.Pre0Ideal.main_arg1) = m ((c.tc : Thread Cert.Pre0Ideal.nD Cert.Pre0Ideal.τ).loc Cert.Pre0Ideal.main_arg1)
          ∧ r.2.mem ((c.tc : Thread Cert.Pre0Ideal.nD Cert.Pre0Ideal.τ).loc Cert.Pre0Ideal.main_arg2) = m ((c.tc : Thread Cert.Pre0Ideal.nD Cert.Pre0Ideal.τ).loc Cert.Pre0Ideal.main_arg2)
          ∧ r.2.mem ((c.tc : Thread Cert.Pre0Ideal.nD Cert.Pre0Ideal.τ).loc Cert.Pre0Ideal.main_arg3) = m ((c.tc : Thread Cert.Pre0Ideal.nD Cert.Pre0Ideal.τ).loc Cert.Pre0Ideal.main_arg3))
      ∧ θ_run (Cert.Pre0RefIdeal.defs (F := Ideal)) (onTc (τ := Cert.Pre0RefIdeal.τ) (Cert.Pre0RefIdeal.main (F := Ideal))) ⟨m', fun _ => 0, g'⟩ (fun r => ∀ c : Dev Cert.Pre0RefIdeal.nD,
          r.2.mem ((c.tc : Thread Cert.Pre0RefIdeal.nD Cert.Pre0RefIdeal.τ).loc Cert.Pre0RefIdeal.main_v1) = v0 c
          ∧ r.2.mem ((c.tc : Thread Cert.Pre0RefIdeal.nD Cert.Pre0RefIdeal.τ).loc Cert.Pre0RefIdeal.main_v6) = v1 c
          ∧ r.2.mem ((c.tc : Thread Cert.Pre0RefIdeal.nD Cert.Pre0RefIdeal.τ).loc Cert.Pre0RefIdeal.main_v10) = v2 c
          ∧ r.2.mem ((c.tc : Thread Cert.Pre0RefIdeal.nD Cert.Pre0RefIdeal.τ).loc Cert.Pre0RefIdeal.main_v11) = v3 c
          ∧ r.2.mem ((c.tc : Thread Cert.Pre0RefIdeal.nD Cert.Pre0RefIdeal.τ).loc Cert.Pre0RefIdeal.main_arg0) = m' ((c.tc : Thread Cert.Pre0RefIdeal.nD Cert.Pre0RefIdeal.τ).loc Cert.Pre0RefIdeal.main_arg0)
          ∧ r.2.mem ((c.tc : Thread Cert.Pre0RefIdeal.nD Cert.Pre0RefIdeal.τ).loc Cert.Pre0RefIdeal.main_arg1) = m' ((c.tc : Thread Cert.Pre0RefIdeal.nD Cert.Pre0RefIdeal.τ).loc Cert.Pre0RefIdeal.main_arg1)
          ∧ r.2.mem ((c.tc : Thread Cert.Pre0RefIdeal.nD Cert.Pre0RefIdeal.τ).loc Cert.Pre0RefIdeal.main_arg2) = m' ((c.tc : Thread Cert.Pre0RefIdeal.nD Cert.Pre0RefIdeal.τ).loc Cert.Pre0RefIdeal.main_arg2)
          ∧ r.2.mem ((c.tc : Thread Cert.Pre0RefIdeal.nD Cert.Pre0RefIdeal.τ).loc Cert.Pre0RefIdeal.main_arg3) = m' ((c.tc : Thread Cert.Pre0RefIdeal.nD Cert.Pre0RefIdeal.τ).loc Cert.Pre0RefIdeal.main_arg3))

def preserves_Pre1_Pre1Ideal : Prop :=
  True

def algebraic_Pre1Ideal_Pre1RefIdeal [hPre1Ideal : Cert.Pre1Ideal.Facts] [hPre1RefIdeal : Cert.Pre1RefIdeal.Facts] : Prop :=
  ∀ (m : (ℓ : Loc Cert.Pre1Ideal.nD Cert.Pre1Ideal.τ Cert.Pre1Ideal.sig) → Buf (Elt Ideal) ℓ) (g : Dev Cert.Pre1Ideal.nD → PrngReg)
    (m' : (ℓ : Loc Cert.Pre1RefIdeal.nD Cert.Pre1RefIdeal.τ Cert.Pre1RefIdeal.sig) → Buf (Elt Ideal) ℓ) (g' : Dev Cert.Pre1RefIdeal.nD → PrngReg), Pre_Pre1Ideal m →
    (∀ c : Dev Cert.Pre1Ideal.nD,
      m' ((c.tc : Thread Cert.Pre1RefIdeal.nD Cert.Pre1RefIdeal.τ).loc Cert.Pre1RefIdeal.main_arg0) = m ((c.tc : Thread Cert.Pre1Ideal.nD Cert.Pre1Ideal.τ).loc Cert.Pre1Ideal.main_arg0)
      ∧ m' ((c.tc : Thread Cert.Pre1RefIdeal.nD Cert.Pre1RefIdeal.τ).loc Cert.Pre1RefIdeal.main_arg1) = m ((c.tc : Thread Cert.Pre1Ideal.nD Cert.Pre1Ideal.τ).loc Cert.Pre1Ideal.main_arg1)
      ∧ m' ((c.tc : Thread Cert.Pre1RefIdeal.nD Cert.Pre1RefIdeal.τ).loc Cert.Pre1RefIdeal.main_arg2) = m ((c.tc : Thread Cert.Pre1Ideal.nD Cert.Pre1Ideal.τ).loc Cert.Pre1Ideal.main_arg2)
      ∧ m' ((c.tc : Thread Cert.Pre1RefIdeal.nD Cert.Pre1RefIdeal.τ).loc Cert.Pre1RefIdeal.main_arg3) = m ((c.tc : Thread Cert.Pre1Ideal.nD Cert.Pre1Ideal.τ).loc Cert.Pre1Ideal.main_arg3)) →
    ∃ (v0 : (c : Dev Cert.Pre1Ideal.nD) → Buf (Elt Ideal) ((c.tc : Thread Cert.Pre1Ideal.nD Cert.Pre1Ideal.τ).loc Cert.Pre1Ideal.main_v0_0)) (v1 : (c : Dev Cert.Pre1Ideal.nD) → Buf (Elt Ideal) ((c.tc : Thread Cert.Pre1Ideal.nD Cert.Pre1Ideal.τ).loc Cert.Pre1Ideal.main_v0_1)) (v2 : (c : Dev Cert.Pre1Ideal.nD) → Buf (Elt Ideal) ((c.tc : Thread Cert.Pre1Ideal.nD Cert.Pre1Ideal.τ).loc Cert.Pre1Ideal.main_v0_2)) (v3 : (c : Dev Cert.Pre1Ideal.nD) → Buf (Elt Ideal) ((c.tc : Thread Cert.Pre1Ideal.nD Cert.Pre1Ideal.τ).loc Cert.Pre1Ideal.main_v0_3)),
      θ_run (Cert.Pre1Ideal.defs (F := Ideal)) (onTc (τ := Cert.Pre1Ideal.τ) (Cert.Pre1Ideal.main (F := Ideal))) ⟨m, fun _ => 0, g⟩ (fun r => ∀ c : Dev Cert.Pre1Ideal.nD,
          r.2.mem ((c.tc : Thread Cert.Pre1Ideal.nD Cert.Pre1Ideal.τ).loc Cert.Pre1Ideal.main_v0_0) = v0 c
          ∧ r.2.mem ((c.tc : Thread Cert.Pre1Ideal.nD Cert.Pre1Ideal.τ).loc Cert.Pre1Ideal.main_v0_1) = v1 c
          ∧ r.2.mem ((c.tc : Thread Cert.Pre1Ideal.nD Cert.Pre1Ideal.τ).loc Cert.Pre1Ideal.main_v0_2) = v2 c
          ∧ r.2.mem ((c.tc : Thread Cert.Pre1Ideal.nD Cert.Pre1Ideal.τ).loc Cert.Pre1Ideal.main_v0_3) = v3 c
          ∧ r.2.mem ((c.tc : Thread Cert.Pre1Ideal.nD Cert.Pre1Ideal.τ).loc Cert.Pre1Ideal.main_arg0) = m ((c.tc : Thread Cert.Pre1Ideal.nD Cert.Pre1Ideal.τ).loc Cert.Pre1Ideal.main_arg0)
          ∧ r.2.mem ((c.tc : Thread Cert.Pre1Ideal.nD Cert.Pre1Ideal.τ).loc Cert.Pre1Ideal.main_arg1) = m ((c.tc : Thread Cert.Pre1Ideal.nD Cert.Pre1Ideal.τ).loc Cert.Pre1Ideal.main_arg1)
          ∧ r.2.mem ((c.tc : Thread Cert.Pre1Ideal.nD Cert.Pre1Ideal.τ).loc Cert.Pre1Ideal.main_arg2) = m ((c.tc : Thread Cert.Pre1Ideal.nD Cert.Pre1Ideal.τ).loc Cert.Pre1Ideal.main_arg2)
          ∧ r.2.mem ((c.tc : Thread Cert.Pre1Ideal.nD Cert.Pre1Ideal.τ).loc Cert.Pre1Ideal.main_arg3) = m ((c.tc : Thread Cert.Pre1Ideal.nD Cert.Pre1Ideal.τ).loc Cert.Pre1Ideal.main_arg3))
      ∧ θ_run (Cert.Pre1RefIdeal.defs (F := Ideal)) (onTc (τ := Cert.Pre1RefIdeal.τ) (Cert.Pre1RefIdeal.main (F := Ideal))) ⟨m', fun _ => 0, g'⟩ (fun r => ∀ c : Dev Cert.Pre1RefIdeal.nD,
          r.2.mem ((c.tc : Thread Cert.Pre1RefIdeal.nD Cert.Pre1RefIdeal.τ).loc Cert.Pre1RefIdeal.main_v1) = v0 c
          ∧ r.2.mem ((c.tc : Thread Cert.Pre1RefIdeal.nD Cert.Pre1RefIdeal.τ).loc Cert.Pre1RefIdeal.main_v6) = v1 c
          ∧ r.2.mem ((c.tc : Thread Cert.Pre1RefIdeal.nD Cert.Pre1RefIdeal.τ).loc Cert.Pre1RefIdeal.main_v10) = v2 c
          ∧ r.2.mem ((c.tc : Thread Cert.Pre1RefIdeal.nD Cert.Pre1RefIdeal.τ).loc Cert.Pre1RefIdeal.main_v11) = v3 c
          ∧ r.2.mem ((c.tc : Thread Cert.Pre1RefIdeal.nD Cert.Pre1RefIdeal.τ).loc Cert.Pre1RefIdeal.main_arg0) = m' ((c.tc : Thread Cert.Pre1RefIdeal.nD Cert.Pre1RefIdeal.τ).loc Cert.Pre1RefIdeal.main_arg0)
          ∧ r.2.mem ((c.tc : Thread Cert.Pre1RefIdeal.nD Cert.Pre1RefIdeal.τ).loc Cert.Pre1RefIdeal.main_arg1) = m' ((c.tc : Thread Cert.Pre1RefIdeal.nD Cert.Pre1RefIdeal.τ).loc Cert.Pre1RefIdeal.main_arg1)
          ∧ r.2.mem ((c.tc : Thread Cert.Pre1RefIdeal.nD Cert.Pre1RefIdeal.τ).loc Cert.Pre1RefIdeal.main_arg2) = m' ((c.tc : Thread Cert.Pre1RefIdeal.nD Cert.Pre1RefIdeal.τ).loc Cert.Pre1RefIdeal.main_arg2)
          ∧ r.2.mem ((c.tc : Thread Cert.Pre1RefIdeal.nD Cert.Pre1RefIdeal.τ).loc Cert.Pre1RefIdeal.main_arg3) = m' ((c.tc : Thread Cert.Pre1RefIdeal.nD Cert.Pre1RefIdeal.τ).loc Cert.Pre1RefIdeal.main_arg3))

def preserves_Pre2_Pre2Ideal : Prop :=
  True

def algebraic_Pre2Ideal_Pre2RefIdeal [hPre2Ideal : Cert.Pre2Ideal.Facts] [hPre2RefIdeal : Cert.Pre2RefIdeal.Facts] : Prop :=
  ∀ (m : (ℓ : Loc Cert.Pre2Ideal.nD Cert.Pre2Ideal.τ Cert.Pre2Ideal.sig) → Buf (Elt Ideal) ℓ) (g : Dev Cert.Pre2Ideal.nD → PrngReg)
    (m' : (ℓ : Loc Cert.Pre2RefIdeal.nD Cert.Pre2RefIdeal.τ Cert.Pre2RefIdeal.sig) → Buf (Elt Ideal) ℓ) (g' : Dev Cert.Pre2RefIdeal.nD → PrngReg), Pre_Pre2Ideal m →
    (∀ c : Dev Cert.Pre2Ideal.nD,
      m' ((c.tc : Thread Cert.Pre2RefIdeal.nD Cert.Pre2RefIdeal.τ).loc Cert.Pre2RefIdeal.main_arg0) = m ((c.tc : Thread Cert.Pre2Ideal.nD Cert.Pre2Ideal.τ).loc Cert.Pre2Ideal.main_arg0)
      ∧ m' ((c.tc : Thread Cert.Pre2RefIdeal.nD Cert.Pre2RefIdeal.τ).loc Cert.Pre2RefIdeal.main_arg1) = m ((c.tc : Thread Cert.Pre2Ideal.nD Cert.Pre2Ideal.τ).loc Cert.Pre2Ideal.main_arg1)
      ∧ m' ((c.tc : Thread Cert.Pre2RefIdeal.nD Cert.Pre2RefIdeal.τ).loc Cert.Pre2RefIdeal.main_arg2) = m ((c.tc : Thread Cert.Pre2Ideal.nD Cert.Pre2Ideal.τ).loc Cert.Pre2Ideal.main_arg2)
      ∧ m' ((c.tc : Thread Cert.Pre2RefIdeal.nD Cert.Pre2RefIdeal.τ).loc Cert.Pre2RefIdeal.main_arg3) = m ((c.tc : Thread Cert.Pre2Ideal.nD Cert.Pre2Ideal.τ).loc Cert.Pre2Ideal.main_arg3)) →
    ∃ (v0 : (c : Dev Cert.Pre2Ideal.nD) → Buf (Elt Ideal) ((c.tc : Thread Cert.Pre2Ideal.nD Cert.Pre2Ideal.τ).loc Cert.Pre2Ideal.main_v0_0)) (v1 : (c : Dev Cert.Pre2Ideal.nD) → Buf (Elt Ideal) ((c.tc : Thread Cert.Pre2Ideal.nD Cert.Pre2Ideal.τ).loc Cert.Pre2Ideal.main_v0_1)) (v2 : (c : Dev Cert.Pre2Ideal.nD) → Buf (Elt Ideal) ((c.tc : Thread Cert.Pre2Ideal.nD Cert.Pre2Ideal.τ).loc Cert.Pre2Ideal.main_v0_2)) (v3 : (c : Dev Cert.Pre2Ideal.nD) → Buf (Elt Ideal) ((c.tc : Thread Cert.Pre2Ideal.nD Cert.Pre2Ideal.τ).loc Cert.Pre2Ideal.main_v0_3)),
      θ_run (Cert.Pre2Ideal.defs (F := Ideal)) (onTc (τ := Cert.Pre2Ideal.τ) (Cert.Pre2Ideal.main (F := Ideal))) ⟨m, fun _ => 0, g⟩ (fun r => ∀ c : Dev Cert.Pre2Ideal.nD,
          r.2.mem ((c.tc : Thread Cert.Pre2Ideal.nD Cert.Pre2Ideal.τ).loc Cert.Pre2Ideal.main_v0_0) = v0 c
          ∧ r.2.mem ((c.tc : Thread Cert.Pre2Ideal.nD Cert.Pre2Ideal.τ).loc Cert.Pre2Ideal.main_v0_1) = v1 c
          ∧ r.2.mem ((c.tc : Thread Cert.Pre2Ideal.nD Cert.Pre2Ideal.τ).loc Cert.Pre2Ideal.main_v0_2) = v2 c
          ∧ r.2.mem ((c.tc : Thread Cert.Pre2Ideal.nD Cert.Pre2Ideal.τ).loc Cert.Pre2Ideal.main_v0_3) = v3 c
          ∧ r.2.mem ((c.tc : Thread Cert.Pre2Ideal.nD Cert.Pre2Ideal.τ).loc Cert.Pre2Ideal.main_arg0) = m ((c.tc : Thread Cert.Pre2Ideal.nD Cert.Pre2Ideal.τ).loc Cert.Pre2Ideal.main_arg0)
          ∧ r.2.mem ((c.tc : Thread Cert.Pre2Ideal.nD Cert.Pre2Ideal.τ).loc Cert.Pre2Ideal.main_arg1) = m ((c.tc : Thread Cert.Pre2Ideal.nD Cert.Pre2Ideal.τ).loc Cert.Pre2Ideal.main_arg1)
          ∧ r.2.mem ((c.tc : Thread Cert.Pre2Ideal.nD Cert.Pre2Ideal.τ).loc Cert.Pre2Ideal.main_arg2) = m ((c.tc : Thread Cert.Pre2Ideal.nD Cert.Pre2Ideal.τ).loc Cert.Pre2Ideal.main_arg2)
          ∧ r.2.mem ((c.tc : Thread Cert.Pre2Ideal.nD Cert.Pre2Ideal.τ).loc Cert.Pre2Ideal.main_arg3) = m ((c.tc : Thread Cert.Pre2Ideal.nD Cert.Pre2Ideal.τ).loc Cert.Pre2Ideal.main_arg3))
      ∧ θ_run (Cert.Pre2RefIdeal.defs (F := Ideal)) (onTc (τ := Cert.Pre2RefIdeal.τ) (Cert.Pre2RefIdeal.main (F := Ideal))) ⟨m', fun _ => 0, g'⟩ (fun r => ∀ c : Dev Cert.Pre2RefIdeal.nD,
          r.2.mem ((c.tc : Thread Cert.Pre2RefIdeal.nD Cert.Pre2RefIdeal.τ).loc Cert.Pre2RefIdeal.main_v1) = v0 c
          ∧ r.2.mem ((c.tc : Thread Cert.Pre2RefIdeal.nD Cert.Pre2RefIdeal.τ).loc Cert.Pre2RefIdeal.main_v6) = v1 c
          ∧ r.2.mem ((c.tc : Thread Cert.Pre2RefIdeal.nD Cert.Pre2RefIdeal.τ).loc Cert.Pre2RefIdeal.main_v10) = v2 c
          ∧ r.2.mem ((c.tc : Thread Cert.Pre2RefIdeal.nD Cert.Pre2RefIdeal.τ).loc Cert.Pre2RefIdeal.main_v11) = v3 c
          ∧ r.2.mem ((c.tc : Thread Cert.Pre2RefIdeal.nD Cert.Pre2RefIdeal.τ).loc Cert.Pre2RefIdeal.main_arg0) = m' ((c.tc : Thread Cert.Pre2RefIdeal.nD Cert.Pre2RefIdeal.τ).loc Cert.Pre2RefIdeal.main_arg0)
          ∧ r.2.mem ((c.tc : Thread Cert.Pre2RefIdeal.nD Cert.Pre2RefIdeal.τ).loc Cert.Pre2RefIdeal.main_arg1) = m' ((c.tc : Thread Cert.Pre2RefIdeal.nD Cert.Pre2RefIdeal.τ).loc Cert.Pre2RefIdeal.main_arg1)
          ∧ r.2.mem ((c.tc : Thread Cert.Pre2RefIdeal.nD Cert.Pre2RefIdeal.τ).loc Cert.Pre2RefIdeal.main_arg2) = m' ((c.tc : Thread Cert.Pre2RefIdeal.nD Cert.Pre2RefIdeal.τ).loc Cert.Pre2RefIdeal.main_arg2)
          ∧ r.2.mem ((c.tc : Thread Cert.Pre2RefIdeal.nD Cert.Pre2RefIdeal.τ).loc Cert.Pre2RefIdeal.main_arg3) = m' ((c.tc : Thread Cert.Pre2RefIdeal.nD Cert.Pre2RefIdeal.τ).loc Cert.Pre2RefIdeal.main_arg3))

def preserves_Flash0_Flash0Ideal : Prop :=
  True

def algebraic_Flash0Ideal_Flash0RefIdeal_pre_first_ok [hFlash0Ideal : Cert.Flash0Ideal.Facts] [hFlash0RefIdeal : Cert.Flash0RefIdeal.Facts] [hPre_first_ok : Cert.Pre_first_ok.Facts] : Prop :=
  ∀ (m : (ℓ : Loc Cert.Flash0Ideal.nD Cert.Flash0Ideal.τ Cert.Flash0Ideal.sig) → Buf (Elt Ideal) ℓ) (g : Dev Cert.Flash0Ideal.nD → PrngReg)
    (m' : (ℓ : Loc Cert.Flash0RefIdeal.nD Cert.Flash0RefIdeal.τ Cert.Flash0RefIdeal.sig) → Buf (Elt Ideal) ℓ) (g' : Dev Cert.Flash0RefIdeal.nD → PrngReg), Pre_Flash0Ideal_first_ok m →
    (∀ c : Dev Cert.Flash0Ideal.nD,
      m' ((c.tc : Thread Cert.Flash0RefIdeal.nD Cert.Flash0RefIdeal.τ).loc Cert.Flash0RefIdeal.main_arg0) = m ((c.tc : Thread Cert.Flash0Ideal.nD Cert.Flash0Ideal.τ).loc Cert.Flash0Ideal.main_arg0)
      ∧ m' ((c.tc : Thread Cert.Flash0RefIdeal.nD Cert.Flash0RefIdeal.τ).loc Cert.Flash0RefIdeal.main_arg1) = m ((c.tc : Thread Cert.Flash0Ideal.nD Cert.Flash0Ideal.τ).loc Cert.Flash0Ideal.main_arg1)
      ∧ m' ((c.tc : Thread Cert.Flash0RefIdeal.nD Cert.Flash0RefIdeal.τ).loc Cert.Flash0RefIdeal.main_arg2) = m ((c.tc : Thread Cert.Flash0Ideal.nD Cert.Flash0Ideal.τ).loc Cert.Flash0Ideal.main_arg2)
      ∧ m' ((c.tc : Thread Cert.Flash0RefIdeal.nD Cert.Flash0RefIdeal.τ).loc Cert.Flash0RefIdeal.main_arg3) = m ((c.tc : Thread Cert.Flash0Ideal.nD Cert.Flash0Ideal.τ).loc Cert.Flash0Ideal.main_arg3)
      ∧ m' ((c.tc : Thread Cert.Flash0RefIdeal.nD Cert.Flash0RefIdeal.τ).loc Cert.Flash0RefIdeal.main_arg4) = m ((c.tc : Thread Cert.Flash0Ideal.nD Cert.Flash0Ideal.τ).loc Cert.Flash0Ideal.main_arg4)
      ∧ m' ((c.tc : Thread Cert.Flash0RefIdeal.nD Cert.Flash0RefIdeal.τ).loc Cert.Flash0RefIdeal.main_arg5) = m ((c.tc : Thread Cert.Flash0Ideal.nD Cert.Flash0Ideal.τ).loc Cert.Flash0Ideal.main_arg5)
      ∧ m' ((c.tc : Thread Cert.Flash0RefIdeal.nD Cert.Flash0RefIdeal.τ).loc Cert.Flash0RefIdeal.main_arg6) = m ((c.tc : Thread Cert.Flash0Ideal.nD Cert.Flash0Ideal.τ).loc Cert.Flash0Ideal.main_arg6)) →
    ∃ (v0 : (c : Dev Cert.Flash0Ideal.nD) → Buf (Elt Ideal) ((c.tc : Thread Cert.Flash0Ideal.nD Cert.Flash0Ideal.τ).loc Cert.Flash0Ideal.main_v5)),
      θ_run (Cert.Flash0Ideal.defs (F := Ideal)) (onTc (τ := Cert.Flash0Ideal.τ) (Cert.Flash0Ideal.main (F := Ideal))) ⟨m, fun _ => 0, g⟩ (fun r => ∀ c : Dev Cert.Flash0Ideal.nD,
          r.2.mem ((c.tc : Thread Cert.Flash0Ideal.nD Cert.Flash0Ideal.τ).loc Cert.Flash0Ideal.main_v5) = v0 c
          ∧ r.2.mem ((c.tc : Thread Cert.Flash0Ideal.nD Cert.Flash0Ideal.τ).loc Cert.Flash0Ideal.main_arg0) = m ((c.tc : Thread Cert.Flash0Ideal.nD Cert.Flash0Ideal.τ).loc Cert.Flash0Ideal.main_arg0)
          ∧ r.2.mem ((c.tc : Thread Cert.Flash0Ideal.nD Cert.Flash0Ideal.τ).loc Cert.Flash0Ideal.main_arg1) = m ((c.tc : Thread Cert.Flash0Ideal.nD Cert.Flash0Ideal.τ).loc Cert.Flash0Ideal.main_arg1)
          ∧ r.2.mem ((c.tc : Thread Cert.Flash0Ideal.nD Cert.Flash0Ideal.τ).loc Cert.Flash0Ideal.main_arg2) = m ((c.tc : Thread Cert.Flash0Ideal.nD Cert.Flash0Ideal.τ).loc Cert.Flash0Ideal.main_arg2)
          ∧ r.2.mem ((c.tc : Thread Cert.Flash0Ideal.nD Cert.Flash0Ideal.τ).loc Cert.Flash0Ideal.main_arg3) = m ((c.tc : Thread Cert.Flash0Ideal.nD Cert.Flash0Ideal.τ).loc Cert.Flash0Ideal.main_arg3)
          ∧ r.2.mem ((c.tc : Thread Cert.Flash0Ideal.nD Cert.Flash0Ideal.τ).loc Cert.Flash0Ideal.main_arg4) = m ((c.tc : Thread Cert.Flash0Ideal.nD Cert.Flash0Ideal.τ).loc Cert.Flash0Ideal.main_arg4)
          ∧ r.2.mem ((c.tc : Thread Cert.Flash0Ideal.nD Cert.Flash0Ideal.τ).loc Cert.Flash0Ideal.main_arg5) = m ((c.tc : Thread Cert.Flash0Ideal.nD Cert.Flash0Ideal.τ).loc Cert.Flash0Ideal.main_arg5)
          ∧ r.2.mem ((c.tc : Thread Cert.Flash0Ideal.nD Cert.Flash0Ideal.τ).loc Cert.Flash0Ideal.main_arg6) = m ((c.tc : Thread Cert.Flash0Ideal.nD Cert.Flash0Ideal.τ).loc Cert.Flash0Ideal.main_arg6))
      ∧ θ_run (Cert.Flash0RefIdeal.defs (F := Ideal)) (onTc (τ := Cert.Flash0RefIdeal.τ) (Cert.Flash0RefIdeal.main (F := Ideal))) ⟨m', fun _ => 0, g'⟩ (fun r => ∀ c : Dev Cert.Flash0RefIdeal.nD,
          r.2.mem ((c.tc : Thread Cert.Flash0RefIdeal.nD Cert.Flash0RefIdeal.τ).loc Cert.Flash0RefIdeal.main_v47) = v0 c
          ∧ r.2.mem ((c.tc : Thread Cert.Flash0RefIdeal.nD Cert.Flash0RefIdeal.τ).loc Cert.Flash0RefIdeal.main_arg0) = m' ((c.tc : Thread Cert.Flash0RefIdeal.nD Cert.Flash0RefIdeal.τ).loc Cert.Flash0RefIdeal.main_arg0)
          ∧ r.2.mem ((c.tc : Thread Cert.Flash0RefIdeal.nD Cert.Flash0RefIdeal.τ).loc Cert.Flash0RefIdeal.main_arg1) = m' ((c.tc : Thread Cert.Flash0RefIdeal.nD Cert.Flash0RefIdeal.τ).loc Cert.Flash0RefIdeal.main_arg1)
          ∧ r.2.mem ((c.tc : Thread Cert.Flash0RefIdeal.nD Cert.Flash0RefIdeal.τ).loc Cert.Flash0RefIdeal.main_arg2) = m' ((c.tc : Thread Cert.Flash0RefIdeal.nD Cert.Flash0RefIdeal.τ).loc Cert.Flash0RefIdeal.main_arg2)
          ∧ r.2.mem ((c.tc : Thread Cert.Flash0RefIdeal.nD Cert.Flash0RefIdeal.τ).loc Cert.Flash0RefIdeal.main_arg3) = m' ((c.tc : Thread Cert.Flash0RefIdeal.nD Cert.Flash0RefIdeal.τ).loc Cert.Flash0RefIdeal.main_arg3)
          ∧ r.2.mem ((c.tc : Thread Cert.Flash0RefIdeal.nD Cert.Flash0RefIdeal.τ).loc Cert.Flash0RefIdeal.main_arg4) = m' ((c.tc : Thread Cert.Flash0RefIdeal.nD Cert.Flash0RefIdeal.τ).loc Cert.Flash0RefIdeal.main_arg4)
          ∧ r.2.mem ((c.tc : Thread Cert.Flash0RefIdeal.nD Cert.Flash0RefIdeal.τ).loc Cert.Flash0RefIdeal.main_arg5) = m' ((c.tc : Thread Cert.Flash0RefIdeal.nD Cert.Flash0RefIdeal.τ).loc Cert.Flash0RefIdeal.main_arg5)
          ∧ r.2.mem ((c.tc : Thread Cert.Flash0RefIdeal.nD Cert.Flash0RefIdeal.τ).loc Cert.Flash0RefIdeal.main_arg6) = m' ((c.tc : Thread Cert.Flash0RefIdeal.nD Cert.Flash0RefIdeal.τ).loc Cert.Flash0RefIdeal.main_arg6))

def preserves_Flash1_Flash1Ideal : Prop :=
  True

def algebraic_Flash1Ideal_Flash1RefIdeal_pre_middle_ok [hFlash1Ideal : Cert.Flash1Ideal.Facts] [hFlash1RefIdeal : Cert.Flash1RefIdeal.Facts] [hPre_middle_ok : Cert.Pre_middle_ok.Facts] : Prop :=
  ∀ (m : (ℓ : Loc Cert.Flash1Ideal.nD Cert.Flash1Ideal.τ Cert.Flash1Ideal.sig) → Buf (Elt Ideal) ℓ) (g : Dev Cert.Flash1Ideal.nD → PrngReg)
    (m' : (ℓ : Loc Cert.Flash1RefIdeal.nD Cert.Flash1RefIdeal.τ Cert.Flash1RefIdeal.sig) → Buf (Elt Ideal) ℓ) (g' : Dev Cert.Flash1RefIdeal.nD → PrngReg), Pre_Flash1Ideal_middle_ok m →
    (∀ c : Dev Cert.Flash1Ideal.nD,
      m' ((c.tc : Thread Cert.Flash1RefIdeal.nD Cert.Flash1RefIdeal.τ).loc Cert.Flash1RefIdeal.main_arg0) = m ((c.tc : Thread Cert.Flash1Ideal.nD Cert.Flash1Ideal.τ).loc Cert.Flash1Ideal.main_arg0)
      ∧ m' ((c.tc : Thread Cert.Flash1RefIdeal.nD Cert.Flash1RefIdeal.τ).loc Cert.Flash1RefIdeal.main_arg1) = m ((c.tc : Thread Cert.Flash1Ideal.nD Cert.Flash1Ideal.τ).loc Cert.Flash1Ideal.main_arg1)
      ∧ m' ((c.tc : Thread Cert.Flash1RefIdeal.nD Cert.Flash1RefIdeal.τ).loc Cert.Flash1RefIdeal.main_arg2) = m ((c.tc : Thread Cert.Flash1Ideal.nD Cert.Flash1Ideal.τ).loc Cert.Flash1Ideal.main_arg2)
      ∧ m' ((c.tc : Thread Cert.Flash1RefIdeal.nD Cert.Flash1RefIdeal.τ).loc Cert.Flash1RefIdeal.main_arg3) = m ((c.tc : Thread Cert.Flash1Ideal.nD Cert.Flash1Ideal.τ).loc Cert.Flash1Ideal.main_arg3)
      ∧ m' ((c.tc : Thread Cert.Flash1RefIdeal.nD Cert.Flash1RefIdeal.τ).loc Cert.Flash1RefIdeal.main_arg4) = m ((c.tc : Thread Cert.Flash1Ideal.nD Cert.Flash1Ideal.τ).loc Cert.Flash1Ideal.main_arg4)
      ∧ m' ((c.tc : Thread Cert.Flash1RefIdeal.nD Cert.Flash1RefIdeal.τ).loc Cert.Flash1RefIdeal.main_arg5) = m ((c.tc : Thread Cert.Flash1Ideal.nD Cert.Flash1Ideal.τ).loc Cert.Flash1Ideal.main_arg5)
      ∧ m' ((c.tc : Thread Cert.Flash1RefIdeal.nD Cert.Flash1RefIdeal.τ).loc Cert.Flash1RefIdeal.main_arg6) = m ((c.tc : Thread Cert.Flash1Ideal.nD Cert.Flash1Ideal.τ).loc Cert.Flash1Ideal.main_arg6)
      ∧ m' ((c.tc : Thread Cert.Flash1RefIdeal.nD Cert.Flash1RefIdeal.τ).loc Cert.Flash1RefIdeal.main_arg7) = m ((c.tc : Thread Cert.Flash1Ideal.nD Cert.Flash1Ideal.τ).loc Cert.Flash1Ideal.main_arg7)) →
    ∃ (v0 : (c : Dev Cert.Flash1Ideal.nD) → Buf (Elt Ideal) ((c.tc : Thread Cert.Flash1Ideal.nD Cert.Flash1Ideal.τ).loc Cert.Flash1Ideal.main_v4)),
      θ_run (Cert.Flash1Ideal.defs (F := Ideal)) (onTc (τ := Cert.Flash1Ideal.τ) (Cert.Flash1Ideal.main (F := Ideal))) ⟨m, fun _ => 0, g⟩ (fun r => ∀ c : Dev Cert.Flash1Ideal.nD,
          r.2.mem ((c.tc : Thread Cert.Flash1Ideal.nD Cert.Flash1Ideal.τ).loc Cert.Flash1Ideal.main_v4) = v0 c
          ∧ r.2.mem ((c.tc : Thread Cert.Flash1Ideal.nD Cert.Flash1Ideal.τ).loc Cert.Flash1Ideal.main_arg0) = m ((c.tc : Thread Cert.Flash1Ideal.nD Cert.Flash1Ideal.τ).loc Cert.Flash1Ideal.main_arg0)
          ∧ r.2.mem ((c.tc : Thread Cert.Flash1Ideal.nD Cert.Flash1Ideal.τ).loc Cert.Flash1Ideal.main_arg1) = m ((c.tc : Thread Cert.Flash1Ideal.nD Cert.Flash1Ideal.τ).loc Cert.Flash1Ideal.main_arg1)
          ∧ r.2.mem ((c.tc : Thread Cert.Flash1Ideal.nD Cert.Flash1Ideal.τ).loc Cert.Flash1Ideal.main_arg2) = m ((c.tc : Thread Cert.Flash1Ideal.nD Cert.Flash1Ideal.τ).loc Cert.Flash1Ideal.main_arg2)
          ∧ r.2.mem ((c.tc : Thread Cert.Flash1Ideal.nD Cert.Flash1Ideal.τ).loc Cert.Flash1Ideal.main_arg3) = m ((c.tc : Thread Cert.Flash1Ideal.nD Cert.Flash1Ideal.τ).loc Cert.Flash1Ideal.main_arg3)
          ∧ r.2.mem ((c.tc : Thread Cert.Flash1Ideal.nD Cert.Flash1Ideal.τ).loc Cert.Flash1Ideal.main_arg4) = m ((c.tc : Thread Cert.Flash1Ideal.nD Cert.Flash1Ideal.τ).loc Cert.Flash1Ideal.main_arg4)
          ∧ r.2.mem ((c.tc : Thread Cert.Flash1Ideal.nD Cert.Flash1Ideal.τ).loc Cert.Flash1Ideal.main_arg5) = m ((c.tc : Thread Cert.Flash1Ideal.nD Cert.Flash1Ideal.τ).loc Cert.Flash1Ideal.main_arg5)
          ∧ r.2.mem ((c.tc : Thread Cert.Flash1Ideal.nD Cert.Flash1Ideal.τ).loc Cert.Flash1Ideal.main_arg6) = m ((c.tc : Thread Cert.Flash1Ideal.nD Cert.Flash1Ideal.τ).loc Cert.Flash1Ideal.main_arg6)
          ∧ r.2.mem ((c.tc : Thread Cert.Flash1Ideal.nD Cert.Flash1Ideal.τ).loc Cert.Flash1Ideal.main_arg7) = m ((c.tc : Thread Cert.Flash1Ideal.nD Cert.Flash1Ideal.τ).loc Cert.Flash1Ideal.main_arg7))
      ∧ θ_run (Cert.Flash1RefIdeal.defs (F := Ideal)) (onTc (τ := Cert.Flash1RefIdeal.τ) (Cert.Flash1RefIdeal.main (F := Ideal))) ⟨m', fun _ => 0, g'⟩ (fun r => ∀ c : Dev Cert.Flash1RefIdeal.nD,
          r.2.mem ((c.tc : Thread Cert.Flash1RefIdeal.nD Cert.Flash1RefIdeal.τ).loc Cert.Flash1RefIdeal.main_v48) = v0 c
          ∧ r.2.mem ((c.tc : Thread Cert.Flash1RefIdeal.nD Cert.Flash1RefIdeal.τ).loc Cert.Flash1RefIdeal.main_arg0) = m' ((c.tc : Thread Cert.Flash1RefIdeal.nD Cert.Flash1RefIdeal.τ).loc Cert.Flash1RefIdeal.main_arg0)
          ∧ r.2.mem ((c.tc : Thread Cert.Flash1RefIdeal.nD Cert.Flash1RefIdeal.τ).loc Cert.Flash1RefIdeal.main_arg1) = m' ((c.tc : Thread Cert.Flash1RefIdeal.nD Cert.Flash1RefIdeal.τ).loc Cert.Flash1RefIdeal.main_arg1)
          ∧ r.2.mem ((c.tc : Thread Cert.Flash1RefIdeal.nD Cert.Flash1RefIdeal.τ).loc Cert.Flash1RefIdeal.main_arg2) = m' ((c.tc : Thread Cert.Flash1RefIdeal.nD Cert.Flash1RefIdeal.τ).loc Cert.Flash1RefIdeal.main_arg2)
          ∧ r.2.mem ((c.tc : Thread Cert.Flash1RefIdeal.nD Cert.Flash1RefIdeal.τ).loc Cert.Flash1RefIdeal.main_arg3) = m' ((c.tc : Thread Cert.Flash1RefIdeal.nD Cert.Flash1RefIdeal.τ).loc Cert.Flash1RefIdeal.main_arg3)
          ∧ r.2.mem ((c.tc : Thread Cert.Flash1RefIdeal.nD Cert.Flash1RefIdeal.τ).loc Cert.Flash1RefIdeal.main_arg4) = m' ((c.tc : Thread Cert.Flash1RefIdeal.nD Cert.Flash1RefIdeal.τ).loc Cert.Flash1RefIdeal.main_arg4)
          ∧ r.2.mem ((c.tc : Thread Cert.Flash1RefIdeal.nD Cert.Flash1RefIdeal.τ).loc Cert.Flash1RefIdeal.main_arg5) = m' ((c.tc : Thread Cert.Flash1RefIdeal.nD Cert.Flash1RefIdeal.τ).loc Cert.Flash1RefIdeal.main_arg5)
          ∧ r.2.mem ((c.tc : Thread Cert.Flash1RefIdeal.nD Cert.Flash1RefIdeal.τ).loc Cert.Flash1RefIdeal.main_arg6) = m' ((c.tc : Thread Cert.Flash1RefIdeal.nD Cert.Flash1RefIdeal.τ).loc Cert.Flash1RefIdeal.main_arg6)
          ∧ r.2.mem ((c.tc : Thread Cert.Flash1RefIdeal.nD Cert.Flash1RefIdeal.τ).loc Cert.Flash1RefIdeal.main_arg7) = m' ((c.tc : Thread Cert.Flash1RefIdeal.nD Cert.Flash1RefIdeal.τ).loc Cert.Flash1RefIdeal.main_arg7))

def preserves_Flash2_Flash2Ideal : Prop :=
  True

def algebraic_Flash2Ideal_Flash2RefIdeal_pre_last_ok [hFlash2Ideal : Cert.Flash2Ideal.Facts] [hFlash2RefIdeal : Cert.Flash2RefIdeal.Facts] [hPre_last_ok : Cert.Pre_last_ok.Facts] : Prop :=
  ∀ (m : (ℓ : Loc Cert.Flash2Ideal.nD Cert.Flash2Ideal.τ Cert.Flash2Ideal.sig) → Buf (Elt Ideal) ℓ) (g : Dev Cert.Flash2Ideal.nD → PrngReg)
    (m' : (ℓ : Loc Cert.Flash2RefIdeal.nD Cert.Flash2RefIdeal.τ Cert.Flash2RefIdeal.sig) → Buf (Elt Ideal) ℓ) (g' : Dev Cert.Flash2RefIdeal.nD → PrngReg), Pre_Flash2Ideal_last_ok m →
    (∀ c : Dev Cert.Flash2Ideal.nD,
      m' ((c.tc : Thread Cert.Flash2RefIdeal.nD Cert.Flash2RefIdeal.τ).loc Cert.Flash2RefIdeal.main_arg0) = m ((c.tc : Thread Cert.Flash2Ideal.nD Cert.Flash2Ideal.τ).loc Cert.Flash2Ideal.main_arg0)
      ∧ m' ((c.tc : Thread Cert.Flash2RefIdeal.nD Cert.Flash2RefIdeal.τ).loc Cert.Flash2RefIdeal.main_arg1) = m ((c.tc : Thread Cert.Flash2Ideal.nD Cert.Flash2Ideal.τ).loc Cert.Flash2Ideal.main_arg1)
      ∧ m' ((c.tc : Thread Cert.Flash2RefIdeal.nD Cert.Flash2RefIdeal.τ).loc Cert.Flash2RefIdeal.main_arg2) = m ((c.tc : Thread Cert.Flash2Ideal.nD Cert.Flash2Ideal.τ).loc Cert.Flash2Ideal.main_arg2)
      ∧ m' ((c.tc : Thread Cert.Flash2RefIdeal.nD Cert.Flash2RefIdeal.τ).loc Cert.Flash2RefIdeal.main_arg3) = m ((c.tc : Thread Cert.Flash2Ideal.nD Cert.Flash2Ideal.τ).loc Cert.Flash2Ideal.main_arg3)
      ∧ m' ((c.tc : Thread Cert.Flash2RefIdeal.nD Cert.Flash2RefIdeal.τ).loc Cert.Flash2RefIdeal.main_arg4) = m ((c.tc : Thread Cert.Flash2Ideal.nD Cert.Flash2Ideal.τ).loc Cert.Flash2Ideal.main_arg4)
      ∧ m' ((c.tc : Thread Cert.Flash2RefIdeal.nD Cert.Flash2RefIdeal.τ).loc Cert.Flash2RefIdeal.main_arg5) = m ((c.tc : Thread Cert.Flash2Ideal.nD Cert.Flash2Ideal.τ).loc Cert.Flash2Ideal.main_arg5)
      ∧ m' ((c.tc : Thread Cert.Flash2RefIdeal.nD Cert.Flash2RefIdeal.τ).loc Cert.Flash2RefIdeal.main_arg6) = m ((c.tc : Thread Cert.Flash2Ideal.nD Cert.Flash2Ideal.τ).loc Cert.Flash2Ideal.main_arg6)) →
    ∃ (v0 : (c : Dev Cert.Flash2Ideal.nD) → Buf (Elt Ideal) ((c.tc : Thread Cert.Flash2Ideal.nD Cert.Flash2Ideal.τ).loc Cert.Flash2Ideal.main_v5)),
      θ_run (Cert.Flash2Ideal.defs (F := Ideal)) (onTc (τ := Cert.Flash2Ideal.τ) (Cert.Flash2Ideal.main (F := Ideal))) ⟨m, fun _ => 0, g⟩ (fun r => ∀ c : Dev Cert.Flash2Ideal.nD,
          r.2.mem ((c.tc : Thread Cert.Flash2Ideal.nD Cert.Flash2Ideal.τ).loc Cert.Flash2Ideal.main_v5) = v0 c
          ∧ r.2.mem ((c.tc : Thread Cert.Flash2Ideal.nD Cert.Flash2Ideal.τ).loc Cert.Flash2Ideal.main_arg0) = m ((c.tc : Thread Cert.Flash2Ideal.nD Cert.Flash2Ideal.τ).loc Cert.Flash2Ideal.main_arg0)
          ∧ r.2.mem ((c.tc : Thread Cert.Flash2Ideal.nD Cert.Flash2Ideal.τ).loc Cert.Flash2Ideal.main_arg1) = m ((c.tc : Thread Cert.Flash2Ideal.nD Cert.Flash2Ideal.τ).loc Cert.Flash2Ideal.main_arg1)
          ∧ r.2.mem ((c.tc : Thread Cert.Flash2Ideal.nD Cert.Flash2Ideal.τ).loc Cert.Flash2Ideal.main_arg2) = m ((c.tc : Thread Cert.Flash2Ideal.nD Cert.Flash2Ideal.τ).loc Cert.Flash2Ideal.main_arg2)
          ∧ r.2.mem ((c.tc : Thread Cert.Flash2Ideal.nD Cert.Flash2Ideal.τ).loc Cert.Flash2Ideal.main_arg3) = m ((c.tc : Thread Cert.Flash2Ideal.nD Cert.Flash2Ideal.τ).loc Cert.Flash2Ideal.main_arg3)
          ∧ r.2.mem ((c.tc : Thread Cert.Flash2Ideal.nD Cert.Flash2Ideal.τ).loc Cert.Flash2Ideal.main_arg4) = m ((c.tc : Thread Cert.Flash2Ideal.nD Cert.Flash2Ideal.τ).loc Cert.Flash2Ideal.main_arg4)
          ∧ r.2.mem ((c.tc : Thread Cert.Flash2Ideal.nD Cert.Flash2Ideal.τ).loc Cert.Flash2Ideal.main_arg5) = m ((c.tc : Thread Cert.Flash2Ideal.nD Cert.Flash2Ideal.τ).loc Cert.Flash2Ideal.main_arg5)
          ∧ r.2.mem ((c.tc : Thread Cert.Flash2Ideal.nD Cert.Flash2Ideal.τ).loc Cert.Flash2Ideal.main_arg6) = m ((c.tc : Thread Cert.Flash2Ideal.nD Cert.Flash2Ideal.τ).loc Cert.Flash2Ideal.main_arg6))
      ∧ θ_run (Cert.Flash2RefIdeal.defs (F := Ideal)) (onTc (τ := Cert.Flash2RefIdeal.τ) (Cert.Flash2RefIdeal.main (F := Ideal))) ⟨m', fun _ => 0, g'⟩ (fun r => ∀ c : Dev Cert.Flash2RefIdeal.nD,
          r.2.mem ((c.tc : Thread Cert.Flash2RefIdeal.nD Cert.Flash2RefIdeal.τ).loc Cert.Flash2RefIdeal.main_v45) = v0 c
          ∧ r.2.mem ((c.tc : Thread Cert.Flash2RefIdeal.nD Cert.Flash2RefIdeal.τ).loc Cert.Flash2RefIdeal.main_arg0) = m' ((c.tc : Thread Cert.Flash2RefIdeal.nD Cert.Flash2RefIdeal.τ).loc Cert.Flash2RefIdeal.main_arg0)
          ∧ r.2.mem ((c.tc : Thread Cert.Flash2RefIdeal.nD Cert.Flash2RefIdeal.τ).loc Cert.Flash2RefIdeal.main_arg1) = m' ((c.tc : Thread Cert.Flash2RefIdeal.nD Cert.Flash2RefIdeal.τ).loc Cert.Flash2RefIdeal.main_arg1)
          ∧ r.2.mem ((c.tc : Thread Cert.Flash2RefIdeal.nD Cert.Flash2RefIdeal.τ).loc Cert.Flash2RefIdeal.main_arg2) = m' ((c.tc : Thread Cert.Flash2RefIdeal.nD Cert.Flash2RefIdeal.τ).loc Cert.Flash2RefIdeal.main_arg2)
          ∧ r.2.mem ((c.tc : Thread Cert.Flash2RefIdeal.nD Cert.Flash2RefIdeal.τ).loc Cert.Flash2RefIdeal.main_arg3) = m' ((c.tc : Thread Cert.Flash2RefIdeal.nD Cert.Flash2RefIdeal.τ).loc Cert.Flash2RefIdeal.main_arg3)
          ∧ r.2.mem ((c.tc : Thread Cert.Flash2RefIdeal.nD Cert.Flash2RefIdeal.τ).loc Cert.Flash2RefIdeal.main_arg4) = m' ((c.tc : Thread Cert.Flash2RefIdeal.nD Cert.Flash2RefIdeal.τ).loc Cert.Flash2RefIdeal.main_arg4)
          ∧ r.2.mem ((c.tc : Thread Cert.Flash2RefIdeal.nD Cert.Flash2RefIdeal.τ).loc Cert.Flash2RefIdeal.main_arg5) = m' ((c.tc : Thread Cert.Flash2RefIdeal.nD Cert.Flash2RefIdeal.τ).loc Cert.Flash2RefIdeal.main_arg5)
          ∧ r.2.mem ((c.tc : Thread Cert.Flash2RefIdeal.nD Cert.Flash2RefIdeal.τ).loc Cert.Flash2RefIdeal.main_arg6) = m' ((c.tc : Thread Cert.Flash2RefIdeal.nD Cert.Flash2RefIdeal.τ).loc Cert.Flash2RefIdeal.main_arg6))

def Claim : Prop :=
  ∃ (hMha : Cert.Mha.Facts) (hMhaIdeal : Cert.MhaIdeal.Facts) (hMhaRefIdeal : Cert.MhaRefIdeal.Facts) (hQkv : Cert.Qkv.Facts) (hQkvIdeal : Cert.QkvIdeal.Facts) (hQkvRefIdeal : Cert.QkvRefIdeal.Facts) (hPre0 : Cert.Pre0.Facts) (hPre0Ideal : Cert.Pre0Ideal.Facts) (hPre0RefIdeal : Cert.Pre0RefIdeal.Facts) (hPre1 : Cert.Pre1.Facts) (hPre1Ideal : Cert.Pre1Ideal.Facts) (hPre1RefIdeal : Cert.Pre1RefIdeal.Facts) (hPre2 : Cert.Pre2.Facts) (hPre2Ideal : Cert.Pre2Ideal.Facts) (hPre2RefIdeal : Cert.Pre2RefIdeal.Facts) (hFlash0 : Cert.Flash0.Facts) (hFlash0Ideal : Cert.Flash0Ideal.Facts) (hFlash0RefIdeal : Cert.Flash0RefIdeal.Facts) (hFlash1 : Cert.Flash1.Facts) (hFlash1Ideal : Cert.Flash1Ideal.Facts) (hFlash1RefIdeal : Cert.Flash1RefIdeal.Facts) (hFlash2 : Cert.Flash2.Facts) (hFlash2Ideal : Cert.Flash2Ideal.Facts) (hFlash2RefIdeal : Cert.Flash2RefIdeal.Facts) (hPre_finite_qk : Cert.Pre_finite_qk.Facts) (hPre_first_ok : Cert.Pre_first_ok.Facts) (hPre_middle_ok : Cert.Pre_middle_ok.Facts) (hPre_last_ok : Cert.Pre_last_ok.Facts),
    quiescent_Mha (hMha := hMha)
    ∧ quiescent_MhaIdeal (hMhaIdeal := hMhaIdeal)
    ∧ quiescent_MhaIdeal_pre_finite_qk (hMhaIdeal := hMhaIdeal) (hPre_finite_qk := hPre_finite_qk)
    ∧ quiescent_MhaRefIdeal (hMhaRefIdeal := hMhaRefIdeal)
    ∧ quiescent_MhaRefIdeal_pre_finite_qk (hMhaRefIdeal := hMhaRefIdeal) (hPre_finite_qk := hPre_finite_qk)
    ∧ quiescent_Qkv (hQkv := hQkv)
    ∧ quiescent_QkvIdeal (hQkvIdeal := hQkvIdeal)
    ∧ quiescent_QkvRefIdeal (hQkvRefIdeal := hQkvRefIdeal)
    ∧ quiescent_Pre0 (hPre0 := hPre0)
    ∧ quiescent_Pre0Ideal (hPre0Ideal := hPre0Ideal)
    ∧ quiescent_Pre0RefIdeal (hPre0RefIdeal := hPre0RefIdeal)
    ∧ quiescent_Pre1 (hPre1 := hPre1)
    ∧ quiescent_Pre1Ideal (hPre1Ideal := hPre1Ideal)
    ∧ quiescent_Pre1RefIdeal (hPre1RefIdeal := hPre1RefIdeal)
    ∧ quiescent_Pre2 (hPre2 := hPre2)
    ∧ quiescent_Pre2Ideal (hPre2Ideal := hPre2Ideal)
    ∧ quiescent_Pre2RefIdeal (hPre2RefIdeal := hPre2RefIdeal)
    ∧ quiescent_Flash0 (hFlash0 := hFlash0)
    ∧ quiescent_Flash0Ideal (hFlash0Ideal := hFlash0Ideal)
    ∧ quiescent_Flash0Ideal_pre_first_ok (hFlash0Ideal := hFlash0Ideal) (hPre_first_ok := hPre_first_ok)
    ∧ quiescent_Flash0RefIdeal (hFlash0RefIdeal := hFlash0RefIdeal)
    ∧ quiescent_Flash0RefIdeal_pre_first_ok (hFlash0RefIdeal := hFlash0RefIdeal) (hPre_first_ok := hPre_first_ok)
    ∧ quiescent_Flash1 (hFlash1 := hFlash1)
    ∧ quiescent_Flash1Ideal (hFlash1Ideal := hFlash1Ideal)
    ∧ quiescent_Flash1Ideal_pre_middle_ok (hFlash1Ideal := hFlash1Ideal) (hPre_middle_ok := hPre_middle_ok)
    ∧ quiescent_Flash1RefIdeal (hFlash1RefIdeal := hFlash1RefIdeal)
    ∧ quiescent_Flash1RefIdeal_pre_middle_ok (hFlash1RefIdeal := hFlash1RefIdeal) (hPre_middle_ok := hPre_middle_ok)
    ∧ quiescent_Flash2 (hFlash2 := hFlash2)
    ∧ quiescent_Flash2Ideal (hFlash2Ideal := hFlash2Ideal)
    ∧ quiescent_Flash2Ideal_pre_last_ok (hFlash2Ideal := hFlash2Ideal) (hPre_last_ok := hPre_last_ok)
    ∧ quiescent_Flash2RefIdeal (hFlash2RefIdeal := hFlash2RefIdeal)
    ∧ quiescent_Flash2RefIdeal_pre_last_ok (hFlash2RefIdeal := hFlash2RefIdeal) (hPre_last_ok := hPre_last_ok)
    ∧ preserves_Mha_MhaIdeal
    ∧ algebraic_MhaIdeal_MhaRefIdeal_pre_finite_qk (hMhaIdeal := hMhaIdeal) (hMhaRefIdeal := hMhaRefIdeal) (hPre_finite_qk := hPre_finite_qk)
    ∧ preserves_Qkv_QkvIdeal
    ∧ algebraic_QkvIdeal_QkvRefIdeal (hQkvIdeal := hQkvIdeal) (hQkvRefIdeal := hQkvRefIdeal)
    ∧ preserves_Pre0_Pre0Ideal
    ∧ algebraic_Pre0Ideal_Pre0RefIdeal (hPre0Ideal := hPre0Ideal) (hPre0RefIdeal := hPre0RefIdeal)
    ∧ preserves_Pre1_Pre1Ideal
    ∧ algebraic_Pre1Ideal_Pre1RefIdeal (hPre1Ideal := hPre1Ideal) (hPre1RefIdeal := hPre1RefIdeal)
    ∧ preserves_Pre2_Pre2Ideal
    ∧ algebraic_Pre2Ideal_Pre2RefIdeal (hPre2Ideal := hPre2Ideal) (hPre2RefIdeal := hPre2RefIdeal)
    ∧ preserves_Flash0_Flash0Ideal
    ∧ algebraic_Flash0Ideal_Flash0RefIdeal_pre_first_ok (hFlash0Ideal := hFlash0Ideal) (hFlash0RefIdeal := hFlash0RefIdeal) (hPre_first_ok := hPre_first_ok)
    ∧ preserves_Flash1_Flash1Ideal
    ∧ algebraic_Flash1Ideal_Flash1RefIdeal_pre_middle_ok (hFlash1Ideal := hFlash1Ideal) (hFlash1RefIdeal := hFlash1RefIdeal) (hPre_middle_ok := hPre_middle_ok)
    ∧ preserves_Flash2_Flash2Ideal
    ∧ algebraic_Flash2Ideal_Flash2RefIdeal_pre_last_ok (hFlash2Ideal := hFlash2Ideal) (hFlash2RefIdeal := hFlash2RefIdeal) (hPre_last_ok := hPre_last_ok)
-- ==== Pre_finite_qk.lean ====
abbrev S4096x128 : Shape := ⟨2, ![4096, 128]⟩
abbrev S128x128 : Shape := ⟨2, ![128, 128]⟩
abbrev S128 : Shape := ⟨1, ![128]⟩
abbrev S_ : Shape := ⟨0, ![]⟩

class Facts : Prop where
  bcast_S_S4096x128 : S_.BroadcastsInDim S4096x128 (![] : Fin 0 → Fin S4096x128.rank)
  reducesTo_S4096x128_S_d0_1 : S4096x128.ReducesTo [0, 1] S_
  h_S_ : 0 < S_.numel

variable [Facts]

def fn {F : FTy → Type} [FloatOps F] (main_arg0 : FVec F S4096x128 .f32) (main_arg1 : FVec F S4096x128 .f32) (main_arg2 : FVec F S4096x128 .f32) (main_arg3 : FVec F S128x128 .f32) (main_arg4 : FVec F S128 .f32) : IVec S_ 1 :=
  let main_v0 : FVec F S4096x128 .f32 := Host.absf main_arg0
  let main_cst : FVec F S_ .f32 := constant S_ .f32 0x7F800000#32
  let main_v1 : FVec F S4096x128 .f32 := broadcastInDim S4096x128 ![] bcast_S_S4096x128 main_cst
  let main_v2 : IVec S4096x128 1 := cmpf .olt main_v0 main_v1
  let main_c : IVec S_ 1 := constantI S_ 1 1#1
  let main_v3 : IVec S_ 1 := (fun x v => Host.reduce IntOp.andi x v reducesTo_S4096x128_S_d0_1 h_S_) main_v2 main_c
  let main_v4 : FVec F S4096x128 .f32 := Host.absf main_arg1
  let main_cst_0 : FVec F S_ .f32 := constant S_ .f32 0x7F800000#32
  let main_v5 : FVec F S4096x128 .f32 := broadcastInDim S4096x128 ![] bcast_S_S4096x128 main_cst_0
  let main_v6 : IVec S4096x128 1 := cmpf .olt main_v4 main_v5
  let main_c_1 : IVec S_ 1 := constantI S_ 1 1#1
  let main_v7 : IVec S_ 1 := (fun x v => Host.reduce IntOp.andi x v reducesTo_S4096x128_S_d0_1 h_S_) main_v6 main_c_1
  let main_v8 : IVec S_ 1 := andi main_v3 main_v7
  main_v8
-- ==== Pre_first_ok.lean ====
abbrev S4096x4096 : Shape := ⟨2, ![4096, 4096]⟩
abbrev S4096x512 : Shape := ⟨2, ![4096, 512]⟩
abbrev S4096x4 : Shape := ⟨2, ![4096, 4]⟩
abbrev S512 : Shape := ⟨1, ![512]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel

variable [Facts]

def fn {F : FTy → Type} [FloatOps F] (main_arg0 : FVec F S4096x4096 .f32) (main_arg1 : FVec F S4096x512 .f32) (main_arg2 : FVec F S4096x4 .f32) (main_arg3 : FVec F S4096x4 .f32) (main_arg4 : FVec F S512 .f32) (main_arg5 : FVec F S512 .f32) (main_arg6 : FVec F S512 .f32) : IVec S_ 1 :=
  let main_cst : FVec F S_ .f32 := constant S_ .f32 0x00000000#32
  let main_v0 : FVec F S4096x4096 .f32 := broadcastInDim S4096x4096 ![] bcast_S_S4096x4096 main_cst
  let main_v1 : IVec S4096x4096 1 := cmpf .oge main_arg0 main_v0
  let main_c : IVec S_ 1 := constantI S_ 1 1#1
  let main_v2 : IVec S_ 1 := (fun x v => Host.reduce IntOp.andi x v reducesTo_S4096x4096_S_d0_1 h_S_) main_v1 main_c
  main_v2
-- ==== Pre_last_ok.lean ====
abbrev S4096x4096 : Shape := ⟨2, ![4096, 4096]⟩
abbrev S4096x128 : Shape := ⟨2, ![4096, 128]⟩
abbrev S4096x1 : Shape := ⟨2, ![4096, 1]⟩
abbrev S128 : Shape := ⟨1, ![128]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel

variable [Facts]

def fn {F : FTy → Type} [FloatOps F] (main_arg0 : FVec F S4096x4096 .f32) (main_arg1 : FVec F S4096x128 .f32) (main_arg2 : FVec F S4096x1 .f32) (main_arg3 : FVec F S4096x1 .f32) (main_arg4 : FVec F S128 .f32) (main_arg5 : FVec F S128 .f32) (main_arg6 : FVec F S128 .f32) : IVec S_ 1 :=
  let main_cst : FVec F S_ .f32 := constant S_ .f32 0x00000000#32
  let main_v0 : FVec F S4096x4096 .f32 := broadcastInDim S4096x4096 ![] bcast_S_S4096x4096 main_cst
  let main_v1 : IVec S4096x4096 1 := cmpf .oge main_arg0 main_v0
  let main_c : IVec S_ 1 := constantI S_ 1 1#1
  let main_v2 : IVec S_ 1 := (fun x v => Host.reduce IntOp.andi x v reducesTo_S4096x4096_S_d0_1 h_S_) main_v1 main_c
  main_v2
-- ==== Pre_middle_ok.lean ====
abbrev S4096x4096 : Shape := ⟨2, ![4096, 4096]⟩
abbrev S4096x512 : Shape := ⟨2, ![4096, 512]⟩
abbrev S4096x4 : Shape := ⟨2, ![4096, 4]⟩
abbrev S512 : Shape := ⟨1, ![512]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel

variable [Facts]

def fn {F : FTy → Type} [FloatOps F] (main_arg0 : FVec F S4096x4096 .f32) (main_arg1 : FVec F S4096x512 .f32) (main_arg2 : FVec F S4096x4 .f32) (main_arg3 : FVec F S4096x4 .f32) (main_arg4 : FVec F S512 .f32) (main_arg5 : FVec F S512 .f32) (main_arg6 : FVec F S512 .f32) (main_arg7 : FVec F S4096x512 .f32) : IVec S_ 1 :=
  let main_cst : FVec F S_ .f32 := constant S_ .f32 0x00000000#32
  let main_v0 : FVec F S4096x4096 .f32 := broadcastInDim S4096x4096 ![] bcast_S_S4096x4096 main_cst
  let main_v1 : IVec S4096x4096 1 := cmpf .oge main_arg0 main_v0
  let main_c : IVec S_ 1 := constantI S_ 1 1#1
  let main_v2 : IVec S_ 1 := (fun x v => Host.reduce IntOp.andi x v reducesTo_S4096x4096_S_d0_1 h_S_) main_v1 main_c
  main_v2
-- ==== Mha.lean ====
abbrev S4096x128 : Shape := ⟨2, ![4096, 128]⟩
abbrev S128x128 : Shape := ⟨2, ![128, 128]⟩
abbrev S128 : Shape := ⟨1, ![128]⟩
abbrev S1x128 : Shape := ⟨2, ![1, 128]⟩
abbrev S512x128 : Shape := ⟨2, ![512, 128]⟩
abbrev S512x8 : Shape := ⟨2, ![512, 8]⟩
abbrev S512x16 : Shape := ⟨2, ![512, 16]⟩
abbrev S512x512 : Shape := ⟨2, ![512, 512]⟩
abbrev S512x1 : Shape := ⟨2, ![512, 1]⟩
abbrev S512 : Shape := ⟨1, ![512]⟩

abbrev nBuf : Space → Nat
  | .hbm => 7
  | .vmem => 13
  | .smem => 0
  | _ => 0

abbrev bufTy : (tb : Table) → Fin (tcTables nBuf tb) → BufTy
  | .hbm, ⟨0, _⟩ => ⟨S4096x128, .f32⟩
  | .hbm, ⟨1, _⟩ => ⟨S4096x128, .f32⟩
  | .hbm, ⟨2, _⟩ => ⟨S4096x128, .f32⟩
  | .hbm, ⟨3, _⟩ => ⟨S128x128, .f32⟩
  | .hbm, ⟨4, _⟩ => ⟨S128, .f32⟩
  | .hbm, ⟨5, _⟩ => ⟨S1x128, .f32⟩
  | .hbm, ⟨6, _⟩ => ⟨S4096x128, .f32⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S128x128, .f32⟩
  | .local _ .vmem, ⟨7, _⟩ => ⟨S1x128, .f32⟩
  | .local _ .vmem, ⟨8, _⟩ => ⟨S512x128, .f32⟩
  | .local _ .vmem, ⟨9, _⟩ => ⟨S512x128, .f32⟩
  | .local _ .vmem, ⟨10, _⟩ => ⟨S512x8, .f32⟩
  | .local _ .vmem, ⟨11, _⟩ => ⟨S512x8, .f32⟩
  | .local _ .vmem, ⟨12, _⟩ => ⟨S512x128, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v264 : BitVec 1 := Scalar.cmpi .eq arg1 c7_i32
  let v265 : BitVec 32 := Scalar.extui v264
  let c0_i32_120 : BitVec 32 := 0#32
  let v266 : BitVec 1 := Scalar.cmpi .ne v265 c0_i32_120
  v266

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== MhaRefIdeal.lean ====
abbrev S4096x128 : Shape := ⟨2, ![4096, 128]⟩
abbrev S128x128 : Shape := ⟨2, ![128, 128]⟩
abbrev S128 : Shape := ⟨1, ![128]⟩
abbrev S4096x8x16 : Shape := ⟨3, ![4096, 8, 16]⟩
abbrev S8x4096x16 : Shape := ⟨3, ![8, 4096, 16]⟩
abbrev S8x4096x4096 : Shape := ⟨3, ![8, 4096, 4096]⟩
abbrev S_ : Shape := ⟨0, ![]⟩
abbrev S8x4096 : Shape := ⟨2, ![8, 4096]⟩
abbrev S8x4096x1 : Shape := ⟨3, ![8, 4096, 1]⟩
abbrev S1x128 : Shape := ⟨2, ![1, 128]⟩

abbrev nBuf : Space → Nat
  | .hbm => 37
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S4096x128, .f32⟩
  | .hbm, ⟨2, _⟩ => ⟨S4096x128, .f32⟩
  | .hbm, ⟨3, _⟩ => ⟨S128x128, .f32⟩
  | .hbm, ⟨4, _⟩ => ⟨S128, .f32⟩
  | .hbm, ⟨5, _⟩ => ⟨S4096x8x16, .f32⟩
  | .hbm, ⟨6, _⟩ => ⟨S8x4096x16, .f32⟩
  | .hbm, ⟨7, _⟩ => ⟨S4096x8x16, .f32⟩
  | .hbm, ⟨8, _⟩ => ⟨S8x4096x16, .f32⟩
  | .hbm, ⟨9, _⟩ => ⟨S4096x8x16, .f32⟩
  | .hbm, ⟨10, _⟩ => ⟨S8x4096x16, .f32⟩
  | .hbm, ⟨11, _⟩ => ⟨S8x4096x4096, .f32⟩
  | .hbm, ⟨12, _⟩ => ⟨S_, .f32⟩
  | .hbm, ⟨13, _⟩ => ⟨S8x4096x4096, .f32⟩
  | .hbm, ⟨14, _⟩ => ⟨S8x4096x4096, .f32⟩
  | .hbm, ⟨15, _⟩ => ⟨S_, .f32⟩
  | .hbm, ⟨16, _⟩ => ⟨S8x4096, .f32⟩
  | .hbm, ⟨17, _⟩ => ⟨S_, .f32⟩
  | .hbm, ⟨18, _⟩ => ⟨S8x4096, .f32⟩
  | .hbm, ⟨19, _⟩ => ⟨S8x4096, .f32⟩
  | .hbm, ⟨20, _⟩ => ⟨S8x4096x1, .f32⟩
  | .hbm, ⟨21, _⟩ => ⟨S8x4096x4096, .f32⟩
  | .hbm, ⟨22, _⟩ => ⟨S8x4096x4096, .f32⟩
  | .hbm, ⟨23, _⟩ => ⟨S8x4096x4096, .f32⟩
  | .hbm, ⟨24, _⟩ => ⟨S_, .f32⟩
  | .hbm, ⟨25, _⟩ => ⟨S8x4096, .f32⟩
  | .hbm, ⟨26, _⟩ => ⟨S8x4096x1, .f32⟩
  | .hbm, ⟨27, _⟩ => ⟨S8x4096x4096, .f32⟩
  | .hbm, ⟨28, _⟩ => ⟨S8x4096x4096, .f32⟩
  | .hbm, ⟨29, _⟩ => ⟨S8x4096x16, .f32⟩
  | .hbm, ⟨30, _⟩ => ⟨S4096x8x16, .f32⟩
  | .hbm, ⟨31, _⟩ => ⟨S4096x128, .f32⟩
  | .hbm, ⟨32, _⟩ => ⟨S128x128, .f32⟩
  | .hbm, ⟨33, _⟩ => ⟨S4096x128, .f32⟩
  | .hbm, ⟨34, _⟩ => ⟨S1x128, .f32⟩
  | .hbm, ⟨35, _⟩ => ⟨S4096x128, .f32⟩
  | .hbm, ⟨36, _⟩ => ⟨S4096x128, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩

abbrev nD : Nat := 1
abbrev τ : Topo := Topo.v7x

variable {F : FTy → Type} [FloatOps F]
-- ==== Qkv.lean ====
abbrev S4096x128 : Shape := ⟨2, ![4096, 128]⟩
abbrev S128x128 : Shape := ⟨2, ![128, 128]⟩
abbrev S128 : Shape := ⟨1, ![128]⟩
abbrev S1x128 : Shape := ⟨2, ![1, 128]⟩
abbrev S512x128 : Shape := ⟨2, ![512, 128]⟩

abbrev nBuf : Space → Nat
  | .hbm => 13
  | .vmem => 14
  | .smem => 0
  | _ => 0

abbrev bufTy : (tb : Table) → Fin (tcTables nBuf tb) → BufTy
  | .hbm, ⟨0, _⟩ => ⟨S4096x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S1x128, .f32⟩
  | .hbm, ⟨8, _⟩ => ⟨S1x128, .f32⟩
  | .hbm, ⟨9, _⟩ => ⟨S1x128, .f32⟩
  | .hbm, ⟨10, _⟩ => ⟨S4096x128, .f32⟩
  | .hbm, ⟨11, _⟩ => ⟨S4096x128, .f32⟩
  | .hbm, ⟨12, _⟩ => ⟨S4096x128, .f32⟩
  | .local _ .vmem, ⟨0, _⟩ => ⟨S512x128, .f32⟩
  | .local _ .vmem, ⟨1, _⟩ => ⟨S512x128, .f32⟩
  | .local _ .vmem, ⟨2, _⟩ => ⟨S128x128, .f32⟩
  | .local _ .vmem, ⟨3, _⟩ => ⟨S1x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== QkvRefIdeal.lean ====
abbrev S4096x128 : Shape := ⟨2, ![4096, 128]⟩
abbrev S128x128 : Shape := ⟨2, ![128, 128]⟩
abbrev S128 : Shape := ⟨1, ![128]⟩
abbrev S1x128 : Shape := ⟨2, ![1, 128]⟩

abbrev nBuf : Space → Nat
  | .hbm => 22
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S4096x128, .f32⟩
  | .hbm, ⟨9, _⟩ => ⟨S1x128, .f32⟩
  | .hbm, ⟨10, _⟩ => ⟨S4096x128, .f32⟩
  | .hbm, ⟨11, _⟩ => ⟨S4096x128, .f32⟩
  | .hbm, ⟨12, _⟩ => ⟨S128x128, .f32⟩
  | .hbm, ⟨13, _⟩ => ⟨S4096x128, .f32⟩
  | .hbm, ⟨14, _⟩ => ⟨S1x128, .f32⟩
  | .hbm, ⟨15, _⟩ => ⟨S4096x128, .f32⟩
  | .hbm, ⟨16, _⟩ => ⟨S4096x128, .f32⟩
  | .hbm, ⟨17, _⟩ => ⟨S128x128, .f32⟩
  | .hbm, ⟨18, _⟩ => ⟨S4096x128, .f32⟩
  | .hbm, ⟨19, _⟩ => ⟨S1x128, .f32⟩
  | .hbm, ⟨20, _⟩ => ⟨S4096x128, .f32⟩
  | .hbm, ⟨21, _⟩ => ⟨S4096x128, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== Pre0.lean ====
abbrev S4096x128 : Shape := ⟨2, ![4096, 128]⟩
abbrev S512x128 : Shape := ⟨2, ![512, 128]⟩
abbrev S4x128 : Shape := ⟨2, ![4, 128]⟩
abbrev S4096x512 : Shape := ⟨2, ![4096, 512]⟩
abbrev S4096x4 : Shape := ⟨2, ![4096, 4]⟩
abbrev S4x4096 : Shape := ⟨2, ![4, 4096]⟩
abbrev S512x512 : Shape := ⟨2, ![512, 512]⟩
abbrev S512x4 : Shape := ⟨2, ![512, 4]⟩
abbrev S4x512 : Shape := ⟨2, ![4, 512]⟩
abbrev S1x128 : Shape := ⟨2, ![1, 128]⟩
abbrev S128 : Shape := ⟨1, ![128]⟩
abbrev S512 : Shape := ⟨1, ![512]⟩
abbrev S512x1 : Shape := ⟨2, ![512, 1]⟩
abbrev S1x512 : Shape := ⟨2, ![1, 512]⟩

abbrev nBuf : Space → Nat
  | .hbm => 8
  | .vmem => 13
  | .smem => 0
  | _ => 0

abbrev bufTy : (tb : Table) → Fin (tcTables nBuf tb) → BufTy
  | .hbm, ⟨0, _⟩ => ⟨S4096x128, .f32⟩
  | .hbm, ⟨1, _⟩ => ⟨S512x128, .f32⟩
  | .hbm, ⟨2, _⟩ => ⟨S4x128, .f32⟩
  | .hbm, ⟨3, _⟩ => ⟨S4x128, .f32⟩
  | .hbm, ⟨4, _⟩ => ⟨S4096x512, .f32⟩
  | .hbm, ⟨5, _⟩ => ⟨S4096x4, .f32⟩
  | .hbm, ⟨6, _⟩ => ⟨S4096x4, .f32⟩
  | .hbm, ⟨7, _⟩ => ⟨S4x4096, .f32⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S4x128, .f32⟩
  | .local _ .vmem, ⟨4, _⟩ => ⟨S4x128, .f32⟩
  | .local _ .vmem, ⟨5, _⟩ => ⟨S512x512, .f32⟩
  | .local _ .vmem, ⟨6, _⟩ => ⟨S512x512, .f32⟩
  | .local _ .vmem, ⟨7, _⟩ => ⟨S512x4, .f32⟩
  | .local _ .vmem, ⟨8, _⟩ => ⟨S512x4, .f32⟩
  | .local _ .vmem, ⟨9, _⟩ => ⟨S512x4, .f32⟩
  | .local _ .vmem, ⟨10, _⟩ => ⟨S512x4, .f32⟩
  | .local _ .vmem, ⟨11, _⟩ => ⟨S4x512, .f32⟩
  | .local _ .vmem, ⟨12, _⟩ => ⟨S4x512, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x4 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x4 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Pre0Ideal.lean ====
abbrev S4096x128 : Shape := ⟨2, ![4096, 128]⟩
abbrev S512x128 : Shape := ⟨2, ![512, 128]⟩
abbrev S4x128 : Shape := ⟨2, ![4, 128]⟩
abbrev S4096x512 : Shape := ⟨2, ![4096, 512]⟩
abbrev S4096x4 : Shape := ⟨2, ![4096, 4]⟩
abbrev S4x4096 : Shape := ⟨2, ![4, 4096]⟩
abbrev S512x512 : Shape := ⟨2, ![512, 512]⟩
abbrev S512x4 : Shape := ⟨2, ![512, 4]⟩
abbrev S4x512 : Shape := ⟨2, ![4, 512]⟩
abbrev S1x128 : Shape := ⟨2, ![1, 128]⟩
abbrev S128 : Shape := ⟨1, ![128]⟩
abbrev S512 : Shape := ⟨1, ![512]⟩
abbrev S512x1 : Shape := ⟨2, ![512, 1]⟩
abbrev S1x512 : Shape := ⟨2, ![1, 512]⟩

abbrev nBuf : Space → Nat
  | .hbm => 8
  | .vmem => 13
  | .smem => 0
  | _ => 0

abbrev bufTy : (tb : Table) → Fin (tcTables nBuf tb) → BufTy
  | .hbm, ⟨0, _⟩ => ⟨S4096x128, .f32⟩
  | .hbm, ⟨1, _⟩ => ⟨S512x128, .f32⟩
  | .hbm, ⟨2, _⟩ => ⟨S4x128, .f32⟩
  | .hbm, ⟨3, _⟩ => ⟨S4x128, .f32⟩
  | .hbm, ⟨4, _⟩ => ⟨S4096x512, .f32⟩
  | .hbm, ⟨5, _⟩ => ⟨S4096x4, .f32⟩
  | .hbm, ⟨6, _⟩ => ⟨S4096x4, .f32⟩
  | .hbm, ⟨7, _⟩ => ⟨S4x4096, .f32⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S4x128, .f32⟩
  | .local _ .vmem, ⟨4, _⟩ => ⟨S4x128, .f32⟩
  | .local _ .vmem, ⟨5, _⟩ => ⟨S512x512, .f32⟩
  | .local _ .vmem, ⟨6, _⟩ => ⟨S512x512, .f32⟩
  | .local _ .vmem, ⟨7, _⟩ => ⟨S512x4, .f32⟩
  | .local _ .vmem, ⟨8, _⟩ => ⟨S512x4, .f32⟩
  | .local _ .vmem, ⟨9, _⟩ => ⟨S512x4, .f32⟩
  | .local _ .vmem, ⟨10, _⟩ => ⟨S512x4, .f32⟩
  | .local _ .vmem, ⟨11, _⟩ => ⟨S4x512, .f32⟩
  | .local _ .vmem, ⟨12, _⟩ => ⟨S4x512, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x4 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x4 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Pre0RefIdeal.lean ====
abbrev S4096x128 : Shape := ⟨2, ![4096, 128]⟩
abbrev S512x128 : Shape := ⟨2, ![512, 128]⟩
abbrev S4x128 : Shape := ⟨2, ![4, 128]⟩
abbrev S128x512 : Shape := ⟨2, ![128, 512]⟩
abbrev S4096x512 : Shape := ⟨2, ![4096, 512]⟩
abbrev S4096x4x128 : Shape := ⟨3, ![4096, 4, 128]⟩
abbrev S1x4x128 : Shape := ⟨3, ![1, 4, 128]⟩
abbrev S_ : Shape := ⟨0, ![]⟩
abbrev S4096x4 : Shape := ⟨2, ![4096, 4]⟩
abbrev S4x4096 : Shape := ⟨2, ![4, 4096]⟩

abbrev nBuf : Space → Nat
  | .hbm => 18
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S512x128, .f32⟩
  | .hbm, ⟨2, _⟩ => ⟨S4x128, .f32⟩
  | .hbm, ⟨3, _⟩ => ⟨S4x128, .f32⟩
  | .hbm, ⟨4, _⟩ => ⟨S128x512, .f32⟩
  | .hbm, ⟨5, _⟩ => ⟨S4096x512, .f32⟩
  | .hbm, ⟨6, _⟩ => ⟨S4096x4x128, .f32⟩
  | .hbm, ⟨7, _⟩ => ⟨S1x4x128, .f32⟩
  | .hbm, ⟨8, _⟩ => ⟨S4096x4x128, .f32⟩
  | .hbm, ⟨9, _⟩ => ⟨S4096x4x128, .f32⟩
  | .hbm, ⟨10, _⟩ => ⟨S_, .f32⟩
  | .hbm, ⟨11, _⟩ => ⟨S4096x4, .f32⟩
  | .hbm, ⟨12, _⟩ => ⟨S1x4x128, .f32⟩
  | .hbm, ⟨13, _⟩ => ⟨S4096x4x128, .f32⟩
  | .hbm, ⟨14, _⟩ => ⟨S4096x4x128, .f32⟩
  | .hbm, ⟨15, _⟩ => ⟨S_, .f32⟩
  | .hbm, ⟨16, _⟩ => ⟨S4096x4, .f32⟩
  | .hbm, ⟨17, _⟩ => ⟨S4x4096, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩

abbrev nD : Nat := 1
abbrev τ : Topo := Topo.v7x

variable {F : FTy → Type} [FloatOps F]
-- ==== Pre1.lean ====
abbrev S4096x512 : Shape := ⟨2, ![4096, 512]⟩
abbrev S512x512 : Shape := ⟨2, ![512, 512]⟩
abbrev S4x128 : Shape := ⟨2, ![4, 128]⟩
abbrev S4096x4 : Shape := ⟨2, ![4096, 4]⟩
abbrev S4x4096 : Shape := ⟨2, ![4, 4096]⟩
abbrev S512x4 : Shape := ⟨2, ![512, 4]⟩
abbrev S4x512 : Shape := ⟨2, ![4, 512]⟩
abbrev S512x128 : Shape := ⟨2, ![512, 128]⟩
abbrev S1x128 : Shape := ⟨2, ![1, 128]⟩
abbrev S128 : Shape := ⟨1, ![128]⟩
abbrev S512 : Shape := ⟨1, ![512]⟩
abbrev S512x1 : Shape := ⟨2, ![512, 1]⟩
abbrev S1x512 : Shape := ⟨2, ![1, 512]⟩

abbrev nBuf : Space → Nat
  | .hbm => 8
  | .vmem => 13
  | .smem => 0
  | _ => 0

abbrev bufTy : (tb : Table) → Fin (tcTables nBuf tb) → BufTy
  | .hbm, ⟨0, _⟩ => ⟨S4096x512, .f32⟩
  | .hbm, ⟨1, _⟩ => ⟨S512x512, .f32⟩
  | .hbm, ⟨2, _⟩ => ⟨S4x128, .f32⟩
  | .hbm, ⟨3, _⟩ => ⟨S4x128, .f32⟩
  | .hbm, ⟨4, _⟩ => ⟨S4096x512, .f32⟩
  | .hbm, ⟨5, _⟩ => ⟨S4096x4, .f32⟩
  | .hbm, ⟨6, _⟩ => ⟨S4096x4, .f32⟩
  | .hbm, ⟨7, _⟩ => ⟨S4x4096, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S4x128, .f32⟩
  | .local _ .vmem, ⟨4, _⟩ => ⟨S4x128, .f32⟩
  | .local _ .vmem, ⟨5, _⟩ => ⟨S512x512, .f32⟩
  | .local _ .vmem, ⟨6, _⟩ => ⟨S512x512, .f32⟩
  | .local _ .vmem, ⟨7, _⟩ => ⟨S512x4, .f32⟩
  | .local _ .vmem, ⟨8, _⟩ => ⟨S512x4, .f32⟩
  | .local _ .vmem, ⟨9, _⟩ => ⟨S512x4, .f32⟩
  | .local _ .vmem, ⟨10, _⟩ => ⟨S512x4, .f32⟩
  | .local _ .vmem, ⟨11, _⟩ => ⟨S4x512, .f32⟩
  | .local _ .vmem, ⟨12, _⟩ => ⟨S4x512, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x4 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x4 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Pre1RefIdeal.lean ====
abbrev S4096x512 : Shape := ⟨2, ![4096, 512]⟩
abbrev S512x512 : Shape := ⟨2, ![512, 512]⟩
abbrev S4x128 : Shape := ⟨2, ![4, 128]⟩
abbrev S4096x4x128 : Shape := ⟨3, ![4096, 4, 128]⟩
abbrev S1x4x128 : Shape := ⟨3, ![1, 4, 128]⟩
abbrev S_ : Shape := ⟨0, ![]⟩
abbrev S4096x4 : Shape := ⟨2, ![4096, 4]⟩
abbrev S4x4096 : Shape := ⟨2, ![4, 4096]⟩

abbrev nBuf : Space → Nat
  | .hbm => 18
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S512x512, .f32⟩
  | .hbm, ⟨2, _⟩ => ⟨S4x128, .f32⟩
  | .hbm, ⟨3, _⟩ => ⟨S4x128, .f32⟩
  | .hbm, ⟨4, _⟩ => ⟨S512x512, .f32⟩
  | .hbm, ⟨5, _⟩ => ⟨S4096x512, .f32⟩
  | .hbm, ⟨6, _⟩ => ⟨S4096x4x128, .f32⟩
  | .hbm, ⟨7, _⟩ => ⟨S1x4x128, .f32⟩
  | .hbm, ⟨8, _⟩ => ⟨S4096x4x128, .f32⟩
  | .hbm, ⟨9, _⟩ => ⟨S4096x4x128, .f32⟩
  | .hbm, ⟨10, _⟩ => ⟨S_, .f32⟩
  | .hbm, ⟨11, _⟩ => ⟨S4096x4, .f32⟩
  | .hbm, ⟨12, _⟩ => ⟨S1x4x128, .f32⟩
  | .hbm, ⟨13, _⟩ => ⟨S4096x4x128, .f32⟩
  | .hbm, ⟨14, _⟩ => ⟨S4096x4x128, .f32⟩
  | .hbm, ⟨15, _⟩ => ⟨S_, .f32⟩
  | .hbm, ⟨16, _⟩ => ⟨S4096x4, .f32⟩
  | .hbm, ⟨17, _⟩ => ⟨S4x4096, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩

abbrev nD : Nat := 1
abbrev τ : Topo := Topo.v7x

variable {F : FTy → Type} [FloatOps F]
-- ==== Pre2.lean ====
abbrev S4096x512 : Shape := ⟨2, ![4096, 512]⟩
abbrev S128x512 : Shape := ⟨2, ![128, 512]⟩
abbrev S1x128 : Shape := ⟨2, ![1, 128]⟩
abbrev S4096x128 : Shape := ⟨2, ![4096, 128]⟩
abbrev S4096x1 : Shape := ⟨2, ![4096, 1]⟩
abbrev S1x4096 : Shape := ⟨2, ![1, 4096]⟩
abbrev S512x512 : Shape := ⟨2, ![512, 512]⟩
abbrev S512x128 : Shape := ⟨2, ![512, 128]⟩
abbrev S512x1 : Shape := ⟨2, ![512, 1]⟩
abbrev S1x512 : Shape := ⟨2, ![1, 512]⟩
abbrev S128 : Shape := ⟨1, ![128]⟩
abbrev S512 : Shape := ⟨1, ![512]⟩

abbrev nBuf : Space → Nat
  | .hbm => 8
  | .vmem => 13
  | .smem => 0
  | _ => 0

abbrev bufTy : (tb : Table) → Fin (tcTables nBuf tb) → BufTy
  | .hbm, ⟨0, _⟩ => ⟨S4096x512, .f32⟩
  | .hbm, ⟨1, _⟩ => ⟨S128x512, .f32⟩
  | .hbm, ⟨2, _⟩ => ⟨S1x128, .f32⟩
  | .hbm, ⟨3, _⟩ => ⟨S1x128, .f32⟩
  | .hbm, ⟨4, _⟩ => ⟨S4096x128, .f32⟩
  | .hbm, ⟨5, _⟩ => ⟨S4096x1, .f32⟩
  | .hbm, ⟨6, _⟩ => ⟨S4096x1, .f32⟩
  | .hbm, ⟨7, _⟩ => ⟨S1x4096, .f32⟩
  | .local _ .vmem, ⟨0, _⟩ => ⟨S512x512, .f32⟩
  | .local _ .vmem, ⟨1, _⟩ => ⟨S512x512, .f32⟩
  | .local _ .vmem, ⟨2, _⟩ => ⟨S128x512, .f32⟩
  | .local _ .vmem, ⟨3, _⟩ => ⟨S1x128, .f32⟩
  | .local _ .vmem, ⟨4, _⟩ => ⟨S1x128, .f32⟩
  | .local _ .vmem, ⟨5, _⟩ => ⟨S512x128, .f32⟩
  | .local _ .vmem, ⟨6, _⟩ => ⟨S512x128, .f32⟩
  | .local _ .vmem, ⟨7, _⟩ => ⟨S512x1, .f32⟩
  | .local _ .vmem, ⟨8, _⟩ => ⟨S512x1, .f32⟩
  | .local _ .vmem, ⟨9, _⟩ => ⟨S512x1, .f32⟩
  | .local _ .vmem, ⟨10, _⟩ => ⟨S512x1, .f32⟩
  | .local _ .vmem, ⟨11, _⟩ => ⟨S1x512, .f32⟩
  | .local _ .vmem, ⟨12, _⟩ => ⟨S1x512, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Pre2RefIdeal.lean ====
abbrev S4096x512 : Shape := ⟨2, ![4096, 512]⟩
abbrev S128x512 : Shape := ⟨2, ![128, 512]⟩
abbrev S1x128 : Shape := ⟨2, ![1, 128]⟩
abbrev S512x128 : Shape := ⟨2, ![512, 128]⟩
abbrev S4096x128 : Shape := ⟨2, ![4096, 128]⟩
abbrev S4096x1x128 : Shape := ⟨3, ![4096, 1, 128]⟩
abbrev S1x1x128 : Shape := ⟨3, ![1, 1, 128]⟩
abbrev S_ : Shape := ⟨0, ![]⟩
abbrev S4096x1 : Shape := ⟨2, ![4096, 1]⟩
abbrev S1x4096 : Shape := ⟨2, ![1, 4096]⟩

abbrev nBuf : Space → Nat
  | .hbm => 18
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S128x512, .f32⟩
  | .hbm, ⟨2, _⟩ => ⟨S1x128, .f32⟩
  | .hbm, ⟨3, _⟩ => ⟨S1x128, .f32⟩
  | .hbm, ⟨4, _⟩ => ⟨S512x128, .f32⟩
  | .hbm, ⟨5, _⟩ => ⟨S4096x128, .f32⟩
  | .hbm, ⟨6, _⟩ => ⟨S4096x1x128, .f32⟩
  | .hbm, ⟨7, _⟩ => ⟨S1x1x128, .f32⟩
  | .hbm, ⟨8, _⟩ => ⟨S4096x1x128, .f32⟩
  | .hbm, ⟨9, _⟩ => ⟨S4096x1x128, .f32⟩
  | .hbm, ⟨10, _⟩ => ⟨S_, .f32⟩
  | .hbm, ⟨11, _⟩ => ⟨S4096x1, .f32⟩
  | .hbm, ⟨12, _⟩ => ⟨S1x1x128, .f32⟩
  | .hbm, ⟨13, _⟩ => ⟨S4096x1x128, .f32⟩
  | .hbm, ⟨14, _⟩ => ⟨S4096x1x128, .f32⟩
  | .hbm, ⟨15, _⟩ => ⟨S_, .f32⟩
  | .hbm, ⟨16, _⟩ => ⟨S4096x1, .f32⟩
  | .hbm, ⟨17, _⟩ => ⟨S1x4096, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩

abbrev nD : Nat := 1
abbrev τ : Topo := Topo.v7x

variable {F : FTy → Type} [FloatOps F]
-- ==== Flash0.lean ====
abbrev S4096x4096 : Shape := ⟨2, ![4096, 4096]⟩
abbrev S4096x512 : Shape := ⟨2, ![4096, 512]⟩
abbrev S4096x4 : Shape := ⟨2, ![4096, 4]⟩
abbrev S512 : Shape := ⟨1, ![512]⟩
abbrev S4x4096 : Shape := ⟨2, ![4, 4096]⟩
abbrev S1x512 : Shape := ⟨2, ![1, 512]⟩
abbrev S_ : Shape := ⟨0, ![]⟩
abbrev S512x512 : Shape := ⟨2, ![512, 512]⟩
abbrev S512x4 : Shape := ⟨2, ![512, 4]⟩
abbrev S4x512 : Shape := ⟨2, ![4, 512]⟩
abbrev S4 : Shape := ⟨1, ![4]⟩
abbrev S1x4 : Shape := ⟨2, ![1, 4]⟩
abbrev S512x1 : Shape := ⟨2, ![512, 1]⟩
abbrev S512x128 : Shape := ⟨2, ![512, 128]⟩

abbrev nBuf : Space → Nat
  | .hbm => 14
  | .vmem => 18
  | .smem => 0
  | _ => 0

abbrev bufTy : (tb : Table) → Fin (tcTables nBuf tb) → BufTy
  | .hbm, ⟨0, _⟩ => ⟨S4096x4096, .f32⟩
  | .hbm, ⟨1, _⟩ => ⟨S4096x512, .f32⟩
  | .hbm, ⟨2, _⟩ => ⟨S4096x4, .f32⟩
  | .hbm, ⟨3, _⟩ => ⟨S4096x4, .f32⟩
  | .hbm, ⟨4, _⟩ => ⟨S512, .f32⟩
  | .hbm, ⟨5, _⟩ => ⟨S512, .f32⟩
  | .hbm, ⟨6, _⟩ => ⟨S512, .f32⟩
  | .hbm, ⟨7, _⟩ => ⟨S4x4096, .f32⟩
  | .hbm, ⟨8, _⟩ => ⟨S1x512, .f32⟩
  | .hbm, ⟨9, _⟩ => ⟨S1x512, .f32⟩
  | .hbm, ⟨10, _⟩ => ⟨S1x512, .f32⟩
  | .hbm, ⟨11, _⟩ => ⟨S_, .f32⟩
  | .hbm, ⟨12, _⟩ => ⟨S4096x512, .f32⟩
  | .hbm, ⟨13, _⟩ => ⟨S4096x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S4096x4, .f32⟩
  | .local _ .vmem, ⟨5, _⟩ => ⟨S512x4, .f32⟩
  | .local _ .vmem, ⟨6, _⟩ => ⟨S512x4, .f32⟩
  | .local _ .vmem, ⟨7, _⟩ => ⟨S4x512, .f32⟩
  | .local _ .vmem, ⟨8, _⟩ => ⟨S4x512, .f32⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S512x512, .f32⟩
  | .local _ .vmem, ⟨17, _⟩ => ⟨S512x4, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v164 : BitVec 1 := Scalar.cmpi .eq arg1 c7_i32
  let v165 : BitVec 32 := Scalar.extui v164
  let c0_i32_55 : BitVec 32 := 0#32
  let v166 : BitVec 1 := Scalar.cmpi .ne v165 c0_i32_55
  v166

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S4096x4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x4 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S4x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== Flash0RefIdeal.lean ====
abbrev S4096x4096 : Shape := ⟨2, ![4096, 4096]⟩
abbrev S4096x512 : Shape := ⟨2, ![4096, 512]⟩
abbrev S4096x4 : Shape := ⟨2, ![4096, 4]⟩
abbrev S512 : Shape := ⟨1, ![512]⟩
abbrev S4x4096 : Shape := ⟨2, ![4, 4096]⟩
abbrev S4x4096x1 : Shape := ⟨3, ![4, 4096, 1]⟩
abbrev S4x1x4096 : Shape := ⟨3, ![4, 1, 4096]⟩
abbrev S4x4096x4096 : Shape := ⟨3, ![4, 4096, 4096]⟩
abbrev S_ : Shape := ⟨0, ![]⟩
abbrev S1x4096x4096 : Shape := ⟨3, ![1, 4096, 4096]⟩
abbrev S4096x4x128 : Shape := ⟨3, ![4096, 4, 128]⟩
abbrev S4x128x4096 : Shape := ⟨3, ![4, 128, 4096]⟩
abbrev S1x512 : Shape := ⟨2, ![1, 512]⟩
abbrev S4096 : Shape := ⟨1, ![4096]⟩
abbrev S4096x1 : Shape := ⟨2, ![4096, 1]⟩

abbrev nBuf : Space → Nat
  | .hbm => 105
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x512, .f32⟩
  | .hbm, ⟨2, _⟩ => ⟨S4096x4, .f32⟩
  | .hbm, ⟨3, _⟩ => ⟨S4096x4, .f32⟩
  | .hbm, ⟨4, _⟩ => ⟨S512, .f32⟩
  | .hbm, ⟨5, _⟩ => ⟨S512, .f32⟩
  | .hbm, ⟨6, _⟩ => ⟨S512, .f32⟩
  | .hbm, ⟨7, _⟩ => ⟨S4x4096, .f32⟩
  | .hbm, ⟨8, _⟩ => ⟨S4x4096x1, .f32⟩
  | .hbm, ⟨9, _⟩ => ⟨S4x4096, .f32⟩
  | .hbm, ⟨10, _⟩ => ⟨S4x1x4096, .f32⟩
  | .hbm, ⟨11, _⟩ => ⟨S4x4096x4096, .f32⟩
  | .hbm, ⟨12, _⟩ => ⟨S4x4096x4096, .f32⟩
  | .hbm, ⟨13, _⟩ => ⟨S4x4096x4096, .f32⟩
  | .hbm, ⟨14, _⟩ => ⟨S_, .f32⟩
  | .hbm, ⟨15, _⟩ => ⟨S_, .f32⟩
  | .hbm, ⟨16, _⟩ => ⟨S4x4096x4096, .f32⟩
  | .hbm, ⟨17, _⟩ => ⟨S4x4096x4096, .i1⟩
  | .hbm, ⟨18, _⟩ => ⟨S_, .f32⟩
  | .hbm, ⟨19, _⟩ => ⟨S4x4096x4096, .f32⟩
  | .hbm, ⟨20, _⟩ => ⟨S4x4096x4096, .f32⟩
  | .hbm, ⟨21, _⟩ => ⟨S4x4096x4096, .f32⟩
  | .hbm, ⟨22, _⟩ => ⟨S1x4096x4096, .f32⟩
  | .hbm, ⟨23, _⟩ => ⟨S_, .f32⟩
  | .hbm, ⟨24, _⟩ => ⟨S4x4096, .f32⟩
  | .hbm, ⟨25, _⟩ => ⟨S4x4096x1, .f32⟩
  | .hbm, ⟨26, _⟩ => ⟨S4x4096x4096, .f32⟩
  | .hbm, ⟨27, _⟩ => ⟨S4x4096x4096, .f32⟩
  | .hbm, ⟨28, _⟩ => ⟨S4x4096x4096, .f32⟩
  | .hbm, ⟨29, _⟩ => ⟨S4x4096x4096, .f32⟩
  | .hbm, ⟨30, _⟩ => ⟨S4x4096x4096, .f32⟩
  | .hbm, ⟨31, _⟩ => ⟨S_, .f32⟩
  | .hbm, ⟨32, _⟩ => ⟨S4x4096, .f32⟩
  | .hbm, ⟨33, _⟩ => ⟨S4x4096x1, .f32⟩
  | .hbm, ⟨34, _⟩ => ⟨S_, .f32⟩
  | .hbm, ⟨35, _⟩ => ⟨S4x4096x1, .f32⟩
  | .hbm, ⟨36, _⟩ => ⟨S4x4096x1, .f32⟩
  | .hbm, ⟨37, _⟩ => ⟨S4x4096x4096, .f32⟩
  | .hbm, ⟨38, _⟩ => ⟨S4x4096x4096, .f32⟩
  | .hbm, ⟨39, _⟩ => ⟨S4096x4x128, .f32⟩
  | .hbm, ⟨40, _⟩ => ⟨S4x128x4096, .f32⟩
  | .hbm, ⟨41, _⟩ => ⟨S4096x4x128, .f32⟩
  | .hbm, ⟨42, _⟩ => ⟨S4096x512, .f32⟩
  | .hbm, ⟨43, _⟩ => ⟨S1x512, .f32⟩
  | .hbm, ⟨44, _⟩ => ⟨S4096x512, .f32⟩
  | .hbm, ⟨45, _⟩ => ⟨S4096x512, .f32⟩
  | .hbm, ⟨46, _⟩ => ⟨S_, .f32⟩
  | .hbm, ⟨47, _⟩ => ⟨S4096x512, .f32⟩
  | .hbm, ⟨48, _⟩ => ⟨S4096x512, .i1⟩
  | .hbm, ⟨49, _⟩ => ⟨S_, .f32⟩
  | .hbm, ⟨50, _⟩ => ⟨S4096x512, .f32⟩
  | .hbm, ⟨51, _⟩ => ⟨S4096x512, .i1⟩
  | .hbm, ⟨52, _⟩ => ⟨S_, .f32⟩
  | .hbm, ⟨53, _⟩ => ⟨S_, .f32⟩
  | .hbm, ⟨54, _⟩ => ⟨S4096x512, .f32⟩
  | .hbm, ⟨55, _⟩ => ⟨S4096x512, .f32⟩
  | .hbm, ⟨56, _⟩ => ⟨S4096x512, .f32⟩
  | .hbm, ⟨57, _⟩ => ⟨S_, .f32⟩
  | .hbm, ⟨58, _⟩ => ⟨S4096x512, .f32⟩
  | .hbm, ⟨59, _⟩ => ⟨S4096x512, .f32⟩
  | .hbm, ⟨60, _⟩ => ⟨S4096x512, .f32⟩
  | .hbm, ⟨61, _⟩ => ⟨S_, .f32⟩
  | .hbm, ⟨62, _⟩ => ⟨S4096, .f32⟩
  | .hbm, ⟨63, _⟩ => ⟨S4096x1, .f32⟩
  | .hbm, ⟨64, _⟩ => ⟨S_, .f32⟩
  | .hbm, ⟨65, _⟩ => ⟨S4096x1, .f32⟩
  | .hbm, ⟨66, _⟩ => ⟨S4096x1, .f32⟩
  | .hbm, ⟨67, _⟩ => ⟨S_, .i32⟩
  | .hbm, ⟨68, _⟩ => ⟨S_, .f32⟩
  | .hbm, ⟨69, _⟩ => ⟨S4096, .f32⟩
  | .hbm, ⟨70, _⟩ => ⟨S4096x1, .f32⟩
  | .hbm, ⟨71, _⟩ => ⟨S_, .f32⟩
  | .hbm, ⟨72, _⟩ => ⟨S4096x1, .f32⟩
  | .hbm, ⟨73, _⟩ => ⟨S4096x1, .f32⟩
  | .hbm, ⟨74, _⟩ => ⟨S4096x512, .f32⟩
  | .hbm, ⟨75, _⟩ => ⟨S4096x512, .f32⟩
  | .hbm, ⟨76, _⟩ => ⟨S4096x512, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S4096, .f32⟩
  | .hbm, ⟨82, _⟩ => ⟨S4096x1, .f32⟩
  | .hbm, ⟨83, _⟩ => ⟨S4096x1, .f32⟩
  | .hbm, ⟨84, _⟩ => ⟨S4096x1, .f32⟩
  | .hbm, ⟨85, _⟩ => ⟨S_, .f32⟩
  | .hbm, ⟨86, _⟩ => ⟨S_, .i1⟩
  | .hbm, ⟨87, _⟩ => ⟨S_, .f32⟩
  | .hbm, ⟨88, _⟩ => ⟨S_, .f32⟩
  | .hbm, ⟨89, _⟩ => ⟨S4096x1, .f32⟩
  | .hbm, ⟨90, _⟩ => ⟨S4096x1, .f32⟩
  | .hbm, ⟨91, _⟩ => ⟨S4096x512, .f32⟩
  | .hbm, ⟨92, _⟩ => ⟨S4096x512, .f32⟩
  | .hbm, ⟨93, _⟩ => ⟨S_, .f32⟩
  | .hbm, ⟨94, _⟩ => ⟨S4096x1, .f32⟩
  | .hbm, ⟨95, _⟩ => ⟨S4096x1, .f32⟩
  | .hbm, ⟨96, _⟩ => ⟨S4096x1, .f32⟩
  | .hbm, ⟨97, _⟩ => ⟨S4096x512, .f32⟩
  | .hbm, ⟨98, _⟩ => ⟨S4096x512, .f32⟩
  | .hbm, ⟨99, _⟩ => ⟨S1x512, .f32⟩
  | .hbm, ⟨100, _⟩ => ⟨S4096x512, .f32⟩
  | .hbm, ⟨101, _⟩ => ⟨S4096x512, .f32⟩
  | .hbm, ⟨102, _⟩ => ⟨S1x512, .f32⟩
  | .hbm, ⟨103, _⟩ => ⟨S4096x512, .f32⟩
  | .hbm, ⟨104, _⟩ => ⟨S4096x512, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_call0_cst : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_v7 : Ref sig .tc := ⟨.hbm, 21, rfl⟩
abbrev main_v8 : Ref sig .tc := ⟨.hbm, 22, rfl⟩
abbrev main_cst_0 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_1 : Ref sig .tc := ⟨.hbm, 31, rfl⟩
abbrev main_v16 : Ref sig .tc := ⟨.hbm, 32, rfl⟩
abbrev main_v17 : Ref sig .tc := ⟨.hbm, 33, rfl⟩
abbrev main_cst_2 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_call1_cst : Ref sig .tc := ⟨.hbm, 46, rfl⟩
abbrev main_call1_v0 : Ref sig .tc := ⟨.hbm, 47, rfl⟩
abbrev main_call1_v1 : Ref sig .tc := ⟨.hbm, 48, rfl⟩
abbrev main_call1_cst_0 : Ref sig .tc := ⟨.hbm, 49, rfl⟩
abbrev main_call1_v2 : Ref sig .tc := ⟨.hbm, 50, rfl⟩
abbrev main_call1_v3 : Ref sig .tc := ⟨.hbm, 51, rfl⟩
abbrev main_call1_cst_1 : Ref sig .tc := ⟨.hbm, 52, rfl⟩
abbrev main_call1_call0_v0 : Ref sig .tc := ⟨.hbm, 53, rfl⟩
abbrev main_call1_call0_v1 : Ref sig .tc := ⟨.hbm, 54, rfl⟩
abbrev main_call1_v4 : Ref sig .tc := ⟨.hbm, 55, rfl⟩
abbrev main_call1_v5 : Ref sig .tc := ⟨.hbm, 56, rfl⟩
abbrev main_call1_cst_2 : Ref sig .tc := ⟨.hbm, 57, rfl⟩
abbrev main_call1_v6 : Ref sig .tc := ⟨.hbm, 58, rfl⟩
abbrev main_call1_v7 : Ref sig .tc := ⟨.hbm, 59, rfl⟩
abbrev main_v29 : Ref sig .tc := ⟨.hbm, 60, rfl⟩
abbrev main_cst_3 : Ref sig .tc := ⟨.hbm, 61, rfl⟩
abbrev main_v30 : Ref sig .tc := ⟨.hbm, 62, rfl⟩
abbrev main_v31 : Ref sig .tc := ⟨.hbm, 63, rfl⟩
abbrev main_cst_4 : Ref sig .tc := ⟨.hbm, 64, rfl⟩
abbrev main_v32 : Ref sig .tc := ⟨.hbm, 65, rfl⟩
abbrev main_v33 : Ref sig .tc := ⟨.hbm, 66, rfl⟩
abbrev main_c : Ref sig .tc := ⟨.hbm, 67, rfl⟩
abbrev main_call2_cst : Ref sig .tc := ⟨.hbm, 68, rfl⟩
abbrev main_call2_v0 : Ref sig .tc := ⟨.hbm, 69, rfl⟩
abbrev main_call2_v1 : Ref sig .tc := ⟨.hbm, 70, rfl⟩
abbrev main_call2_cst_0 : Ref sig .tc := ⟨.hbm, 71, rfl⟩
abbrev main_call2_v2 : Ref sig .tc := ⟨.hbm, 72, rfl⟩
abbrev main_call2_v3 : Ref sig .tc := ⟨.hbm, 73, rfl⟩
abbrev main_call2_v4 : Ref sig .tc := ⟨.hbm, 74, rfl⟩
abbrev main_call2_v5 : Ref sig .tc := ⟨.hbm, 75, rfl⟩
abbrev main_call2_v6 : Ref sig .tc := ⟨.hbm, 76, rfl⟩
abbrev main_call2_v7 : Ref sig .tc := ⟨.hbm, 77, rfl⟩
abbrev main_call2_cst_1 : Ref sig .tc := ⟨.hbm, 78, rfl⟩
abbrev main_call2_v8 : Ref sig .tc := ⟨.hbm, 79, rfl⟩
abbrev main_call2_cst_2 : Ref sig .tc := ⟨.hbm, 80, rfl⟩
abbrev main_call2_v9 : Ref sig .tc := ⟨.hbm, 81, rfl⟩
abbrev main_call2_v10 : Ref sig .tc := ⟨.hbm, 82, rfl⟩
abbrev main_call2_v11 : Ref sig .tc := ⟨.hbm, 83, rfl⟩
abbrev main_call2_v12 : Ref sig .tc := ⟨.hbm, 84, rfl⟩
abbrev main_call2_cst_3 : Ref sig .tc := ⟨.hbm, 85, rfl⟩
abbrev main_call2_v13 : Ref sig .tc := ⟨.hbm, 86, rfl⟩
abbrev main_call2_cst_4 : Ref sig .tc := ⟨.hbm, 87, rfl⟩
abbrev main_call2_call0_v0 : Ref sig .tc := ⟨.hbm, 88, rfl⟩
abbrev main_call2_call0_v1 : Ref sig .tc := ⟨.hbm, 89, rfl⟩
abbrev main_v34 : Ref sig .tc := ⟨.hbm, 90, rfl⟩
abbrev main_v35 : Ref sig .tc := ⟨.hbm, 91, rfl⟩
abbrev main_v36 : Ref sig .tc := ⟨.hbm, 92, rfl⟩
abbrev main_cst_5 : Ref sig .tc := ⟨.hbm, 93, rfl⟩
abbrev main_v37 : Ref sig .tc := ⟨.hbm, 94, rfl⟩
abbrev main_v38 : Ref sig .tc := ⟨.hbm, 95, rfl⟩
abbrev main_v39 : Ref sig .tc := ⟨.hbm, 96, rfl⟩
abbrev main_v40 : Ref sig .tc := ⟨.hbm, 97, rfl⟩
abbrev main_v41 : Ref sig .tc := ⟨.hbm, 98, rfl⟩
abbrev main_v42 : Ref sig .tc := ⟨.hbm, 99, rfl⟩
abbrev main_v43 : Ref sig .tc := ⟨.hbm, 100, rfl⟩
abbrev main_v44 : Ref sig .tc := ⟨.hbm, 101, rfl⟩
abbrev main_v45 : Ref sig .tc := ⟨.hbm, 102, rfl⟩
abbrev main_v46 : Ref sig .tc := ⟨.hbm, 103, rfl⟩
abbrev main_v47 : Ref sig .tc := ⟨.hbm, 104, rfl⟩

abbrev nD : Nat := 1
abbrev τ : Topo := Topo.v7x

variable {F : FTy → Type} [FloatOps F]
-- ==== Flash1.lean ====
abbrev S4096x4096 : Shape := ⟨2, ![4096, 4096]⟩
abbrev S4096x512 : Shape := ⟨2, ![4096, 512]⟩
abbrev S4096x4 : Shape := ⟨2, ![4096, 4]⟩
abbrev S512 : Shape := ⟨1, ![512]⟩
abbrev S4x4096 : Shape := ⟨2, ![4, 4096]⟩
abbrev S1x512 : Shape := ⟨2, ![1, 512]⟩
abbrev S512x512 : Shape := ⟨2, ![512, 512]⟩
abbrev S512x4 : Shape := ⟨2, ![512, 4]⟩
abbrev S4x512 : Shape := ⟨2, ![4, 512]⟩
abbrev S4 : Shape := ⟨1, ![4]⟩
abbrev S1x4 : Shape := ⟨2, ![1, 4]⟩
abbrev S512x1 : Shape := ⟨2, ![512, 1]⟩
abbrev S512x128 : Shape := ⟨2, ![512, 128]⟩

abbrev nBuf : Space → Nat
  | .hbm => 13
  | .vmem => 18
  | .smem => 0
  | _ => 0

abbrev bufTy : (tb : Table) → Fin (tcTables nBuf tb) → BufTy
  | .hbm, ⟨0, _⟩ => ⟨S4096x4096, .f32⟩
  | .hbm, ⟨1, _⟩ => ⟨S4096x512, .f32⟩
  | .hbm, ⟨2, _⟩ => ⟨S4096x4, .f32⟩
  | .hbm, ⟨3, _⟩ => ⟨S4096x4, .f32⟩
  | .hbm, ⟨4, _⟩ => ⟨S512, .f32⟩
  | .hbm, ⟨5, _⟩ => ⟨S512, .f32⟩
  | .hbm, ⟨6, _⟩ => ⟨S512, .f32⟩
  | .hbm, ⟨7, _⟩ => ⟨S4096x512, .f32⟩
  | .hbm, ⟨8, _⟩ => ⟨S4x4096, .f32⟩
  | .hbm, ⟨9, _⟩ => ⟨S1x512, .f32⟩
  | .hbm, ⟨10, _⟩ => ⟨S1x512, .f32⟩
  | .hbm, ⟨11, _⟩ => ⟨S1x512, .f32⟩
  | .hbm, ⟨12, _⟩ => ⟨S4096x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S4096x4, .f32⟩
  | .local _ .vmem, ⟨5, _⟩ => ⟨S512x4, .f32⟩
  | .local _ .vmem, ⟨6, _⟩ => ⟨S512x4, .f32⟩
  | .local _ .vmem, ⟨7, _⟩ => ⟨S4x512, .f32⟩
  | .local _ .vmem, ⟨8, _⟩ => ⟨S4x512, .f32⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S512x512, .f32⟩
  | .local _ .vmem, ⟨17, _⟩ => ⟨S512x4, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v164 : BitVec 1 := Scalar.cmpi .eq arg1 c7_i32
  let v165 : BitVec 32 := Scalar.extui v164
  let c0_i32_55 : BitVec 32 := 0#32
  let v166 : BitVec 1 := Scalar.cmpi .ne v165 c0_i32_55
  v166

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S4096x4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x4 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S4x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== Flash1RefIdeal.lean ====
abbrev S4096x4096 : Shape := ⟨2, ![4096, 4096]⟩
abbrev S4096x512 : Shape := ⟨2, ![4096, 512]⟩
abbrev S4096x4 : Shape := ⟨2, ![4096, 4]⟩
abbrev S512 : Shape := ⟨1, ![512]⟩
abbrev S4x4096 : Shape := ⟨2, ![4, 4096]⟩
abbrev S4x4096x1 : Shape := ⟨3, ![4, 4096, 1]⟩
abbrev S4x1x4096 : Shape := ⟨3, ![4, 1, 4096]⟩
abbrev S4x4096x4096 : Shape := ⟨3, ![4, 4096, 4096]⟩
abbrev S_ : Shape := ⟨0, ![]⟩
abbrev S1x4096x4096 : Shape := ⟨3, ![1, 4096, 4096]⟩
abbrev S4096x4x128 : Shape := ⟨3, ![4096, 4, 128]⟩
abbrev S4x128x4096 : Shape := ⟨3, ![4, 128, 4096]⟩
abbrev S1x512 : Shape := ⟨2, ![1, 512]⟩
abbrev S4096 : Shape := ⟨1, ![4096]⟩
abbrev S4096x1 : Shape := ⟨2, ![4096, 1]⟩

abbrev nBuf : Space → Nat
  | .hbm => 107
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x512, .f32⟩
  | .hbm, ⟨2, _⟩ => ⟨S4096x4, .f32⟩
  | .hbm, ⟨3, _⟩ => ⟨S4096x4, .f32⟩
  | .hbm, ⟨4, _⟩ => ⟨S512, .f32⟩
  | .hbm, ⟨5, _⟩ => ⟨S512, .f32⟩
  | .hbm, ⟨6, _⟩ => ⟨S512, .f32⟩
  | .hbm, ⟨7, _⟩ => ⟨S4096x512, .f32⟩
  | .hbm, ⟨8, _⟩ => ⟨S4x4096, .f32⟩
  | .hbm, ⟨9, _⟩ => ⟨S4x4096x1, .f32⟩
  | .hbm, ⟨10, _⟩ => ⟨S4x4096, .f32⟩
  | .hbm, ⟨11, _⟩ => ⟨S4x1x4096, .f32⟩
  | .hbm, ⟨12, _⟩ => ⟨S4x4096x4096, .f32⟩
  | .hbm, ⟨13, _⟩ => ⟨S4x4096x4096, .f32⟩
  | .hbm, ⟨14, _⟩ => ⟨S4x4096x4096, .f32⟩
  | .hbm, ⟨15, _⟩ => ⟨S_, .f32⟩
  | .hbm, ⟨16, _⟩ => ⟨S_, .f32⟩
  | .hbm, ⟨17, _⟩ => ⟨S4x4096x4096, .f32⟩
  | .hbm, ⟨18, _⟩ => ⟨S4x4096x4096, .i1⟩
  | .hbm, ⟨19, _⟩ => ⟨S_, .f32⟩
  | .hbm, ⟨20, _⟩ => ⟨S4x4096x4096, .f32⟩
  | .hbm, ⟨21, _⟩ => ⟨S4x4096x4096, .f32⟩
  | .hbm, ⟨22, _⟩ => ⟨S4x4096x4096, .f32⟩
  | .hbm, ⟨23, _⟩ => ⟨S1x4096x4096, .f32⟩
  | .hbm, ⟨24, _⟩ => ⟨S_, .f32⟩
  | .hbm, ⟨25, _⟩ => ⟨S4x4096, .f32⟩
  | .hbm, ⟨26, _⟩ => ⟨S4x4096x1, .f32⟩
  | .hbm, ⟨27, _⟩ => ⟨S4x4096x4096, .f32⟩
  | .hbm, ⟨28, _⟩ => ⟨S4x4096x4096, .f32⟩
  | .hbm, ⟨29, _⟩ => ⟨S4x4096x4096, .f32⟩
  | .hbm, ⟨30, _⟩ => ⟨S4x4096x4096, .f32⟩
  | .hbm, ⟨31, _⟩ => ⟨S4x4096x4096, .f32⟩
  | .hbm, ⟨32, _⟩ => ⟨S_, .f32⟩
  | .hbm, ⟨33, _⟩ => ⟨S4x4096, .f32⟩
  | .hbm, ⟨34, _⟩ => ⟨S4x4096x1, .f32⟩
  | .hbm, ⟨35, _⟩ => ⟨S_, .f32⟩
  | .hbm, ⟨36, _⟩ => ⟨S4x4096x1, .f32⟩
  | .hbm, ⟨37, _⟩ => ⟨S4x4096x1, .f32⟩
  | .hbm, ⟨38, _⟩ => ⟨S4x4096x4096, .f32⟩
  | .hbm, ⟨39, _⟩ => ⟨S4x4096x4096, .f32⟩
  | .hbm, ⟨40, _⟩ => ⟨S4096x4x128, .f32⟩
  | .hbm, ⟨41, _⟩ => ⟨S4x128x4096, .f32⟩
  | .hbm, ⟨42, _⟩ => ⟨S4096x4x128, .f32⟩
  | .hbm, ⟨43, _⟩ => ⟨S4096x512, .f32⟩
  | .hbm, ⟨44, _⟩ => ⟨S1x512, .f32⟩
  | .hbm, ⟨45, _⟩ => ⟨S4096x512, .f32⟩
  | .hbm, ⟨46, _⟩ => ⟨S4096x512, .f32⟩
  | .hbm, ⟨47, _⟩ => ⟨S_, .f32⟩
  | .hbm, ⟨48, _⟩ => ⟨S4096x512, .f32⟩
  | .hbm, ⟨49, _⟩ => ⟨S4096x512, .i1⟩
  | .hbm, ⟨50, _⟩ => ⟨S_, .f32⟩
  | .hbm, ⟨51, _⟩ => ⟨S4096x512, .f32⟩
  | .hbm, ⟨52, _⟩ => ⟨S4096x512, .i1⟩
  | .hbm, ⟨53, _⟩ => ⟨S_, .f32⟩
  | .hbm, ⟨54, _⟩ => ⟨S_, .f32⟩
  | .hbm, ⟨55, _⟩ => ⟨S4096x512, .f32⟩
  | .hbm, ⟨56, _⟩ => ⟨S4096x512, .f32⟩
  | .hbm, ⟨57, _⟩ => ⟨S4096x512, .f32⟩
  | .hbm, ⟨58, _⟩ => ⟨S_, .f32⟩
  | .hbm, ⟨59, _⟩ => ⟨S4096x512, .f32⟩
  | .hbm, ⟨60, _⟩ => ⟨S4096x512, .f32⟩
  | .hbm, ⟨61, _⟩ => ⟨S4096x512, .f32⟩
  | .hbm, ⟨62, _⟩ => ⟨S_, .f32⟩
  | .hbm, ⟨63, _⟩ => ⟨S4096, .f32⟩
  | .hbm, ⟨64, _⟩ => ⟨S4096x1, .f32⟩
  | .hbm, ⟨65, _⟩ => ⟨S_, .f32⟩
  | .hbm, ⟨66, _⟩ => ⟨S4096x1, .f32⟩
  | .hbm, ⟨67, _⟩ => ⟨S4096x1, .f32⟩
  | .hbm, ⟨68, _⟩ => ⟨S_, .i32⟩
  | .hbm, ⟨69, _⟩ => ⟨S_, .f32⟩
  | .hbm, ⟨70, _⟩ => ⟨S4096, .f32⟩
  | .hbm, ⟨71, _⟩ => ⟨S4096x1, .f32⟩
  | .hbm, ⟨72, _⟩ => ⟨S_, .f32⟩
  | .hbm, ⟨73, _⟩ => ⟨S4096x1, .f32⟩
  | .hbm, ⟨74, _⟩ => ⟨S4096x1, .f32⟩
  | .hbm, ⟨75, _⟩ => ⟨S4096x512, .f32⟩
  | .hbm, ⟨76, _⟩ => ⟨S4096x512, .f32⟩
  | .hbm, ⟨77, _⟩ => ⟨S4096x512, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S4096, .f32⟩
  | .hbm, ⟨83, _⟩ => ⟨S4096x1, .f32⟩
  | .hbm, ⟨84, _⟩ => ⟨S4096x1, .f32⟩
  | .hbm, ⟨85, _⟩ => ⟨S4096x1, .f32⟩
  | .hbm, ⟨86, _⟩ => ⟨S_, .f32⟩
  | .hbm, ⟨87, _⟩ => ⟨S_, .i1⟩
  | .hbm, ⟨88, _⟩ => ⟨S_, .f32⟩
  | .hbm, ⟨89, _⟩ => ⟨S_, .f32⟩
  | .hbm, ⟨90, _⟩ => ⟨S4096x1, .f32⟩
  | .hbm, ⟨91, _⟩ => ⟨S4096x1, .f32⟩
  | .hbm, ⟨92, _⟩ => ⟨S4096x512, .f32⟩
  | .hbm, ⟨93, _⟩ => ⟨S4096x512, .f32⟩
  | .hbm, ⟨94, _⟩ => ⟨S_, .f32⟩
  | .hbm, ⟨95, _⟩ => ⟨S4096x1, .f32⟩
  | .hbm, ⟨96, _⟩ => ⟨S4096x1, .f32⟩
  | .hbm, ⟨97, _⟩ => ⟨S4096x1, .f32⟩
  | .hbm, ⟨98, _⟩ => ⟨S4096x512, .f32⟩
  | .hbm, ⟨99, _⟩ => ⟨S4096x512, .f32⟩
  | .hbm, ⟨100, _⟩ => ⟨S1x512, .f32⟩
  | .hbm, ⟨101, _⟩ => ⟨S4096x512, .f32⟩
  | .hbm, ⟨102, _⟩ => ⟨S4096x512, .f32⟩
  | .hbm, ⟨103, _⟩ => ⟨S1x512, .f32⟩
  | .hbm, ⟨104, _⟩ => ⟨S4096x512, .f32⟩
  | .hbm, ⟨105, _⟩ => ⟨S4096x512, .f32⟩
  | .hbm, ⟨106, _⟩ => ⟨S4096x512, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_call0_cst : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_v7 : Ref sig .tc := ⟨.hbm, 22, rfl⟩
abbrev main_v8 : Ref sig .tc := ⟨.hbm, 23, rfl⟩
abbrev main_cst_0 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_1 : Ref sig .tc := ⟨.hbm, 32, rfl⟩
abbrev main_v16 : Ref sig .tc := ⟨.hbm, 33, rfl⟩
abbrev main_v17 : Ref sig .tc := ⟨.hbm, 34, rfl⟩
abbrev main_cst_2 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_call1_cst : Ref sig .tc := ⟨.hbm, 47, rfl⟩
abbrev main_call1_v0 : Ref sig .tc := ⟨.hbm, 48, rfl⟩
abbrev main_call1_v1 : Ref sig .tc := ⟨.hbm, 49, rfl⟩
abbrev main_call1_cst_0 : Ref sig .tc := ⟨.hbm, 50, rfl⟩
abbrev main_call1_v2 : Ref sig .tc := ⟨.hbm, 51, rfl⟩
abbrev main_call1_v3 : Ref sig .tc := ⟨.hbm, 52, rfl⟩
abbrev main_call1_cst_1 : Ref sig .tc := ⟨.hbm, 53, rfl⟩
abbrev main_call1_call0_v0 : Ref sig .tc := ⟨.hbm, 54, rfl⟩
abbrev main_call1_call0_v1 : Ref sig .tc := ⟨.hbm, 55, rfl⟩
abbrev main_call1_v4 : Ref sig .tc := ⟨.hbm, 56, rfl⟩
abbrev main_call1_v5 : Ref sig .tc := ⟨.hbm, 57, rfl⟩
abbrev main_call1_cst_2 : Ref sig .tc := ⟨.hbm, 58, rfl⟩
abbrev main_call1_v6 : Ref sig .tc := ⟨.hbm, 59, rfl⟩
abbrev main_call1_v7 : Ref sig .tc := ⟨.hbm, 60, rfl⟩
abbrev main_v29 : Ref sig .tc := ⟨.hbm, 61, rfl⟩
abbrev main_cst_3 : Ref sig .tc := ⟨.hbm, 62, rfl⟩
abbrev main_v30 : Ref sig .tc := ⟨.hbm, 63, rfl⟩
abbrev main_v31 : Ref sig .tc := ⟨.hbm, 64, rfl⟩
abbrev main_cst_4 : Ref sig .tc := ⟨.hbm, 65, rfl⟩
abbrev main_v32 : Ref sig .tc := ⟨.hbm, 66, rfl⟩
abbrev main_v33 : Ref sig .tc := ⟨.hbm, 67, rfl⟩
abbrev main_c : Ref sig .tc := ⟨.hbm, 68, rfl⟩
abbrev main_call2_cst : Ref sig .tc := ⟨.hbm, 69, rfl⟩
abbrev main_call2_v0 : Ref sig .tc := ⟨.hbm, 70, rfl⟩
abbrev main_call2_v1 : Ref sig .tc := ⟨.hbm, 71, rfl⟩
abbrev main_call2_cst_0 : Ref sig .tc := ⟨.hbm, 72, rfl⟩
abbrev main_call2_v2 : Ref sig .tc := ⟨.hbm, 73, rfl⟩
abbrev main_call2_v3 : Ref sig .tc := ⟨.hbm, 74, rfl⟩
abbrev main_call2_v4 : Ref sig .tc := ⟨.hbm, 75, rfl⟩
abbrev main_call2_v5 : Ref sig .tc := ⟨.hbm, 76, rfl⟩
abbrev main_call2_v6 : Ref sig .tc := ⟨.hbm, 77, rfl⟩
abbrev main_call2_v7 : Ref sig .tc := ⟨.hbm, 78, rfl⟩
abbrev main_call2_cst_1 : Ref sig .tc := ⟨.hbm, 79, rfl⟩
abbrev main_call2_v8 : Ref sig .tc := ⟨.hbm, 80, rfl⟩
abbrev main_call2_cst_2 : Ref sig .tc := ⟨.hbm, 81, rfl⟩
abbrev main_call2_v9 : Ref sig .tc := ⟨.hbm, 82, rfl⟩
abbrev main_call2_v10 : Ref sig .tc := ⟨.hbm, 83, rfl⟩
abbrev main_call2_v11 : Ref sig .tc := ⟨.hbm, 84, rfl⟩
abbrev main_call2_v12 : Ref sig .tc := ⟨.hbm, 85, rfl⟩
abbrev main_call2_cst_3 : Ref sig .tc := ⟨.hbm, 86, rfl⟩
abbrev main_call2_v13 : Ref sig .tc := ⟨.hbm, 87, rfl⟩
abbrev main_call2_cst_4 : Ref sig .tc := ⟨.hbm, 88, rfl⟩
abbrev main_call2_call0_v0 : Ref sig .tc := ⟨.hbm, 89, rfl⟩
abbrev main_call2_call0_v1 : Ref sig .tc := ⟨.hbm, 90, rfl⟩
abbrev main_v34 : Ref sig .tc := ⟨.hbm, 91, rfl⟩
abbrev main_v35 : Ref sig .tc := ⟨.hbm, 92, rfl⟩
abbrev main_v36 : Ref sig .tc := ⟨.hbm, 93, rfl⟩
abbrev main_cst_5 : Ref sig .tc := ⟨.hbm, 94, rfl⟩
abbrev main_v37 : Ref sig .tc := ⟨.hbm, 95, rfl⟩
abbrev main_v38 : Ref sig .tc := ⟨.hbm, 96, rfl⟩
abbrev main_v39 : Ref sig .tc := ⟨.hbm, 97, rfl⟩
abbrev main_v40 : Ref sig .tc := ⟨.hbm, 98, rfl⟩
abbrev main_v41 : Ref sig .tc := ⟨.hbm, 99, rfl⟩
abbrev main_v42 : Ref sig .tc := ⟨.hbm, 100, rfl⟩
abbrev main_v43 : Ref sig .tc := ⟨.hbm, 101, rfl⟩
abbrev main_v44 : Ref sig .tc := ⟨.hbm, 102, rfl⟩
abbrev main_v45 : Ref sig .tc := ⟨.hbm, 103, rfl⟩
abbrev main_v46 : Ref sig .tc := ⟨.hbm, 104, rfl⟩
abbrev main_v47 : Ref sig .tc := ⟨.hbm, 105, rfl⟩
abbrev main_v48 : Ref sig .tc := ⟨.hbm, 106, rfl⟩

abbrev nD : Nat := 1
abbrev τ : Topo := Topo.v7x

variable {F : FTy → Type} [FloatOps F]
-- ==== Flash2.lean ====
abbrev S4096x4096 : Shape := ⟨2, ![4096, 4096]⟩
abbrev S4096x128 : Shape := ⟨2, ![4096, 128]⟩
abbrev S4096x1 : Shape := ⟨2, ![4096, 1]⟩
abbrev S128 : Shape := ⟨1, ![128]⟩
abbrev S1x4096 : Shape := ⟨2, ![1, 4096]⟩
abbrev S1x128 : Shape := ⟨2, ![1, 128]⟩
abbrev S_ : Shape := ⟨0, ![]⟩
abbrev S512x512 : Shape := ⟨2, ![512, 512]⟩
abbrev S512x128 : Shape := ⟨2, ![512, 128]⟩
abbrev S512x1 : Shape := ⟨2, ![512, 1]⟩
abbrev S1x512 : Shape := ⟨2, ![1, 512]⟩
abbrev S1 : Shape := ⟨1, ![1]⟩
abbrev S1x1 : Shape := ⟨2, ![1, 1]⟩
abbrev S512 : Shape := ⟨1, ![512]⟩

abbrev nBuf : Space → Nat
  | .hbm => 14
  | .vmem => 18
  | .smem => 0
  | _ => 0

abbrev bufTy : (tb : Table) → Fin (tcTables nBuf tb) → BufTy
  | .hbm, ⟨0, _⟩ => ⟨S4096x4096, .f32⟩
  | .hbm, ⟨1, _⟩ => ⟨S4096x128, .f32⟩
  | .hbm, ⟨2, _⟩ => ⟨S4096x1, .f32⟩
  | .hbm, ⟨3, _⟩ => ⟨S4096x1, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S1x4096, .f32⟩
  | .hbm, ⟨8, _⟩ => ⟨S1x128, .f32⟩
  | .hbm, ⟨9, _⟩ => ⟨S1x128, .f32⟩
  | .hbm, ⟨10, _⟩ => ⟨S1x128, .f32⟩
  | .hbm, ⟨11, _⟩ => ⟨S_, .f32⟩
  | .hbm, ⟨12, _⟩ => ⟨S4096x128, .f32⟩
  | .hbm, ⟨13, _⟩ => ⟨S4096x128, .f32⟩
  | .local _ .vmem, ⟨0, _⟩ => ⟨S512x512, .f32⟩
  | .local _ .vmem, ⟨1, _⟩ => ⟨S512x512, .f32⟩
  | .local _ .vmem, ⟨2, _⟩ => ⟨S512x128, .f32⟩
  | .local _ .vmem, ⟨3, _⟩ => ⟨S512x128, .f32⟩
  | .local _ .vmem, ⟨4, _⟩ => ⟨S4096x1, .f32⟩
  | .local _ .vmem, ⟨5, _⟩ => ⟨S512x1, .f32⟩
  | .local _ .vmem, ⟨6, _⟩ => ⟨S512x1, .f32⟩
  | .local _ .vmem, ⟨7, _⟩ => ⟨S1x512, .f32⟩
  | .local _ .vmem, ⟨8, _⟩ => ⟨S1x512, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S512x128, .f32⟩
  | .local _ .vmem, ⟨17, _⟩ => ⟨S512x1, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v54 : BitVec 1 := Scalar.cmpi .eq arg1 c7_i32
  let v55 : BitVec 32 := Scalar.extui v54
  let c0_i32_25 : BitVec 32 := 0#32
  let v56 : BitVec 1 := Scalar.cmpi .ne v55 c0_i32_25
  v56

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S4096x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== Flash2RefIdeal.lean ====
abbrev S4096x4096 : Shape := ⟨2, ![4096, 4096]⟩
abbrev S4096x128 : Shape := ⟨2, ![4096, 128]⟩
abbrev S4096x1 : Shape := ⟨2, ![4096, 1]⟩
abbrev S128 : Shape := ⟨1, ![128]⟩
abbrev S1x4096 : Shape := ⟨2, ![1, 4096]⟩
abbrev S1x4096x1 : Shape := ⟨3, ![1, 4096, 1]⟩
abbrev S1x1x4096 : Shape := ⟨3, ![1, 1, 4096]⟩
abbrev S1x4096x4096 : Shape := ⟨3, ![1, 4096, 4096]⟩
abbrev S_ : Shape := ⟨0, ![]⟩
abbrev S4096x1x128 : Shape := ⟨3, ![4096, 1, 128]⟩
abbrev S1x128x4096 : Shape := ⟨3, ![1, 128, 4096]⟩
abbrev S1x128 : Shape := ⟨2, ![1, 128]⟩
abbrev S4096 : Shape := ⟨1, ![4096]⟩

abbrev nBuf : Space → Nat
  | .hbm => 89
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x128, .f32⟩
  | .hbm, ⟨2, _⟩ => ⟨S4096x1, .f32⟩
  | .hbm, ⟨3, _⟩ => ⟨S4096x1, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S1x4096, .f32⟩
  | .hbm, ⟨8, _⟩ => ⟨S1x4096x1, .f32⟩
  | .hbm, ⟨9, _⟩ => ⟨S1x4096, .f32⟩
  | .hbm, ⟨10, _⟩ => ⟨S1x1x4096, .f32⟩
  | .hbm, ⟨11, _⟩ => ⟨S1x4096x4096, .f32⟩
  | .hbm, ⟨12, _⟩ => ⟨S1x4096x4096, .f32⟩
  | .hbm, ⟨13, _⟩ => ⟨S1x4096x4096, .f32⟩
  | .hbm, ⟨14, _⟩ => ⟨S_, .f32⟩
  | .hbm, ⟨15, _⟩ => ⟨S_, .f32⟩
  | .hbm, ⟨16, _⟩ => ⟨S1x4096x4096, .f32⟩
  | .hbm, ⟨17, _⟩ => ⟨S1x4096x4096, .i1⟩
  | .hbm, ⟨18, _⟩ => ⟨S_, .f32⟩
  | .hbm, ⟨19, _⟩ => ⟨S1x4096x4096, .f32⟩
  | .hbm, ⟨20, _⟩ => ⟨S1x4096x4096, .f32⟩
  | .hbm, ⟨21, _⟩ => ⟨S1x4096x4096, .f32⟩
  | .hbm, ⟨22, _⟩ => ⟨S1x4096x4096, .f32⟩
  | .hbm, ⟨23, _⟩ => ⟨S_, .f32⟩
  | .hbm, ⟨24, _⟩ => ⟨S1x4096, .f32⟩
  | .hbm, ⟨25, _⟩ => ⟨S1x4096x1, .f32⟩
  | .hbm, ⟨26, _⟩ => ⟨S1x4096x4096, .f32⟩
  | .hbm, ⟨27, _⟩ => ⟨S1x4096x4096, .f32⟩
  | .hbm, ⟨28, _⟩ => ⟨S1x4096x4096, .f32⟩
  | .hbm, ⟨29, _⟩ => ⟨S1x4096x4096, .f32⟩
  | .hbm, ⟨30, _⟩ => ⟨S_, .f32⟩
  | .hbm, ⟨31, _⟩ => ⟨S1x4096, .f32⟩
  | .hbm, ⟨32, _⟩ => ⟨S1x4096x1, .f32⟩
  | .hbm, ⟨33, _⟩ => ⟨S_, .f32⟩
  | .hbm, ⟨34, _⟩ => ⟨S1x4096x1, .f32⟩
  | .hbm, ⟨35, _⟩ => ⟨S1x4096x1, .f32⟩
  | .hbm, ⟨36, _⟩ => ⟨S1x4096x4096, .f32⟩
  | .hbm, ⟨37, _⟩ => ⟨S1x4096x4096, .f32⟩
  | .hbm, ⟨38, _⟩ => ⟨S4096x1x128, .f32⟩
  | .hbm, ⟨39, _⟩ => ⟨S1x128x4096, .f32⟩
  | .hbm, ⟨40, _⟩ => ⟨S4096x1x128, .f32⟩
  | .hbm, ⟨41, _⟩ => ⟨S4096x128, .f32⟩
  | .hbm, ⟨42, _⟩ => ⟨S1x128, .f32⟩
  | .hbm, ⟨43, _⟩ => ⟨S4096x128, .f32⟩
  | .hbm, ⟨44, _⟩ => ⟨S4096x128, .f32⟩
  | .hbm, ⟨45, _⟩ => ⟨S_, .f32⟩
  | .hbm, ⟨46, _⟩ => ⟨S4096, .f32⟩
  | .hbm, ⟨47, _⟩ => ⟨S4096x1, .f32⟩
  | .hbm, ⟨48, _⟩ => ⟨S_, .f32⟩
  | .hbm, ⟨49, _⟩ => ⟨S4096x1, .f32⟩
  | .hbm, ⟨50, _⟩ => ⟨S4096x1, .f32⟩
  | .hbm, ⟨51, _⟩ => ⟨S_, .i32⟩
  | .hbm, ⟨52, _⟩ => ⟨S_, .f32⟩
  | .hbm, ⟨53, _⟩ => ⟨S4096, .f32⟩
  | .hbm, ⟨54, _⟩ => ⟨S4096x1, .f32⟩
  | .hbm, ⟨55, _⟩ => ⟨S_, .f32⟩
  | .hbm, ⟨56, _⟩ => ⟨S4096x1, .f32⟩
  | .hbm, ⟨57, _⟩ => ⟨S4096x1, .f32⟩
  | .hbm, ⟨58, _⟩ => ⟨S4096x128, .f32⟩
  | .hbm, ⟨59, _⟩ => ⟨S4096x128, .f32⟩
  | .hbm, ⟨60, _⟩ => ⟨S4096x128, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S4096, .f32⟩
  | .hbm, ⟨66, _⟩ => ⟨S4096x1, .f32⟩
  | .hbm, ⟨67, _⟩ => ⟨S4096x1, .f32⟩
  | .hbm, ⟨68, _⟩ => ⟨S4096x1, .f32⟩
  | .hbm, ⟨69, _⟩ => ⟨S_, .f32⟩
  | .hbm, ⟨70, _⟩ => ⟨S_, .i1⟩
  | .hbm, ⟨71, _⟩ => ⟨S_, .f32⟩
  | .hbm, ⟨72, _⟩ => ⟨S_, .f32⟩
  | .hbm, ⟨73, _⟩ => ⟨S4096x1, .f32⟩
  | .hbm, ⟨74, _⟩ => ⟨S4096x1, .f32⟩
  | .hbm, ⟨75, _⟩ => ⟨S4096x128, .f32⟩
  | .hbm, ⟨76, _⟩ => ⟨S4096x128, .f32⟩
  | .hbm, ⟨77, _⟩ => ⟨S_, .f32⟩
  | .hbm, ⟨78, _⟩ => ⟨S4096x1, .f32⟩
  | .hbm, ⟨79, _⟩ => ⟨S4096x1, .f32⟩
  | .hbm, ⟨80, _⟩ => ⟨S4096x1, .f32⟩
  | .hbm, ⟨81, _⟩ => ⟨S4096x128, .f32⟩
  | .hbm, ⟨82, _⟩ => ⟨S4096x128, .f32⟩
  | .hbm, ⟨83, _⟩ => ⟨S1x128, .f32⟩
  | .hbm, ⟨84, _⟩ => ⟨S4096x128, .f32⟩
  | .hbm, ⟨85, _⟩ => ⟨S4096x128, .f32⟩
  | .hbm, ⟨86, _⟩ => ⟨S1x128, .f32⟩
  | .hbm, ⟨87, _⟩ => ⟨S4096x128, .f32⟩
  | .hbm, ⟨88, _⟩ => ⟨S4096x128, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_call0_cst : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_v7 : Ref sig .tc := ⟨.hbm, 21, rfl⟩
abbrev main_v8 : Ref sig .tc := ⟨.hbm, 22, rfl⟩
abbrev main_cst_0 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_1 : Ref sig .tc := ⟨.hbm, 30, rfl⟩
abbrev main_v15 : Ref sig .tc := ⟨.hbm, 31, rfl⟩
abbrev main_v16 : Ref sig .tc := ⟨.hbm, 32, rfl⟩
abbrev main_cst_2 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_3 : Ref sig .tc := ⟨.hbm, 45, rfl⟩
abbrev main_v28 : Ref sig .tc := ⟨.hbm, 46, rfl⟩
abbrev main_v29 : Ref sig .tc := ⟨.hbm, 47, rfl⟩
abbrev main_cst_4 : Ref sig .tc := ⟨.hbm, 48, rfl⟩
abbrev main_v30 : Ref sig .tc := ⟨.hbm, 49, rfl⟩
abbrev main_v31 : Ref sig .tc := ⟨.hbm, 50, rfl⟩
abbrev main_c : Ref sig .tc := ⟨.hbm, 51, rfl⟩
abbrev main_call1_cst : Ref sig .tc := ⟨.hbm, 52, rfl⟩
abbrev main_call1_v0 : Ref sig .tc := ⟨.hbm, 53, rfl⟩
abbrev main_call1_v1 : Ref sig .tc := ⟨.hbm, 54, rfl⟩
abbrev main_call1_cst_0 : Ref sig .tc := ⟨.hbm, 55, rfl⟩
abbrev main_call1_v2 : Ref sig .tc := ⟨.hbm, 56, rfl⟩
abbrev main_call1_v3 : Ref sig .tc := ⟨.hbm, 57, rfl⟩
abbrev main_call1_v4 : Ref sig .tc := ⟨.hbm, 58, rfl⟩
abbrev main_call1_v5 : Ref sig .tc := ⟨.hbm, 59, rfl⟩
abbrev main_call1_v6 : Ref sig .tc := ⟨.hbm, 60, rfl⟩
abbrev main_call1_v7 : Ref sig .tc := ⟨.hbm, 61, rfl⟩
abbrev main_call1_cst_1 : Ref sig .tc := ⟨.hbm, 62, rfl⟩
abbrev main_call1_v8 : Ref sig .tc := ⟨.hbm, 63, rfl⟩
abbrev main_call1_cst_2 : Ref sig .tc := ⟨.hbm, 64, rfl⟩
abbrev main_call1_v9 : Ref sig .tc := ⟨.hbm, 65, rfl⟩
abbrev main_call1_v10 : Ref sig .tc := ⟨.hbm, 66, rfl⟩
abbrev main_call1_v11 : Ref sig .tc := ⟨.hbm, 67, rfl⟩
abbrev main_call1_v12 : Ref sig .tc := ⟨.hbm, 68, rfl⟩
abbrev main_call1_cst_3 : Ref sig .tc := ⟨.hbm, 69, rfl⟩
abbrev main_call1_v13 : Ref sig .tc := ⟨.hbm, 70, rfl⟩
abbrev main_call1_cst_4 : Ref sig .tc := ⟨.hbm, 71, rfl⟩
abbrev main_call1_call0_v0 : Ref sig .tc := ⟨.hbm, 72, rfl⟩
abbrev main_call1_call0_v1 : Ref sig .tc := ⟨.hbm, 73, rfl⟩
abbrev main_v32 : Ref sig .tc := ⟨.hbm, 74, rfl⟩
abbrev main_v33 : Ref sig .tc := ⟨.hbm, 75, rfl⟩
abbrev main_v34 : Ref sig .tc := ⟨.hbm, 76, rfl⟩
abbrev main_cst_5 : Ref sig .tc := ⟨.hbm, 77, rfl⟩
abbrev main_v35 : Ref sig .tc := ⟨.hbm, 78, rfl⟩
abbrev main_v36 : Ref sig .tc := ⟨.hbm, 79, rfl⟩
abbrev main_v37 : Ref sig .tc := ⟨.hbm, 80, rfl⟩
abbrev main_v38 : Ref sig .tc := ⟨.hbm, 81, rfl⟩
abbrev main_v39 : Ref sig .tc := ⟨.hbm, 82, rfl⟩
abbrev main_v40 : Ref sig .tc := ⟨.hbm, 83, rfl⟩
abbrev main_v41 : Ref sig .tc := ⟨.hbm, 84, rfl⟩
abbrev main_v42 : Ref sig .tc := ⟨.hbm, 85, rfl⟩
abbrev main_v43 : Ref sig .tc := ⟨.hbm, 86, rfl⟩
abbrev main_v44 : Ref sig .tc := ⟨.hbm, 87, rfl⟩
abbrev main_v45 : Ref sig .tc := ⟨.hbm, 88, rfl⟩

abbrev nD : Nat := 1
abbrev τ : Topo := Topo.v7x

variable {F : FTy → Type} [FloatOps F]
-- ==== Proof.Step.lean ====
/-
  One grid point of the attention kernel, as mathematics: what a point leaves in the three carried
  buffers (the running row maxima, the running normalisers, the running weighted sums) over what it
  finds there, entry by entry, for all eight heads at once.
-/
module
public import proofs.«01_k».proof.Proof.Gen.MhaIdeal.Value
public import Idealize.ShloMosaic.Lib.Pipeline.ValueKit
public import Idealize.ShloMosaic.Lib.Pipeline.ReadBack
@[expose] public section
set_option maxRecDepth 16384
noncomputable section
open Idealize.ShloMosaic Idealize.ShloMosaic.TcCoe Idealize.SL.Sem
open Idealize.ShloMosaic.Pipeline (Dat)
namespace Cert.MhaIdeal.Step
open Cert.MhaIdeal Cert.MhaIdeal.Gen Cert.MhaIdeal.Value

/-- Lane `d` of head `h` among the 128 lanes. -/
abbrev lane (h : Fin 8) (d : Fin 16) : Fin 128 := ⟨16 * h.val + d.val, by omega⟩

/-- The head a lane belongs to. -/
abbrev headOf (l : Fin 128) : Fin 8 := ⟨l.val / 16, by omega⟩

/-- The score of query row `r` against key row `j` in head `h`, the query scaled by the kernel's 0.25. -/
def score (Q K : FVec Ideal S512x128 .f32) (r : Fin 512) (h : Fin 8) (j : Fin 512) : EReal :=
  ∑ d : Fin 16, Q (ix2 r (lane h d)) * Ideal.ofBits .f32 0x3E800000#32 * K (ix2 j (lane h d))

/-- The new running maximum: the old one against the block's scores. -/
def mNext (Q K : FVec Ideal S512x128 .f32) (M : FVec Ideal S512x8 .f32) : FVec Ideal S512x8 .f32 := fun y =>
  max (M y) (Finset.univ.fold max (Ideal.ofBits .f32 0xFF800000#32) fun j : Fin 512 => score Q K (y 0) (y 1) j)

/-- The new normaliser: the old one rescaled, plus the block's exponentials. -/
def lNext (Q K : FVec Ideal S512x128 .f32) (M L : FVec Ideal S512x8 .f32) : FVec Ideal S512x8 .f32 := fun y =>
  L y * Ideal.exp (M y - mNext Q K M y) + ∑ j : Fin 512, Ideal.exp (score Q K (y 0) (y 1) j - mNext Q K M y)

/-- The new weighted sum: the old one rescaled, plus the block's exponentials times its value rows. -/
def aNext (Q K V : FVec Ideal S512x128 .f32) (M : FVec Ideal S512x8 .f32) (A : FVec Ideal S512x128 .f32) :
    FVec Ideal S512x128 .f32 := fun y =>
  A y * Ideal.exp (M (ix2 (y 0) (headOf (y 1))) - mNext Q K M (ix2 (y 0) (headOf (y 1))))
    + ∑ j : Fin 512, Ideal.exp (score Q K (y 0) (headOf (y 1)) j - mNext Q K M (ix2 (y 0) (headOf (y 1)))) * V (ix2 j (y 1))

/-- The epilogue: the weighted sums divided by their normalisers, through the output projection, plus the bias. -/
def outRow (L : FVec Ideal S512x8 .f32) (A : FVec Ideal S512x128 .f32) (W : FVec Ideal S128x128 .f32)
    (b : FVec Ideal S1x128 .f32) : FVec Ideal S512x128 .f32 := fun y =>
  (∑ l : Fin 128, Ideal.div (A (ix2 (y 0) l)) (L (ix2 (y 0) (headOf l))) * W (ix2 (y 1) l)) + b (ix2 0 (y 1))

end Cert.MhaIdeal.Step
end
-- ==== Proof.State.lean ====
/-
  What each grid point leaves in the carried buffers, in the terms of Step.lean: the points that
  continue a row block (the middle ones and the last of its eight).
-/
module
public import proofs.«01_k».proof.Proof.Step
@[expose] public section
set_option maxRecDepth 16384
noncomputable section
open Idealize.ShloMosaic Idealize.ShloMosaic.TcCoe Idealize.SL.Sem
open Idealize.ShloMosaic.Pipeline (Dat)
namespace Cert.MhaIdeal.Step
open Cert.MhaIdeal Cert.MhaIdeal.Gen Cert.MhaIdeal.Value
variable (m : (ℓ : Loc nD τ sig) → Buf (Elt Ideal) ℓ)

/-- What the running maxima are after the middle point, from the point before. -/
theorem m_mid (c : Dev nD) (t : Fin cfg0.N) (h0 : ¬t.val % 8 = 0) (h1 : ¬t.val % 8 = 7) (y : S512x8.Idx) :
    (outsAt0 m c t.val t.isLt).2.1 y = mNext (iblk m c 0 t) (iblk m c 1 t) (outsAt0 m c (t.val - 1) (by omega)).2.1 y := by
  rw [outsAt0_B m c t h0 h1]
  frame_out
  simp only [read_unread_whole]
  canon_tiles x h
  all_goals (open_payloads; pointwise [mNext, score]; blk_point [])

/-- What the normalisers are after the middle point, from the point before. -/
theorem l_mid (c : Dev nD) (t : Fin cfg0.N) (h0 : ¬t.val % 8 = 0) (h1 : ¬t.val % 8 = 7) (y : S512x8.Idx) :
    (outsAt0 m c t.val t.isLt).2.2.1 y = lNext (iblk m c 0 t) (iblk m c 1 t) (outsAt0 m c (t.val - 1) (by omega)).2.1 (outsAt0 m c (t.val - 1) (by omega)).2.2.1 y := by
  rw [outsAt0_B m c t h0 h1]
  frame_out
  simp only [read_unread_whole]
  canon_tiles x h
  all_goals (open_payloads; pointwise [lNext, mNext, score]; blk_point [])

/-- What the weighted sums are after the middle point, from the point before. -/
theorem a_mid (c : Dev nD) (t : Fin cfg0.N) (h0 : ¬t.val % 8 = 0) (h1 : ¬t.val % 8 = 7) (y : S512x128.Idx) :
    (outsAt0 m c t.val t.isLt).2.2.2 y = aNext (iblk m c 0 t) (iblk m c 1 t) (iblk m c 2 t) (outsAt0 m c (t.val - 1) (by omega)).2.1 (outsAt0 m c (t.val - 1) (by omega)).2.2.2 y := by
  rw [outsAt0_B m c t h0 h1]
  frame_out
  simp only [read_unread_whole]
  canon_tiles x h
  all_goals (open_payloads; pointwise [aNext, mNext, score]; blk_point [])

/-- What the running maxima are after the last point of a row block, from the point before. -/
theorem m_last (c : Dev nD) (t : Fin cfg0.N) (h0 : ¬t.val % 8 = 0) (h1 : t.val % 8 = 7) (y : S512x8.Idx) :
    (outsAt0 m c t.val t.isLt).2.1 y = mNext (iblk m c 0 t) (iblk m c 1 t) (outsAt0 m c (t.val - 1) (by omega)).2.1 y := by
  rw [outsAt0_C m c t h0 h1]
  frame_out
  simp only [read_unread_whole]
  canon_tiles x h
  all_goals (open_payloads; pointwise [mNext, score]; blk_point [])

/-- What the normalisers are after the last point of a row block, from the point before. -/
theorem l_last (c : Dev nD) (t : Fin cfg0.N) (h0 : ¬t.val % 8 = 0) (h1 : t.val % 8 = 7) (y : S512x8.Idx) :
    (outsAt0 m c t.val t.isLt).2.2.1 y = lNext (iblk m c 0 t) (iblk m c 1 t) (outsAt0 m c (t.val - 1) (by omega)).2.1 (outsAt0 m c (t.val - 1) (by omega)).2.2.1 y := by
  rw [outsAt0_C m c t h0 h1]
  frame_out
  simp only [read_unread_whole]
  canon_tiles x h
  all_goals (open_payloads; pointwise [lNext, mNext, score]; blk_point [])

/-- What the weighted sums are after the last point of a row block, from the point before. -/
theorem a_last (c : Dev nD) (t : Fin cfg0.N) (h0 : ¬t.val % 8 = 0) (h1 : t.val % 8 = 7) (y : S512x128.Idx) :
    (outsAt0 m c t.val t.isLt).2.2.2 y = aNext (iblk m c 0 t) (iblk m c 1 t) (iblk m c 2 t) (outsAt0 m c (t.val - 1) (by omega)).2.1 (outsAt0 m c (t.val - 1) (by omega)).2.2.2 y := by
  rw [outsAt0_C m c t h0 h1]
  frame_out
  simp only [read_unread_whole]
  canon_tiles x h
  all_goals (open_payloads; pointwise [aNext, mNext, score]; blk_point [])

end Cert.MhaIdeal.Step
end
-- ==== Proof.StateFirst.lean ====
/-
  What each grid point leaves in the carried buffers, in the terms of Step.lean: the first
  point of a row block, which fills them before it reads them.
-/
module
public import proofs.«01_k».proof.Proof.Step
@[expose] public section
set_option maxRecDepth 16384
noncomputable section
open Idealize.ShloMosaic Idealize.ShloMosaic.TcCoe Idealize.SL.Sem
open Idealize.ShloMosaic.Pipeline (Dat)
namespace Cert.MhaIdeal.Step
open Cert.MhaIdeal Cert.MhaIdeal.Gen Cert.MhaIdeal.Value
variable (m : (ℓ : Loc nD τ sig) → Buf (Elt Ideal) ℓ)

/-- Pieces that tile a buffer decide what it holds, whatever filled it before. -/
theorem canon_over_fill {Val : EltTy → Type} [∀ e, Nonempty (Val e)] {s : Shape} {e : EltTy} (y : s.Idx) (f : View.Piece Val s e) :
    ∀ L : List (View.Piece Val s e), (∃ p ∈ L, y ∈ p.1.set) → View.canon (L ++ [f]) y = View.canon L y
  | [], h => by obtain ⟨_, hp, _⟩ := h; exact absurd hp List.not_mem_nil
  | p :: L, h => by
    by_cases hm : y ∈ p.1.set
    · obtain ⟨x, rfl⟩ := p.1.exists_idx_of_mem hm
      rw [List.cons_append, show p.1.idx x = p.1.emb x from rfl, View.canon_cons_emb, View.canon_cons_emb]
    · rw [List.cons_append, View.canon_cons_of_not_mem _ _ hm, View.canon_cons_of_not_mem _ _ hm]
      refine canon_over_fill y f L ?_
      obtain ⟨q, hq, hy⟩ := h
      rcases List.mem_cons.mp hq with rfl | hq
      · exact absurd hy hm
      · exact ⟨q, hq, hy⟩

/-- What the running maxima are after the first point of a row block, from the fills. -/
theorem m_first (c : Dev nD) (t : Fin cfg0.N) (h0 : t.val % 8 = 0) (h1 : ¬t.val % 8 = 7) (y : S512x8.Idx) :
    (outsAt0 m c t.val t.isLt).2.1 y = mNext (iblk m c 0 t) (iblk m c 1 t) k0_pay10 y := by
  rw [outsAt0_A m c t h0 h1]
  frame_open
  simp (disch := decide) only [↓View.readCov_skip, ↓View.readCov_fill]
  frame_out
  refine (canon_over_fill y _ [_, _, _, _, _, _, _, _] (View.cover_of_tiled_head _ _ _ (by rfl) y)).trans ?_
  canon_tiles x h
  all_goals (open_payloads; pointwise [mNext, score, k0_pay10, k0_pay11, k0_pay12]; blk_point [])

/-- What the normalisers are after the first point of a row block, from the fills. -/
theorem l_first (c : Dev nD) (t : Fin cfg0.N) (h0 : t.val % 8 = 0) (h1 : ¬t.val % 8 = 7) (y : S512x8.Idx) :
    (outsAt0 m c t.val t.isLt).2.2.1 y = lNext (iblk m c 0 t) (iblk m c 1 t) k0_pay10 k0_pay11 y := by
  rw [outsAt0_A m c t h0 h1]
  frame_open
  simp (disch := decide) only [↓View.readCov_skip, ↓View.readCov_fill]
  frame_out
  refine (canon_over_fill y _ [_, _, _, _, _, _, _, _] (View.cover_of_tiled_head _ _ _ (by rfl) y)).trans ?_
  canon_tiles x h
  all_goals (open_payloads; pointwise [lNext, mNext, score, k0_pay10, k0_pay11, k0_pay12]; blk_point [])

/-- What the weighted sums are after the first point of a row block, from the fills. -/
theorem a_first (c : Dev nD) (t : Fin cfg0.N) (h0 : t.val % 8 = 0) (h1 : ¬t.val % 8 = 7) (y : S512x128.Idx) :
    (outsAt0 m c t.val t.isLt).2.2.2 y = aNext (iblk m c 0 t) (iblk m c 1 t) (iblk m c 2 t) k0_pay10 k0_pay12 y := by
  rw [outsAt0_A m c t h0 h1]
  frame_open
  simp (disch := decide) only [↓View.readCov_skip, ↓View.readCov_fill]
  frame_out
  refine (canon_over_fill y _ [_, _, _, _, _, _, _, _] (View.cover_of_tiled_head _ _ _ (by rfl) y)).trans ?_
  canon_tiles x h
  all_goals (open_payloads; pointwise [aNext, mNext, score, k0_pay10, k0_pay11, k0_pay12]; blk_point [])

end Cert.MhaIdeal.Step
end
-- ==== Proof.Out.lean ====
/-
  The output block that the last point of a row block writes: the epilogue over what that point left
  in the carried buffers.
-/
module
public import proofs.«01_k».proof.Proof.State
@[expose] public section
set_option maxRecDepth 16384
noncomputable section
open Idealize.ShloMosaic Idealize.ShloMosaic.TcCoe Idealize.SL.Sem
open Idealize.ShloMosaic.Pipeline (Dat)
namespace Cert.MhaIdeal.Step
open Cert.MhaIdeal Cert.MhaIdeal.Gen Cert.MhaIdeal.Value
variable (m : (ℓ : Loc nD τ sig) → Buf (Elt Ideal) ℓ)

/-- A load after a list of stores reads what the stores left. -/
theorem readCov_eq_ld {sg : RefSig} {κ : Kind} {sp : Space} {s : Shape} {e : EltTy} {Val : EltTy → Type} [∀ e, Nonempty (Val e)]
    (v : View sg κ sp s e) (L : List (View.Piece Val s e)) (r : Rect s) : v.readCov L r.toLoadRect = View.ld (View.canon L) r :=
  View.readCov_eq_canon' v L r.toLoadRect

/-- What the last point of a row block writes out: the epilogue over the buffers it leaves. -/
theorem out_last (c : Dev nD) (t : Fin cfg0.N) (h0 : ¬t.val % 8 = 0) (h1 : t.val % 8 = 7) (y : S512x128.Idx) :
    (outsAt0 m c t.val t.isLt).1 y = outRow (outsAt0 m c t.val t.isLt).2.2.1 (outsAt0 m c t.val t.isLt).2.2.2
      (iblk m c 3 t) (iblk m c 4 t) y := by
  rw [outsAt0_C m c t h0 h1]
  frame_out
  simp only [read_unread_whole, readCov_eq_ld]
  generalize View.canon (Val := Elt Ideal) (s := S512x8) (e := .f32) _ = L
  generalize View.canon (Val := Elt Ideal) (s := S512x128) (e := .f32) _ = A
  pointwise [k0_pay2, k0_pay3, k0_pay4, k0_pay5, k0_pay6, k0_pay7, k0_pay8, k0_pay9, outRow]
  refine congrArg (fun z : EReal => z + _) (Finset.sum_congr rfl fun l _ => congrArg (fun z : EReal => z * _) ?_)
  repeat' split
  all_goals blk_point []
end Cert.MhaIdeal.Step
end
-- ==== Proof.Softmax.lean ====
/-
  The softmax average over the extended reals: scores real, the averaged values arbitrary. A weighted sum of
  exponentials taken at one shift is rescaled to another, and divided by its normaliser it is the average,
  whatever the shift was.
-/
module
public import Idealize.ShloMosaic.PureOps.Ideal
public import Mathlib.Data.EReal.Operations
public import Mathlib.Analysis.SpecialFunctions.Exp
@[expose] public section
noncomputable section
open Idealize.ShloMosaic
namespace Cert.Softmax
variable {ι : Type} [DecidableEq ι]

/-- A finite nonnegative factor moves into a sum of extended reals. -/
theorem sum_mul_real (s : Finset ι) (g : ι → EReal) (c : ℝ) (hc : 0 ≤ c) :
    (∑ x ∈ s, g x) * (c : EReal) = ∑ x ∈ s, g x * (c : EReal) := by
  induction s using Finset.induction_on with
  | empty => simp
  | insert a s ha ih =>
    rw [Finset.sum_insert ha, Finset.sum_insert ha,
      EReal.right_distrib_of_nonneg_of_ne_top (EReal.coe_nonneg.mpr hc) (EReal.coe_ne_top c), ih]

/-- The weighted sum of exponentials of the scores `f` at shift `μ`, the weights' values `w`. -/
def part (s : Finset ι) (f : ι → ℝ) (w : ι → EReal) (μ : ℝ) : EReal :=
  ∑ x ∈ s, ((Real.exp (f x - μ) : ℝ) : EReal) * w x

/-- Multiplying by the exponential of the shifts' difference moves a weighted sum from one shift to the other. -/
theorem part_rescale (s : Finset ι) (f : ι → ℝ) (w : ι → EReal) (μ μ' : ℝ) :
    part s f w μ * Ideal.exp ((μ : EReal) - (μ' : EReal)) = part s f w μ' := by
  rw [← EReal.coe_sub, Ideal.exp_coe, part, sum_mul_real _ _ _ (Real.exp_pos _).le]
  refine Finset.sum_congr rfl fun x _ => ?_
  rw [mul_right_comm, ← EReal.coe_mul, ← Real.exp_add]
  congr 3
  ring

/-- The sum of the bare exponentials is the real number it looks like. -/
theorem part_one (s : Finset ι) (f : ι → ℝ) (μ : ℝ) :
    part s f (fun _ => 1) μ = ((∑ x ∈ s, Real.exp (f x - μ) : ℝ) : EReal) := by
  unfold part
  simp only [mul_one]
  induction s using Finset.induction_on with
  | empty => simp
  | insert a s ha ih => rw [Finset.sum_insert ha, Finset.sum_insert ha, EReal.coe_add, ih]

/-- The softmax average of `w` under the scores `f`. -/
def average (s : Finset ι) (f : ι → ℝ) (w : ι → EReal) : EReal :=
  ∑ x ∈ s, ((Real.exp (f x) / ∑ z ∈ s, Real.exp (f z) : ℝ) : EReal) * w x

/-- A softmax weight does not depend on the shift. -/
theorem weight_shift (s : Finset ι) (f : ι → ℝ) (μ : ℝ) (x : ι) :
    Real.exp (f x - μ) * (1 / ∑ z ∈ s, Real.exp (f z - μ)) = Real.exp (f x) / ∑ z ∈ s, Real.exp (f z) := by
  simp only [Real.exp_sub, ← Finset.sum_div]
  have := (Real.exp_pos μ).ne'
  field_simp

theorem sum_exp_pos (s : Finset ι) (hs : s.Nonempty) (f : ι → ℝ) (μ : ℝ) : 0 < ∑ z ∈ s, Real.exp (f z - μ) :=
  Finset.sum_pos (fun _ _ => Real.exp_pos _) hs

/-- Dividing the weighted sum by its normaliser at the end gives the average. -/
theorem part_div (s : Finset ι) (hs : s.Nonempty) (f : ι → ℝ) (w : ι → EReal) (μ : ℝ) :
    Ideal.div (part s f w μ) (part s f (fun _ => 1) μ) = average s f w := by
  have hp := sum_exp_pos s hs f μ
  rw [part_one, Ideal.div_coe hp.ne', part, sum_mul_real _ _ _ (by positivity), average]
  refine Finset.sum_congr rfl fun x _ => ?_
  rw [mul_right_comm, ← EReal.coe_mul, weight_shift]

/-- Dividing every weight by the normaliser first gives the average as well. -/
theorem sum_div_mul (s : Finset ι) (hs : s.Nonempty) (f : ι → ℝ) (w : ι → EReal) (μ : ℝ) :
    ∑ x ∈ s, Ideal.div (Ideal.exp ((f x : EReal) - (μ : EReal))) (∑ z ∈ s, Ideal.exp ((f z : EReal) - (μ : EReal))) * w x
      = average s f w := by
  have h1 : ∑ z ∈ s, Ideal.exp ((f z : EReal) - (μ : EReal)) = ((∑ z ∈ s, Real.exp (f z - μ) : ℝ) : EReal) := by
    rw [← part_one]
    simp only [part, mul_one, ← EReal.coe_sub, Ideal.exp_coe]
  have hp := sum_exp_pos s hs f μ
  rw [h1, average]
  refine Finset.sum_congr rfl fun x _ => ?_
  rw [← EReal.coe_sub, Ideal.exp_coe, Ideal.div_coe hp.ne', ← EReal.coe_mul, weight_shift]

/-- A running maximum of reals from below is minus infinity before the first and real after it. -/
theorem fold_max_real (s : Finset ι) (f : ι → ℝ) :
    (s = ∅ ∧ s.fold max (⊥ : EReal) (fun x => (f x : EReal)) = ⊥) ∨ ∃ μ : ℝ, s.fold max (⊥ : EReal) (fun x => (f x : EReal)) = μ := by
  induction s using Finset.induction_on with
  | empty => exact .inl ⟨rfl, Finset.fold_empty⟩
  | insert a s ha ih =>
    right
    rw [Finset.fold_insert ha]
    rcases ih with ⟨-, h⟩ | ⟨μ, h⟩
    · exact ⟨f a, by rw [h, max_eq_left bot_le]⟩
    · exact ⟨max (f a) μ, by rw [h]; exact (EReal.coe_strictMono.monotone.map_max).symm⟩

/-- The maximum of a real and a running maximum of reals is real. -/
theorem max_fold_real (s : Finset ι) (f : ι → ℝ) (μ : ℝ) :
    ∃ μ' : ℝ, max (μ : EReal) (s.fold max (⊥ : EReal) (fun x => (f x : EReal))) = μ' := by
  rcases fold_max_real s f with ⟨-, h⟩ | ⟨ν, h⟩
  · exact ⟨μ, by rw [h, max_eq_left bot_le]⟩
  · exact ⟨max μ ν, by rw [h]; exact (EReal.coe_strictMono.monotone.map_max).symm⟩

/-- The maximum of a nonempty family of reals is real. -/
theorem bot_max_fold_real (s : Finset ι) (hs : s.Nonempty) (f : ι → ℝ) :
    ∃ μ' : ℝ, max (⊥ : EReal) (s.fold max (⊥ : EReal) (fun x => (f x : EReal))) = μ' := by
  rcases fold_max_real s f with ⟨h, -⟩ | ⟨ν, h⟩
  · exact absurd h hs.ne_empty
  · exact ⟨ν, by rw [h, max_eq_right bot_le]⟩

/-- The rows of the blocks before block `k`, in blocks of 512. -/
def upTo (k : ℕ) : Finset (Fin 4096) := Finset.univ.filter fun x => x.val < 512 * k

theorem upTo_zero : upTo 0 = ∅ := by simp [upTo]

theorem upTo_all : upTo 8 = Finset.univ := by
  ext x; simpa [upTo] using x.isLt

/-- Row `j` of block `k`. -/
def rowAt (k : ℕ) (hk : k < 8) (j : Fin 512) : Fin 4096 := ⟨512 * k + j.val, by omega⟩

theorem rowAt_injective (k : ℕ) (hk : k < 8) : Function.Injective (rowAt k hk) := fun a b h => by
  have h' : 512 * k + a.val = 512 * k + b.val := congrArg Fin.val h
  exact Fin.ext (by omega)

/-- One more block of rows in a sum. -/
theorem sum_upTo_succ (k : ℕ) (hk : k < 8) (g : Fin 4096 → EReal) :
    ∑ x ∈ upTo (k + 1), g x = ∑ x ∈ upTo k, g x + ∑ j : Fin 512, g (rowAt k hk j) := by
  have hd : Disjoint (upTo k) (Finset.univ.map ⟨rowAt k hk, rowAt_injective k hk⟩) := by
    rw [Finset.disjoint_left]
    intro x hx hy
    obtain ⟨j, -, rfl⟩ := Finset.mem_map.mp hy
    have : 512 * k + j.val < 512 * k := (Finset.mem_filter.mp hx).2
    omega
  have hu : upTo (k + 1) = (upTo k).disjUnion _ hd := by
    ext x
    rw [Finset.mem_disjUnion, Finset.mem_map, upTo, upTo, Finset.mem_filter, Finset.mem_filter]
    constructor
    · rintro ⟨-, h⟩
      by_cases hx : x.val < 512 * k
      · exact .inl ⟨Finset.mem_univ _, hx⟩
      · exact .inr ⟨⟨x.val - 512 * k, by omega⟩, Finset.mem_univ _, Fin.ext (by show 512 * k + (x.val - 512 * k) = x.val; omega)⟩
    · rintro (⟨-, h⟩ | ⟨j, -, rfl⟩)
      · exact ⟨Finset.mem_univ _, by omega⟩
      · exact ⟨Finset.mem_univ _, by show 512 * k + j.val < 512 * (k + 1); omega⟩
  rw [hu, Finset.sum_disjUnion, Finset.sum_map]
  rfl

end Cert.Softmax
end
-- ==== Proof.Online.lean ====
/-
  The online softmax: over real scores, one step of the kernel keeps the statement that the three carried
  buffers hold, at some real shift, the weighted sums of exponentials over the key rows seen so far.
-/
module
public import proofs.«01_k».proof.Proof.Step
public import proofs.«01_k».proof.Proof.Softmax
public import Idealize.ShloMosaic.PureOps.Ideal.Laws
@[expose] public section
set_option maxRecDepth 16384
noncomputable section
open Idealize.ShloMosaic
namespace Cert.MhaIdeal.Step
open Cert.MhaIdeal Cert.Softmax

/-- The kernel's factor on the query is a quarter. -/
theorem quarter : Ideal.ofBits .f32 0x3E800000#32 = ((1 / 4 : ℝ) : EReal) := by
  simp [Ideal.ofBits, Ideal.ieee, -EReal.coe_mul]; norm_num

/-- The initial value of the kernel's row maxima is minus infinity. -/
theorem neg_inf : Ideal.ofBits .f32 0xFF800000#32 = ⊥ := by simp [Ideal.ofBits, Ideal.ieee]

/-- The value the kernel fills its running maxima with is a real number. -/
theorem fill_real : ∃ μ : ℝ, Ideal.ofBits .f32 0xF149F2CA#32 = μ := by
  simp only [Ideal.ofBits, Ideal.ieee]
  exact ⟨_, rfl⟩

/-- The real score of query row `n` against key row `j` in head `h`. -/
def sigma (q k : Fin 4096 → Fin 128 → ℝ) (n : Fin 4096) (h : Fin 8) (j : Fin 4096) : ℝ :=
  ∑ d : Fin 16, q n (lane h d) * (1 / 4) * k j (lane h d)

theorem coe_sum {ι : Type} (s : Finset ι) (f : ι → ℝ) : ((∑ x ∈ s, f x : ℝ) : EReal) = ∑ x ∈ s, (f x : EReal) := by
  classical
  induction s using Finset.induction_on with
  | empty => simp
  | insert a s ha ih => rw [Finset.sum_insert ha, Finset.sum_insert ha, EReal.coe_add, ih]

/-- After the first `k` blocks of key rows, the buffers of row block `i` hold at some real shift the sums over
    those rows: of the exponentials, and of the exponentials times the value rows. -/
def Seen (q k : Fin 4096 → Fin 128 → ℝ) (v : FVec Ideal S4096x128 .f32) (i : Fin 8) (b : ℕ)
    (M L : FVec Ideal S512x8 .f32) (A : FVec Ideal S512x128 .f32) : Prop :=
  ∀ (r : Fin 512) (h : Fin 8), ∃ μ : ℝ, M (ix2 r h) = (μ : EReal)
    ∧ L (ix2 r h) = part (upTo b) (sigma q k (rowAt i.val i.isLt r) h) (fun _ => 1) μ
    ∧ ∀ l : Fin 128, headOf l = h → A (ix2 r l) = part (upTo b) (sigma q k (rowAt i.val i.isLt r) h) (fun j => v (ix2 j l)) μ

/-- Before any key row, the fills are such buffers. -/
theorem seen_zero (q k : Fin 4096 → Fin 128 → ℝ) (v : FVec Ideal S4096x128 .f32) (i : Fin 8)
    (M L : FVec Ideal S512x8 .f32) (A : FVec Ideal S512x128 .f32) (hM : ∃ μ : ℝ, ∀ y, M y = (μ : EReal))
    (hL : ∀ y, L y = (0 : EReal)) (hA : ∀ y, A y = (0 : EReal)) : Seen q k v i 0 M L A := by
  obtain ⟨μ, hM⟩ := hM
  intro r h
  refine ⟨μ, hM _, ?_, fun l _ => ?_⟩
  · rw [hL, part, upTo_zero, Finset.sum_empty]
  · rw [hA, part, upTo_zero, Finset.sum_empty]

/-- The score of a block's rows is the real score of the array's rows they are. -/
theorem score_real (q k : Fin 4096 → Fin 128 → ℝ) (i : Fin 8) (b : Fin 8) (Q K : FVec Ideal S512x128 .f32)
    (hQ : ∀ r l, Q (ix2 r l) = (q (rowAt i.val i.isLt r) l : EReal))
    (hK : ∀ r l, K (ix2 r l) = (k (rowAt b.val b.isLt r) l : EReal)) (r : Fin 512) (h : Fin 8) (j : Fin 512) :
    score Q K r h j = (sigma q k (rowAt i.val i.isLt r) h (rowAt b.val b.isLt j) : EReal) := by
  rw [score, sigma, coe_sum]
  refine Finset.sum_congr rfl fun d _ => ?_
  rw [hQ, hK, quarter, EReal.coe_mul, EReal.coe_mul]

/-- One more block of key rows: the kernel's step keeps the statement. -/
theorem seen_step (q k : Fin 4096 → Fin 128 → ℝ) (v : FVec Ideal S4096x128 .f32) (i b : Fin 8)
    (Q K W : FVec Ideal S512x128 .f32)
    (hQ : ∀ r l, Q (ix2 r l) = (q (rowAt i.val i.isLt r) l : EReal))
    (hK : ∀ r l, K (ix2 r l) = (k (rowAt b.val b.isLt r) l : EReal))
    (hW : ∀ r l, W (ix2 r l) = v (ix2 (rowAt b.val b.isLt r) l))
    (M L : FVec Ideal S512x8 .f32) (A : FVec Ideal S512x128 .f32) (hs : Seen q k v i b.val M L A)
    (M' L' : FVec Ideal S512x8 .f32) (A' : FVec Ideal S512x128 .f32)
    (hM' : ∀ y, M' y = mNext Q K M y) (hL' : ∀ y, L' y = lNext Q K M L y) (hA' : ∀ y, A' y = aNext Q K W M A y) :
    Seen q k v i (b.val + 1) M' L' A' := by
  intro r h
  obtain ⟨μ, hM, hL, hA⟩ := hs r h
  obtain ⟨μ', hμ'⟩ := max_fold_real Finset.univ (fun j : Fin 512 => sigma q k (rowAt i.val i.isLt r) h (rowAt b.val b.isLt j)) μ
  have hm : mNext Q K M (ix2 r h) = (μ' : EReal) := by
    show max (M (ix2 r h)) (Finset.univ.fold max (Ideal.ofBits .f32 0xFF800000#32) fun j : Fin 512 => score Q K r h j) = _
    rw [neg_inf, hM, ← hμ']
    simp only [score_real q k i b Q K hQ hK]
  refine ⟨μ', (hM' _).trans hm, ?_, fun l hl => ?_⟩
  · rw [hL']
    show L (ix2 r h) * Ideal.exp (M (ix2 r h) - mNext Q K M (ix2 r h))
      + ∑ j : Fin 512, Ideal.exp (score Q K r h j - mNext Q K M (ix2 r h)) = _
    rw [hm, hM, hL, part_rescale, part, part, sum_upTo_succ b.val b.isLt]
    simp only [score_real q k i b Q K hQ hK, ← EReal.coe_sub, Ideal.exp_coe, mul_one]
  · subst hl
    rw [hA']
    show A (ix2 r l) * Ideal.exp (M (ix2 r (headOf l)) - mNext Q K M (ix2 r (headOf l)))
      + ∑ j : Fin 512, Ideal.exp (score Q K r (headOf l) j - mNext Q K M (ix2 r (headOf l))) * W (ix2 j l) = _
    rw [hm, hM, hA l rfl, part_rescale, part, part, sum_upTo_succ b.val b.isLt]
    simp only [score_real q k i b Q K hQ hK, ← EReal.coe_sub, Ideal.exp_coe, hW]

/-- After all key rows, the epilogue's row is the softmax average of the value rows, projected. -/
theorem outRow_of_seen (q k : Fin 4096 → Fin 128 → ℝ) (v : FVec Ideal S4096x128 .f32) (i : Fin 8)
    (M L : FVec Ideal S512x8 .f32) (A : FVec Ideal S512x128 .f32) (hs : Seen q k v i 8 M L A)
    (W : FVec Ideal S128x128 .f32) (b : FVec Ideal S1x128 .f32) (r : Fin 512) (o : Fin 128) :
    outRow L A W b (ix2 r o) = (∑ l : Fin 128, average Finset.univ (sigma q k (rowAt i.val i.isLt r) (headOf l))
      (fun j => v (ix2 j l)) * W (ix2 o l)) + b (ix2 0 o) := by
  show (∑ l : Fin 128, Ideal.div (A (ix2 r l)) (L (ix2 r (headOf l))) * W (ix2 o l)) + b (ix2 0 o) = _
  refine congrArg (fun z : EReal => z + _) (Finset.sum_congr rfl fun l _ => congrArg (fun z : EReal => z * _) ?_)
  obtain ⟨μ, -, hL, hA⟩ := hs r (headOf l)
  rw [hL, hA l rfl, upTo_all, part_div _ Finset.univ_nonempty]

end Cert.MhaIdeal.Step
end
-- ==== Proof.Blocks.lean ====
/-
  What the attention kernel's blocks are of its arguments: block `t / 8` of the query rows, block `t % 8` of
  the key and value rows, the whole projection and the whole bias.
-/
module
public import proofs.«01_k».proof.Proof.Step
public import proofs.«01_k».proof.Proof.Softmax
@[expose] public section
set_option maxRecDepth 16384
noncomputable section
open Idealize.ShloMosaic Idealize.ShloMosaic.TcCoe Idealize.SL.Sem
open Idealize.ShloMosaic.Pipeline (Dat)
namespace Cert.MhaIdeal.Step
open Cert.MhaIdeal Cert.MhaIdeal.Gen Cert.MhaIdeal.Value Cert.Softmax
variable (m : (ℓ : Loc nD τ sig) → Buf (Elt Ideal) ℓ)

/-- The index maps of the five inputs. -/
theorem idx : ∀ t : Fin cfg0.N, win0_0.index t = ![t.val / 8, 0] ∧ win0_1.index t = ![t.val % 8, 0]
    ∧ win0_2.index t = ![t.val % 8, 0] ∧ win0_3.index t = ![0, 0] ∧ win0_4.index t = ![0, 0] :=
  (by decide +kernel : ∀ t : Fin grid0.N, _)

theorem point_lt (t : Fin cfg0.N) : t.val < 64 := lt_of_lt_of_eq t.isLt N_0

/-- The query block of point `t`. -/
theorem q_block (c : Dev nD) (t : Fin cfg0.N) (i : Fin 8) (hi : t.val / 8 = i.val) (r : Fin 512) (l : Fin 128) :
    iblk m c 0 t (ix2 r l) = m ((c : Thread nD τ).loc main_arg0) (ix2 (rowAt i.val i.isLt r) l) := by
  have h64 := point_lt t
  obtain ⟨e0, e1, e2, e3, e4⟩ := idx t
  unfold rowAt
  blk_ext [iblk, V, e0]

/-- The key block of point `t`. -/
theorem k_block (c : Dev nD) (t : Fin cfg0.N) (b : Fin 8) (hb : t.val % 8 = b.val) (r : Fin 512) (l : Fin 128) :
    iblk m c 1 t (ix2 r l) = m ((c : Thread nD τ).loc main_arg1) (ix2 (rowAt b.val b.isLt r) l) := by
  have h64 := point_lt t
  obtain ⟨e0, e1, e2, e3, e4⟩ := idx t
  unfold rowAt
  blk_ext [iblk, V, e1]

/-- The value block of point `t`. -/
theorem v_block (c : Dev nD) (t : Fin cfg0.N) (b : Fin 8) (hb : t.val % 8 = b.val) (r : Fin 512) (l : Fin 128) :
    iblk m c 2 t (ix2 r l) = m ((c : Thread nD τ).loc main_arg2) (ix2 (rowAt b.val b.isLt r) l) := by
  have h64 := point_lt t
  obtain ⟨e0, e1, e2, e3, e4⟩ := idx t
  unfold rowAt
  blk_ext [iblk, V, e2]

/-- The projection is read whole. -/
theorem w_block (c : Dev nD) (t : Fin cfg0.N) (o l : Fin 128) :
    iblk m c 3 t (ix2 o l) = m ((c : Thread nD τ).loc main_arg3) (ix2 o l) := by
  obtain ⟨e0, e1, e2, e3, e4⟩ := idx t
  blk_ext [iblk, V, e3]

/-- The bias is read whole, as one row. -/
theorem b_block (c : Dev nD) (t : Fin cfg0.N) (o : Fin 128) :
    iblk m c 4 t (ix2 0 o) = m ((c : Thread nD τ).loc main_arg4) (ix1 o) := by
  obtain ⟨e0, e1, e2, e3, e4⟩ := idx t
  blk_ext! [iblk, V, e4]

end Cert.MhaIdeal.Step
end
-- ==== Proof.Sweep.lean ====
/-
  The grid swept: after point `8 i + b` the carried buffers hold row block `i`'s softmax sums over the first
  `b + 1` blocks of key rows; so the last point writes out the softmax averages, projected.
-/
module
public import proofs.«01_k».proof.Proof.State
public import proofs.«01_k».proof.Proof.StateFirst
public import proofs.«01_k».proof.Proof.Out
public import proofs.«01_k».proof.Proof.Online
public import proofs.«01_k».proof.Proof.Blocks
@[expose] public section
set_option maxRecDepth 16384
noncomputable section
open Idealize.ShloMosaic Idealize.ShloMosaic.TcCoe Idealize.SL.Sem
open Idealize.ShloMosaic.Pipeline (Dat)
namespace Cert.MhaIdeal.Step
open Cert.MhaIdeal Cert.MhaIdeal.Gen Cert.MhaIdeal.Value Cert.Softmax
variable (m : (ℓ : Loc nD τ sig) → Buf (Elt Ideal) ℓ)

/-- The arrays of queries and keys are those of the reals `q` and `k`. -/
def RealArgs (c : Dev nD) (q k : Fin 4096 → Fin 128 → ℝ) : Prop :=
  (∀ n l, m ((c : Thread nD τ).loc main_arg0) (ix2 n l) = (q n l : EReal))
    ∧ (∀ n l, m ((c : Thread nD τ).loc main_arg1) (ix2 n l) = (k n l : EReal))

/-- After point `8 i + b` the buffers have seen `b + 1` blocks of key rows. -/
theorem seen_at (c : Dev nD) (q k : Fin 4096 → Fin 128 → ℝ) (hr : RealArgs m c q k) (i : Fin 8) :
    ∀ (b : ℕ) (hb : b < 8) (t : Fin cfg0.N), t.val = 8 * i.val + b →
      Seen q k (m ((c : Thread nD τ).loc main_arg2)) i (b + 1)
        (outsAt0 m c t.val t.isLt).2.1 (outsAt0 m c t.val t.isLt).2.2.1 (outsAt0 m c t.val t.isLt).2.2.2
  | 0, hb, t, ht => by
    have h0 : t.val % 8 = 0 := by omega
    have h1 : ¬t.val % 8 = 7 := by omega
    refine seen_step q k _ i ⟨0, hb⟩ (iblk m c 0 t) (iblk m c 1 t) (iblk m c 2 t)
      (fun r l => (q_block m c t i (by omega) r l).trans (hr.1 _ _))
      (fun r l => (k_block m c t ⟨0, hb⟩ h0 r l).trans (hr.2 _ _))
      (fun r l => v_block m c t ⟨0, hb⟩ h0 r l) k0_pay10 k0_pay11 k0_pay12
      (seen_zero q k _ i _ _ _ ?_ ?_ ?_) _ _ _ (m_first m c t h0 h1) (l_first m c t h0 h1) (a_first m c t h0 h1)
    · obtain ⟨μ, hμ⟩ := fill_real
      exact ⟨μ, fun y => by pointwise [k0_pay10]; exact hμ⟩
    · intro y; pointwise [k0_pay11]
    · intro y; pointwise [k0_pay12]
  | b + 1, hb, t, ht => by
    have h0 : ¬t.val % 8 = 0 := by omega
    have ih := seen_at c q k hr i b (by omega) ⟨t.val - 1, by have := t.isLt; omega⟩ (by show t.val - 1 = _; omega)
    have hQ := fun r l => (q_block m c t i (by omega) r l).trans (hr.1 _ _)
    have hK := fun r l => (k_block m c t ⟨b + 1, hb⟩ (by show _ = b + 1; omega) r l).trans (hr.2 _ _)
    have hV := fun r l => v_block m c t ⟨b + 1, hb⟩ (by show _ = b + 1; omega) r l
    by_cases h1 : t.val % 8 = 7
    · exact seen_step q k _ i ⟨b + 1, hb⟩ (iblk m c 0 t) (iblk m c 1 t) (iblk m c 2 t) hQ hK hV _ _ _ ih _ _ _
        (m_last m c t h0 h1) (l_last m c t h0 h1) (a_last m c t h0 h1)
    · exact seen_step q k _ i ⟨b + 1, hb⟩ (iblk m c 0 t) (iblk m c 1 t) (iblk m c 2 t) hQ hK hV _ _ _ ih _ _ _
        (m_mid m c t h0 h1) (l_mid m c t h0 h1) (a_mid m c t h0 h1)

/-- The kernel's result at row `n`, column `o`: the softmax averages of the value rows in all heads, projected. -/
theorem result (c : Dev nD) (q k : Fin 4096 → Fin 128 → ℝ) (hr : RealArgs m c q k) (n : Fin 4096) (o : Fin 128) :
    G5 m c (ix2 n o) = (∑ l : Fin 128, average Finset.univ (sigma q k n (headOf l))
      (fun j => m ((c : Thread nD τ).loc main_arg2) (ix2 j l)) * m ((c : Thread nD τ).loc main_arg3) (ix2 o l))
      + m ((c : Thread nD τ).loc main_arg4) (ix1 o) := by
  have hN : cfg0.N = 64 := N_0
  have hpt : pt5Of (ix2 n o) = 8 * (n.val / 512) + 7 := by
    show 8 * (1 * (n.val / 512 - 0) + 1 * (o.val / 128 - 0)) + 7 = _
    omega
  have hlt : pt5Of (ix2 n o) < cfg0.N := by omega
  obtain ⟨t, ht⟩ : ∃ t : Fin cfg0.N, t.val = pt5Of (ix2 n o) := ⟨⟨_, hlt⟩, rfl⟩
  have hloc : loc5Of (ix2 n o) = ix2 ⟨n.val % 512, Nat.mod_lt _ (by decide)⟩ o := by
    refine (eq_ix2 _).trans ?_
    refine congrArg₂ ix2 rfl (Fin.ext ?_)
    show o.val % 128 = o.val
    omega
  have hn : rowAt (n.val / 512) (by omega) ⟨n.val % 512, Nat.mod_lt _ (by decide)⟩ = n := by
    refine Fin.ext ?_
    show 512 * (n.val / 512) + n.val % 512 = n.val
    omega
  have hs := seen_at m c q k hr ⟨n.val / 512, by omega⟩ 7 (by decide) t (by rw [ht, hpt])
  have ho := out_last m c t (by omega) (by omega) (ix2 ⟨n.val % 512, Nat.mod_lt _ (by decide)⟩ o)
  rw [outRow_of_seen q k _ _ _ _ _ hs, hn] at ho
  unfold G5
  rw [dif_pos hlt, hloc, fold0_congr m c _ _ t.val (by have := t.isLt; omega) ht.symm, ← outsAt0_sweep m c t.val t.isLt, ho]
  refine congrArg₂ (fun a b : EReal => a + b) (Finset.sum_congr rfl fun l _ => congrArg (fun z : EReal => _ * z) ?_) ?_
  · exact w_block m c t o l
  · exact b_block m c t o

end Cert.MhaIdeal.Step
end
-- ==== Proof.Reference.lean ====
/-
  The reference read at an index: the scores, and the softmax of them averaging the value rows, projected.
-/
module
public import proofs.«01_k».proof.Proof.Gen.MhaRefIdeal.Run
public import Idealize.ShloMosaic.Lib.Pointwise
@[expose] public section
set_option maxRecDepth 16384
noncomputable section
open Idealize.ShloMosaic
namespace Cert.MhaRefIdeal.Read
open Cert.MhaRefIdeal Cert.MhaRefIdeal.Gen

/-- The scores of all heads. -/
def scores (q k : FVec Ideal S4096x128 .f32) : FVec Ideal S8x4096x4096 .f32 :=
  Host.divf (Host.dotGeneral dot_S8x4096x16_S8x4096x16_S8x4096x4096_2_2_1_1_0_0 none
    (transpose S8x4096x16 [1, 0, 2] (shapeCast S4096x8x16 q shapeCasts_S4096x128_S4096x8x16) transposes_S4096x8x16_S8x4096x16_1_0_2)
    (transpose S8x4096x16 [1, 0, 2] (shapeCast S4096x8x16 k shapeCasts_S4096x128_S4096x8x16) transposes_S4096x8x16_S8x4096x16_1_0_2))
    (broadcastInDim S8x4096x4096 ![] bcast_S_S8x4096x4096 (constant S_ .f32 0x40800000#32))

theorem scores_at (q k : FVec Ideal S4096x128 .f32) (h : Fin 8) (n j : Fin 4096) :
    scores q k (ix3 h n j) = Ideal.div (∑ d : Fin 16, q (ix2 n ⟨h.val * 16 + d.val, by omega⟩) * k (ix2 j ⟨h.val * 16 + d.val, by omega⟩))
      (Ideal.ofBits .f32 0x40800000#32) := by
  pointwise [scores]

/-- Each row's maximum. -/
def rowMax (S : FVec Ideal S8x4096x4096 .f32) : FVec Ideal S8x4096 .f32 :=
  Host.reduce FloatOps.maximumf S (constant S_ .f32 0xFF800000#32) reducesTo_S8x4096x4096_S8x4096_d2 h_S_

theorem rowMax_at (S : FVec Ideal S8x4096x4096 .f32) (h : Fin 8) (n : Fin 4096) :
    rowMax S (ix2 h n) = Finset.univ.fold max (Ideal.ofBits .f32 0xFF800000#32) fun x : Fin 4096 => S (ix3 h n x) := by
  pointwise [rowMax]

/-- The exponentials of the scores less their row's maximum. -/
def expo (S : FVec Ideal S8x4096x4096 .f32) (M : FVec Ideal S8x4096 .f32) : FVec Ideal S8x4096x4096 .f32 :=
  Host.exp (subf S (broadcastInDim S8x4096x4096 ![0, 1, 2] bcast_S8x4096x1_S8x4096x4096_0_1_2
    (broadcastInDim S8x4096x1 ![0, 1] bcast_S8x4096_S8x4096x1_0_1
      (maximumf (broadcastInDim S8x4096 ![] bcast_S_S8x4096 (constant S_ .f32 0xFF800000#32)) M))))

theorem expo_at (S : FVec Ideal S8x4096x4096 .f32) (M : FVec Ideal S8x4096 .f32) (h : Fin 8) (n j : Fin 4096) :
    expo S M (ix3 h n j) = Ideal.exp (S (ix3 h n j) - max (Ideal.ofBits .f32 0xFF800000#32) (M (ix2 h n))) := by
  pointwise [expo]

/-- The softmax weights. -/
def weights (E : FVec Ideal S8x4096x4096 .f32) : FVec Ideal S8x4096x4096 .f32 :=
  Host.divf E (broadcastInDim S8x4096x4096 ![0, 1, 2] bcast_S8x4096x1_S8x4096x4096_0_1_2
    (broadcastInDim S8x4096x1 ![0, 1] bcast_S8x4096_S8x4096x1_0_1
      (Host.reduceAdd E (constant S_ .f32 0x00000000#32) reducesTo_S8x4096x4096_S8x4096_d2 h_S_)))

theorem weights_at (E : FVec Ideal S8x4096x4096 .f32) (h : Fin 8) (n j : Fin 4096) :
    weights E (ix3 h n j) = Ideal.div (E (ix3 h n j)) (∑ x : Fin 4096, E (ix3 h n x)) := by
  pointwise [weights]

/-- The weighted averages of the value rows, the heads side by side, projected, plus the bias. -/
def project (P : FVec Ideal S8x4096x4096 .f32) (v : FVec Ideal S4096x128 .f32) (wo : FVec Ideal S128x128 .f32)
    (bo : FVec Ideal S128 .f32) : FVec Ideal S4096x128 .f32 :=
  addf (Host.dotGeneral dot_S4096x128_S128x128_S4096x128_1_0_0_1_n_n none
    (shapeCast S4096x128 (transpose S4096x8x16 [1, 0, 2]
      (Host.dotGeneral dot_S8x4096x4096_S8x4096x16_S8x4096x16_2_1_1_2_0_0 none P
        (transpose S8x4096x16 [1, 0, 2] (shapeCast S4096x8x16 v shapeCasts_S4096x128_S4096x8x16) transposes_S4096x8x16_S8x4096x16_1_0_2))
      transposes_S8x4096x16_S4096x8x16_1_0_2) shapeCasts_S4096x8x16_S4096x128)
    (transpose S128x128 [1, 0] wo transposes_S128x128_S128x128_1_0))
    (broadcastInDim S4096x128 ![0, 1] bcast_S1x128_S4096x128_0_1 (broadcastInDim S1x128 ![1] bcast_S128_S1x128_1 bo))

theorem project_at (P : FVec Ideal S8x4096x4096 .f32) (v : FVec Ideal S4096x128 .f32) (wo : FVec Ideal S128x128 .f32)
    (bo : FVec Ideal S128 .f32) (n : Fin 4096) (o : Fin 128) :
    project P v wo bo (ix2 n o) = (∑ l : Fin 128, (∑ j : Fin 4096, P (ix3 ⟨l.val / 16, by omega⟩ n j) * v (ix2 j l)) * wo (ix2 o l))
      + bo (ix1 o) := by
  pointwise [project]

/-- The reference's result. -/
def out (q k v : FVec Ideal S4096x128 .f32) (wo : FVec Ideal S128x128 .f32) (bo : FVec Ideal S128 .f32) : FVec Ideal S4096x128 .f32 :=
  project (weights (expo (scores q k) (rowMax (scores q k)))) v wo bo

end Cert.MhaRefIdeal.Read
end
-- ==== Proof.Match.lean ====
/-
  The reference's result in the terms the kernel's is stated in: softmax averages of the value rows, projected.
-/
module
public import proofs.«01_k».proof.Proof.Reference
public import proofs.«01_k».proof.Proof.Online
@[expose] public section
set_option maxRecDepth 16384
noncomputable section
open Idealize.ShloMosaic
namespace Cert.MhaRefIdeal.Read
open Cert.MhaIdeal.Step Cert.Softmax

/-- The reference's divisor is four. -/
theorem four : Ideal.ofBits .f32 0x40800000#32 = ((4 : ℝ) : EReal) := by
  simp [Ideal.ofBits, Ideal.ieee, -EReal.coe_mul]; norm_num

/-- The reference's score of real rows is the real score: dividing the product by four scales the query by a quarter. -/
theorem scores_real (Q K : FVec Ideal S4096x128 .f32) (q k : Fin 4096 → Fin 128 → ℝ) (hQ : ∀ n l, Q (ix2 n l) = (q n l : EReal))
    (hK : ∀ n l, K (ix2 n l) = (k n l : EReal)) (h : Fin 8) (n j : Fin 4096) :
    scores Q K (ix3 h n j) = (sigma q k n h j : EReal) := by
  rw [scores_at, four, Ideal.div_coe (by norm_num)]
  have e : ∀ d : Fin 16, (⟨h.val * 16 + d.val, by omega⟩ : Fin 128) = lane h d := fun d => Fin.ext (by show h.val * 16 + d.val = 16 * h.val + d.val; omega)
  simp only [hQ, hK, e, ← EReal.coe_mul]
  rw [← coe_sum, ← EReal.coe_mul, sigma, Finset.sum_mul]
  refine congrArg _ (Finset.sum_congr rfl fun d _ => ?_)
  ring

/-- The reference's result at row `n`, column `o`. -/
theorem out_at (Q K v : FVec Ideal S4096x128 .f32) (wo : FVec Ideal S128x128 .f32) (bo : FVec Ideal S128 .f32)
    (q k : Fin 4096 → Fin 128 → ℝ) (hQ : ∀ n l, Q (ix2 n l) = (q n l : EReal))
    (hK : ∀ n l, K (ix2 n l) = (k n l : EReal)) (n : Fin 4096) (o : Fin 128) :
    out Q K v wo bo (ix2 n o) = (∑ l : Fin 128, average Finset.univ (sigma q k n (headOf l)) (fun j => v (ix2 j l)) * wo (ix2 o l))
      + bo (ix1 o) := by
  rw [out, project_at]
  refine congrArg (fun z : EReal => z + _) (Finset.sum_congr rfl fun l _ => congrArg (fun z : EReal => z * _) ?_)
  obtain ⟨μ, hμ⟩ := bot_max_fold_real Finset.univ Finset.univ_nonempty fun x : Fin 4096 => sigma q k n (headOf l) x
  simp only [weights_at, expo_at, rowMax_at, scores_real Q K q k hQ hK, neg_inf]
  rw [hμ, sum_div_mul _ Finset.univ_nonempty]

end Cert.MhaRefIdeal.Read
end
-- ==== Proof.Finite.lean ====
/-
  The precondition read: every entry of the queries and of the keys is a real number.
-/
module
public import proofs.«01_k».proof.Proof.Gen.Pre_finite_qk
public import Idealize.ShloMosaic.Lib.Pointwise
public import Idealize.ShloMosaic.Lib.ReduceAll
@[expose] public section
set_option maxRecDepth 16384
noncomputable section
open Idealize.ShloMosaic
namespace Cert.Pre_finite_qk.Read
open Cert.Pre_finite_qk Cert.Pre_finite_qk.Gen

/-- An extended real whose absolute value is below plus infinity is a real number. -/
theorem real_of_abs (x : Ideal .f32)
    (h : BitVec.ofBool (decide (FloatOps.absf (F := Ideal) (φ := .f32) x < Ideal.ofBits .f32 0x7F800000#32)) = 1#1) :
    ∃ r : ℝ, x = (r : EReal) := by
  have ht : Ideal.ofBits .f32 0x7F800000#32 = ⊤ := by simp [Ideal.ofBits, Ideal.ieee]
  rw [ht] at h
  have hd : max (x : EReal) (-(x : EReal)) < ⊤ := by
    by_contra hc
    rw [show decide (FloatOps.absf (F := Ideal) (φ := .f32) x < (⊤ : EReal)) = false from decide_eq_false hc] at h
    exact absurd h (by decide)
  obtain ⟨h1, h2⟩ := max_lt_iff.mp hd
  induction x using EReal.rec with
  | bot => simp at h2
  | coe r => exact ⟨r, rfl⟩
  | top => simp at h1

instance : Subsingleton S_.Idx := ⟨fun a b => funext fun i => i.elim0⟩

/-- Under the precondition the queries and the keys are real arrays. -/
theorem real (q k v : FVec Ideal S4096x128 .f32) (wo : FVec Ideal S128x128 .f32) (bo : FVec Ideal S128 .f32)
    (h : fn (F := Ideal) q k v wo bo = fun _ => 1#1) : (∀ i, ∃ r : ℝ, q i = r) ∧ (∀ i, ∃ r : ℝ, k i = r) := by
  have e := congrFun h ix0
  obtain ⟨hq, hk⟩ := IntOp.andi_eq_one.mp e
  refine ⟨fun i => ?_, fun i => ?_⟩
  · have := Host.reduce_andi_all _ _ _ _ _ hq i
    pointwise at this
    exact real_of_abs _ this
  · have := Host.reduce_andi_all _ _ _ _ _ hk i
    pointwise at this
    exact real_of_abs _ this

end Cert.Pre_finite_qk.Read
end
-- ==== Proof.Qkv.lean ====
/-
  The three projections: what each output array holds after the run is the reference's product plus bias.
-/
module
public import proofs.«01_k».proof.Proof.Gen.QkvIdeal.Value
public import proofs.«01_k».proof.Proof.Gen.QkvRefIdeal.Run
public import Idealize.ShloMosaic.Lib.Pipeline.ValueKit
@[expose] public section
set_option maxRecDepth 16384
noncomputable section
open Idealize.ShloMosaic Idealize.ShloMosaic.TcCoe Idealize.SL.Sem
open Idealize.ShloMosaic.Pipeline (Dat)
namespace Cert.QkvIdeal.Arrays
open Cert.QkvIdeal Cert.QkvIdeal.Gen
variable (m : (ℓ : Loc nD τ sig) → Buf (Elt Ideal) ℓ)

/-- The reference's projection of the rows of `h` by the matrix `w`, plus the bias `b`. -/
def linear (h : FVec Ideal S4096x128 .f32) (w : FVec Ideal S128x128 .f32) (b : FVec Ideal Cert.QkvRefIdeal.S128 .f32) : FVec Ideal S4096x128 .f32 :=
  addf (Host.dotGeneral Cert.QkvRefIdeal.dot_S4096x128_S128x128_S4096x128_1_0_0_1_n_n none h
      (transpose Cert.QkvRefIdeal.S128x128 [1, 0] w Cert.QkvRefIdeal.Gen.transposes_S128x128_S128x128_1_0))
    (broadcastInDim Cert.QkvRefIdeal.S4096x128 ![0, 1] Cert.QkvRefIdeal.Gen.bcast_S1x128_S4096x128_0_1
      (broadcastInDim Cert.QkvRefIdeal.S1x128 ![1] Cert.QkvRefIdeal.Gen.bcast_S128_S1x128_1 b))

/-- The index maps: the rows' block follows the point, the matrices and biases are read whole. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![t.val, 0] ∧ win0_8.index t = ![t.val, 0] ∧ win0_9.index t = ![t.val, 0] ∧ t.val < 8 :=
  (by decide +kernel : ∀ t : Fin grid0.N, _)

/-- The queries after the run. -/
theorem queries (c : Dev nD) : (dats m 0 c).arrAt 7 cfg0.N
    = linear (m ((c : Thread nD τ).loc main_arg0)) (m ((c : Thread nD τ).loc main_arg1)) (m ((c : Thread nD τ).loc main_arg2)) := by
  refine (dats m 0 c).arrAt_eq_of_covers 7 _ (by decide +kernel) fun t _ y => ?_
  blk_simp
  rw [after0_7]
  frame_out
  open_payloads
  pointwise [linear]
  blk_point [iblk, V, idx t]

/-- The keys after the run. -/
theorem keys (c : Dev nD) : (dats m 0 c).arrAt 8 cfg0.N
    = linear (m ((c : Thread nD τ).loc main_arg0)) (m ((c : Thread nD τ).loc main_arg3)) (m ((c : Thread nD τ).loc main_arg4)) := by
  refine (dats m 0 c).arrAt_eq_of_covers 8 _ (by decide +kernel) fun t _ y => ?_
  blk_simp
  rw [after0_8]
  frame_out
  open_payloads
  pointwise [linear]
  blk_point [iblk, V, idx t]

/-- The values after the run. -/
theorem values (c : Dev nD) : (dats m 0 c).arrAt 9 cfg0.N
    = linear (m ((c : Thread nD τ).loc main_arg0)) (m ((c : Thread nD τ).loc main_arg5)) (m ((c : Thread nD τ).loc main_arg6)) := by
  refine (dats m 0 c).arrAt_eq_of_covers 9 _ (by decide +kernel) fun t _ y => ?_
  blk_simp
  rw [after0_9]
  frame_out
  open_payloads
  pointwise [linear]
  blk_point [iblk, V, idx t]

end Cert.QkvIdeal.Arrays
end
-- ==== Proof.Pre0.lean ====
/-
  Graph layer 0's linear map and attention scores: what each output array holds after the run is the
  reference's.
-/
module
public import proofs.«01_k».proof.Proof.Gen.Pre0Ideal.Value
public import proofs.«01_k».proof.Proof.Gen.Pre0RefIdeal.Run
public import Idealize.ShloMosaic.Lib.Pipeline.ValueKit
@[expose] public section
set_option maxRecDepth 16384
noncomputable section
open Idealize.ShloMosaic Idealize.ShloMosaic.TcCoe Idealize.SL.Sem
open Idealize.ShloMosaic.Pipeline (Dat)
namespace Cert.Pre0Ideal.Arrays
open Cert.Pre0Ideal Cert.Pre0Ideal.Gen
variable (m : (ℓ : Loc nD τ sig) → Buf (Elt Ideal) ℓ)

/-- The reference's linear map of the rows of `h` by the matrix `w`. -/
def linear (h : FVec Ideal S4096x128 .f32) (w : FVec Ideal S512x128 .f32) : FVec Ideal S4096x512 .f32 :=
  Host.dotGeneral Cert.Pre0RefIdeal.dot_S4096x128_S128x512_S4096x512_1_0_0_1_n_n none h
    (transpose Cert.Pre0RefIdeal.S128x512 [1, 0] w Cert.Pre0RefIdeal.Gen.transposes_S512x128_S128x512_1_0)

/-- The reference's attention scores: per head, the mapped row against the head's vector. -/
def scores (h : FVec Ideal S4096x128 .f32) (w : FVec Ideal S512x128 .f32) (a : FVec Ideal S4x128 .f32) : FVec Ideal S4096x4 .f32 :=
  Host.reduceAdd (mulf (shapeCast Cert.Pre0RefIdeal.S4096x4x128 (linear h w) Cert.Pre0RefIdeal.Gen.shapeCasts_S4096x512_S4096x4x128)
    (broadcastInDim Cert.Pre0RefIdeal.S4096x4x128 ![0, 1, 2] Cert.Pre0RefIdeal.Gen.bcast_S1x4x128_S4096x4x128_0_1_2
      (broadcastInDim Cert.Pre0RefIdeal.S1x4x128 ![1, 2] Cert.Pre0RefIdeal.Gen.bcast_S4x128_S1x4x128_1_2 a)))
    (constant Cert.Pre0RefIdeal.S_ .f32 0x00000000#32) Cert.Pre0RefIdeal.Gen.reducesTo_S4096x4x128_S4096x4_d2 Cert.Pre0RefIdeal.Gen.h_S_

/-- The index maps: the rows' block follows the point, the matrix and the vectors are read whole. -/
theorem idx : ∀ t : Fin cfg0.N, win0_0.index t = ![t.val, 0] ∧ win0_1.index t = ![0, 0] ∧ win0_2.index t = ![0, 0]
    ∧ win0_3.index t = ![0, 0] ∧ win0_4.index t = ![t.val, 0] ∧ win0_5.index t = ![t.val, 0] ∧ win0_6.index t = ![t.val, 0]
    ∧ win0_7.index t = ![0, t.val] ∧ t.val < 8 :=
  (by decide +kernel : ∀ t : Fin grid0.N, _)

/-- The mapped rows after the run. -/
theorem mapped (c : Dev nD) : (dats m 0 c).arrAt 4 cfg0.N
    = linear (m ((c : Thread nD τ).loc main_arg0)) (m ((c : Thread nD τ).loc main_arg1)) := by
  refine (dats m 0 c).arrAt_eq_of_covers 4 _ (by decide +kernel) fun t _ y => ?_
  blk_simp
  rw [after0_4]
  frame_out
  open_payloads
  pointwise [linear]
  blk_point [iblk, V, idx t]

/-- The source scores after the run. -/
theorem source (c : Dev nD) : (dats m 0 c).arrAt 5 cfg0.N
    = scores (m ((c : Thread nD τ).loc main_arg0)) (m ((c : Thread nD τ).loc main_arg1)) (m ((c : Thread nD τ).loc main_arg2)) := by
  refine (dats m 0 c).arrAt_eq_of_covers 5 _ (by decide +kernel) fun t _ y => ?_
  blk_simp
  rw [after0_5]
  frame_out
  canon_tiles x h
  all_goals (open_payloads; pointwise [scores, linear]; blk_point [iblk, V, idx t])

/-- The destination scores after the run. -/
theorem destination (c : Dev nD) : (dats m 0 c).arrAt 6 cfg0.N
    = scores (m ((c : Thread nD τ).loc main_arg0)) (m ((c : Thread nD τ).loc main_arg1)) (m ((c : Thread nD τ).loc main_arg3)) := by
  refine (dats m 0 c).arrAt_eq_of_covers 6 _ (by decide +kernel) fun t _ y => ?_
  blk_simp
  rw [after0_6]
  frame_out
  canon_tiles x h
  all_goals (open_payloads; pointwise [scores, linear]; blk_point [iblk, V, idx t])

/-- The source scores, head by head along the nodes, after the run. -/
theorem source_rows (c : Dev nD) : (dats m 0 c).arrAt 7 cfg0.N
    = transpose Cert.Pre0RefIdeal.S4x4096 [1, 0] (scores (m ((c : Thread nD τ).loc main_arg0)) (m ((c : Thread nD τ).loc main_arg1)) (m ((c : Thread nD τ).loc main_arg2)))
      Cert.Pre0RefIdeal.Gen.transposes_S4096x4_S4x4096_1_0 := by
  refine (dats m 0 c).arrAt_eq_of_covers 7 _ (by decide +kernel) fun t _ y => ?_
  blk_simp
  rw [after0_7]
  frame_out
  canon_tiles x h
  all_goals (open_payloads; pointwise [scores, linear]; blk_point [iblk, V, idx t])

end Cert.Pre0Ideal.Arrays
end
-- ==== Proof.Pre1.lean ====
/-
  Graph layer 1's linear map and attention scores: what each output array holds after the run is the
  reference's.
-/
module
public import proofs.«01_k».proof.Proof.Gen.Pre1Ideal.Value
public import proofs.«01_k».proof.Proof.Gen.Pre1RefIdeal.Run
public import Idealize.ShloMosaic.Lib.Pipeline.ValueKit
@[expose] public section
set_option maxRecDepth 16384
noncomputable section
open Idealize.ShloMosaic Idealize.ShloMosaic.TcCoe Idealize.SL.Sem
open Idealize.ShloMosaic.Pipeline (Dat)
namespace Cert.Pre1Ideal.Arrays
open Cert.Pre1Ideal Cert.Pre1Ideal.Gen
variable (m : (ℓ : Loc nD τ sig) → Buf (Elt Ideal) ℓ)

/-- The reference's linear map of the rows of `h` by the matrix `w`. -/
def linear (h : FVec Ideal S4096x512 .f32) (w : FVec Ideal S512x512 .f32) : FVec Ideal S4096x512 .f32 :=
  Host.dotGeneral Cert.Pre1RefIdeal.dot_S4096x512_S512x512_S4096x512_1_0_0_1_n_n none h
    (transpose Cert.Pre1RefIdeal.S512x512 [1, 0] w Cert.Pre1RefIdeal.Gen.transposes_S512x512_S512x512_1_0)

/-- The reference's attention scores: per head, the mapped row against the head's vector. -/
def scores (h : FVec Ideal S4096x512 .f32) (w : FVec Ideal S512x512 .f32) (a : FVec Ideal S4x128 .f32) : FVec Ideal S4096x4 .f32 :=
  Host.reduceAdd (mulf (shapeCast Cert.Pre1RefIdeal.S4096x4x128 (linear h w) Cert.Pre1RefIdeal.Gen.shapeCasts_S4096x512_S4096x4x128)
    (broadcastInDim Cert.Pre1RefIdeal.S4096x4x128 ![0, 1, 2] Cert.Pre1RefIdeal.Gen.bcast_S1x4x128_S4096x4x128_0_1_2
      (broadcastInDim Cert.Pre1RefIdeal.S1x4x128 ![1, 2] Cert.Pre1RefIdeal.Gen.bcast_S4x128_S1x4x128_1_2 a)))
    (constant Cert.Pre1RefIdeal.S_ .f32 0x00000000#32) Cert.Pre1RefIdeal.Gen.reducesTo_S4096x4x128_S4096x4_d2 Cert.Pre1RefIdeal.Gen.h_S_

/-- The index maps: the rows' block follows the point, the matrix and the vectors are read whole. -/
theorem idx : ∀ t : Fin cfg0.N, win0_0.index t = ![t.val, 0] ∧ win0_1.index t = ![0, 0] ∧ win0_2.index t = ![0, 0]
    ∧ win0_3.index t = ![0, 0] ∧ win0_4.index t = ![t.val, 0] ∧ win0_5.index t = ![t.val, 0] ∧ win0_6.index t = ![t.val, 0]
    ∧ win0_7.index t = ![0, t.val] ∧ t.val < 8 :=
  (by decide +kernel : ∀ t : Fin grid0.N, _)

/-- The mapped rows after the run. -/
theorem mapped (c : Dev nD) : (dats m 0 c).arrAt 4 cfg0.N
    = linear (m ((c : Thread nD τ).loc main_arg0)) (m ((c : Thread nD τ).loc main_arg1)) := by
  refine (dats m 0 c).arrAt_eq_of_covers 4 _ (by decide +kernel) fun t _ y => ?_
  blk_simp
  rw [after0_4]
  frame_out
  open_payloads
  pointwise [linear]
  blk_point [iblk, V, idx t]

/-- The source scores after the run. -/
theorem source (c : Dev nD) : (dats m 0 c).arrAt 5 cfg0.N
    = scores (m ((c : Thread nD τ).loc main_arg0)) (m ((c : Thread nD τ).loc main_arg1)) (m ((c : Thread nD τ).loc main_arg2)) := by
  refine (dats m 0 c).arrAt_eq_of_covers 5 _ (by decide +kernel) fun t _ y => ?_
  blk_simp
  rw [after0_5]
  frame_out
  canon_tiles x h
  all_goals (open_payloads; pointwise [scores, linear]; blk_point [iblk, V, idx t])

/-- The destination scores after the run. -/
theorem destination (c : Dev nD) : (dats m 0 c).arrAt 6 cfg0.N
    = scores (m ((c : Thread nD τ).loc main_arg0)) (m ((c : Thread nD τ).loc main_arg1)) (m ((c : Thread nD τ).loc main_arg3)) := by
  refine (dats m 0 c).arrAt_eq_of_covers 6 _ (by decide +kernel) fun t _ y => ?_
  blk_simp
  rw [after0_6]
  frame_out
  canon_tiles x h
  all_goals (open_payloads; pointwise [scores, linear]; blk_point [iblk, V, idx t])

/-- The source scores, head by head along the nodes, after the run. -/
theorem source_rows (c : Dev nD) : (dats m 0 c).arrAt 7 cfg0.N
    = transpose Cert.Pre1RefIdeal.S4x4096 [1, 0] (scores (m ((c : Thread nD τ).loc main_arg0)) (m ((c : Thread nD τ).loc main_arg1)) (m ((c : Thread nD τ).loc main_arg2)))
      Cert.Pre1RefIdeal.Gen.transposes_S4096x4_S4x4096_1_0 := by
  refine (dats m 0 c).arrAt_eq_of_covers 7 _ (by decide +kernel) fun t _ y => ?_
  blk_simp
  rw [after0_7]
  frame_out
  canon_tiles x h
  all_goals (open_payloads; pointwise [scores, linear]; blk_point [iblk, V, idx t])

end Cert.Pre1Ideal.Arrays
end
-- ==== Proof.Pre2.lean ====
/-
  Graph layer 2's linear map and attention scores: what each output array holds after the run is the
  reference's.
-/
module
public import proofs.«01_k».proof.Proof.Gen.Pre2Ideal.Value
public import proofs.«01_k».proof.Proof.Gen.Pre2RefIdeal.Run
public import Idealize.ShloMosaic.Lib.Pipeline.ValueKit
@[expose] public section
set_option maxRecDepth 16384
noncomputable section
open Idealize.ShloMosaic Idealize.ShloMosaic.TcCoe Idealize.SL.Sem
open Idealize.ShloMosaic.Pipeline (Dat)
namespace Cert.Pre2Ideal.Arrays
open Cert.Pre2Ideal Cert.Pre2Ideal.Gen
variable (m : (ℓ : Loc nD τ sig) → Buf (Elt Ideal) ℓ)

/-- The reference's linear map of the rows of `h` by the matrix `w`. -/
def linear (h : FVec Ideal S4096x512 .f32) (w : FVec Ideal S128x512 .f32) : FVec Ideal S4096x128 .f32 :=
  Host.dotGeneral Cert.Pre2RefIdeal.dot_S4096x512_S512x128_S4096x128_1_0_0_1_n_n none h
    (transpose Cert.Pre2RefIdeal.S512x128 [1, 0] w Cert.Pre2RefIdeal.Gen.transposes_S128x512_S512x128_1_0)

/-- The reference's attention scores: per head, the mapped row against the head's vector. -/
def scores (h : FVec Ideal S4096x512 .f32) (w : FVec Ideal S128x512 .f32) (a : FVec Ideal S1x128 .f32) : FVec Ideal S4096x1 .f32 :=
  Host.reduceAdd (mulf (shapeCast Cert.Pre2RefIdeal.S4096x1x128 (linear h w) Cert.Pre2RefIdeal.Gen.shapeCasts_S4096x128_S4096x1x128)
    (broadcastInDim Cert.Pre2RefIdeal.S4096x1x128 ![0, 1, 2] Cert.Pre2RefIdeal.Gen.bcast_S1x1x128_S4096x1x128_0_1_2
      (broadcastInDim Cert.Pre2RefIdeal.S1x1x128 ![1, 2] Cert.Pre2RefIdeal.Gen.bcast_S1x128_S1x1x128_1_2 a)))
    (constant Cert.Pre2RefIdeal.S_ .f32 0x00000000#32) Cert.Pre2RefIdeal.Gen.reducesTo_S4096x1x128_S4096x1_d2 Cert.Pre2RefIdeal.Gen.h_S_

/-- The index maps: the rows' block follows the point, the matrix and the vectors are read whole. -/
theorem idx : ∀ t : Fin cfg0.N, win0_0.index t = ![t.val, 0] ∧ win0_1.index t = ![0, 0] ∧ win0_2.index t = ![0, 0]
    ∧ win0_3.index t = ![0, 0] ∧ win0_4.index t = ![t.val, 0] ∧ win0_5.index t = ![t.val, 0] ∧ win0_6.index t = ![t.val, 0]
    ∧ win0_7.index t = ![0, t.val] ∧ t.val < 8 :=
  (by decide +kernel : ∀ t : Fin grid0.N, _)

/-- The mapped rows after the run. -/
theorem mapped (c : Dev nD) : (dats m 0 c).arrAt 4 cfg0.N
    = linear (m ((c : Thread nD τ).loc main_arg0)) (m ((c : Thread nD τ).loc main_arg1)) := by
  refine (dats m 0 c).arrAt_eq_of_covers 4 _ (by decide +kernel) fun t _ y => ?_
  blk_simp
  rw [after0_4]
  frame_out
  open_payloads
  pointwise [linear]
  blk_point [iblk, V, idx t]

/-- The source scores after the run. -/
theorem source (c : Dev nD) : (dats m 0 c).arrAt 5 cfg0.N
    = scores (m ((c : Thread nD τ).loc main_arg0)) (m ((c : Thread nD τ).loc main_arg1)) (m ((c : Thread nD τ).loc main_arg2)) := by
  refine (dats m 0 c).arrAt_eq_of_covers 5 _ (by decide +kernel) fun t _ y => ?_
  blk_simp
  rw [after0_5]
  frame_out
  open_payloads
  pointwise [scores, linear]
  blk_point [iblk, V, idx t]

/-- The destination scores after the run. -/
theorem destination (c : Dev nD) : (dats m 0 c).arrAt 6 cfg0.N
    = scores (m ((c : Thread nD τ).loc main_arg0)) (m ((c : Thread nD τ).loc main_arg1)) (m ((c : Thread nD τ).loc main_arg3)) := by
  refine (dats m 0 c).arrAt_eq_of_covers 6 _ (by decide +kernel) fun t _ y => ?_
  blk_simp
  rw [after0_6]
  frame_out
  open_payloads
  pointwise [scores, linear]
  blk_point [iblk, V, idx t]

/-- The source scores, head by head along the nodes, after the run. -/
theorem source_rows (c : Dev nD) : (dats m 0 c).arrAt 7 cfg0.N
    = transpose Cert.Pre2RefIdeal.S1x4096 [1, 0] (scores (m ((c : Thread nD τ).loc main_arg0)) (m ((c : Thread nD τ).loc main_arg1)) (m ((c : Thread nD τ).loc main_arg2)))
      Cert.Pre2RefIdeal.Gen.transposes_S4096x1_S1x4096_1_0 := by
  refine (dats m 0 c).arrAt_eq_of_covers 7 _ (by decide +kernel) fun t _ y => ?_
  blk_simp
  rw [after0_7]
  frame_out
  open_payloads
  pointwise [scores, linear]
  blk_point [iblk, V, idx t]

end Cert.Pre2Ideal.Arrays
end
-- ==== Proof.Gat.lean ====
/-
  Graph attention with edge multiplicities over the extended reals. The kernel writes the exponential of a bent
  sum of two scores as a product of exponentials, shifts by the bent maximum, sums over the nodes block by block
  and divides once at the end; the reference divides every weight by the normaliser. Both are the same weighted
  average when the multiplicities are not negative.
-/
module
public import proofs.«01_k».proof.Proof.Online
@[expose] public section
set_option maxRecDepth 16384
noncomputable section
open Idealize.ShloMosaic
namespace Cert.Gat
open Cert.Softmax

/-- The slope the scores are bent by below zero. -/
def slopeWord : EReal := Ideal.ofBits .f32 0x3E4CCCCD#32

/-- The number the normaliser is guarded by. -/
def guardWord : EReal := Ideal.ofBits .f32 0x24E69595#32

/-- The number the variance is guarded by. -/
def varWord : EReal := Ideal.ofBits .f32 0x3727C5AC#32

/-- The slope as a real number. -/
def slopeR : ℝ := 13421773 / 67108864

theorem slope_eq : slopeWord = (slopeR : EReal) := by
  unfold slopeWord slopeR
  simp [Ideal.ofBits, Ideal.ieee, -EReal.coe_mul]; norm_num

theorem guard_eq : ∃ ε : ℝ, 0 < ε ∧ guardWord = (ε : EReal) := by
  refine ⟨15111573 / 2 ^ 77, by positivity, ?_⟩
  unfold guardWord
  simp [Ideal.ofBits, Ideal.ieee, -EReal.coe_mul]; norm_num

theorem var_eq : ∃ ε : ℝ, 0 < ε ∧ varWord = (ε : EReal) := by
  refine ⟨10995116 / 2 ^ 40, by positivity, ?_⟩
  unfold varWord
  simp [Ideal.ofBits, Ideal.ieee, -EReal.coe_mul]; norm_num

/-- A score bent below zero. -/
def bend (z : EReal) : EReal := if 0 < z then z else slopeWord * z

/-- The largest score of a column, as the kernel folds it. -/
def top (s : Fin 4096 → EReal) : EReal := Finset.fold max (Ideal.ofBits .f32 0xFF800000#32) s Finset.univ

/-- What the kernel shifts a row's scores by. -/
def shift (s : Fin 4096 → EReal) (d : EReal) : EReal := bend (d + top s)

/-- One weight as the kernel computes it: the multiplicity times a product of two exponentials. -/
def weight (c s d μ : EReal) : EReal :=
  c * if 0 < d + s then Ideal.exp (d - μ) * Ideal.exp s else Ideal.exp (slopeWord * d - μ) * Ideal.exp (slopeWord * s)

/-- The reference compares with "at least zero" instead of "above zero"; at zero both give zero. -/
theorem bend_ge (z : EReal) : (if 0 ≤ z then z else slopeWord * z) = bend z := by
  unfold bend
  rcases lt_trichotomy 0 z with h | h | h
  · rw [if_pos h, if_pos h.le]
  · subst h; simp
  · rw [if_neg h.not_ge, if_neg h.not_gt]

/-- A real score bent below zero. -/
def bendR (z : ℝ) : ℝ := if 0 < z then z else slopeR * z

theorem bend_real (z : ℝ) : bend (z : EReal) = (bendR z : EReal) := by
  unfold bend bendR
  by_cases h : 0 < z
  · rw [if_pos h, if_pos (EReal.coe_pos.mpr h)]
  · rw [if_neg h, if_neg (fun h' => h (EReal.coe_pos.mp h')), slope_eq, EReal.coe_mul]

theorem slopeR_pos : 0 < slopeR := by unfold slopeR; norm_num

theorem slope_bot : slopeWord * (⊥ : EReal) = ⊥ := by
  rw [slope_eq, EReal.coe_mul_bot_of_pos slopeR_pos]

theorem bend_bot : bend ⊥ = ⊥ := by
  rw [bend, if_neg (by simp), slope_bot]

theorem bend_top : bend ⊤ = ⊤ := by
  rw [bend, if_pos (by simp)]

theorem bendR_mono : Monotone bendR := by
  intro x y h
  have ha : (0 : ℝ) ≤ slopeR := slopeR_pos.le
  have hb : slopeR ≤ 1 := by unfold slopeR; norm_num
  unfold bendR
  split <;> split <;> nlinarith

theorem bend_mono : Monotone bend := by
  intro x y h
  induction x using EReal.rec with
  | bot => rw [bend_bot]; exact bot_le
  | top => rw [top_le_iff.mp h]
  | coe x =>
    induction y using EReal.rec with
    | bot => exact absurd h (by simp)
    | top => rw [bend_top]; exact le_top
    | coe y =>
      rw [bend_real, bend_real]
      exact EReal.coe_le_coe_iff.mpr (bendR_mono (EReal.coe_le_coe_iff.mp h))

/-- A score is at most the largest. -/
theorem le_top_score (s : Fin 4096 → EReal) (j : Fin 4096) : s j ≤ top s :=
  (Finset.le_fold_max _).mpr (.inr ⟨j, Finset.mem_univ _, le_rfl⟩)

/-- The largest score is some node's. -/
theorem top_score (s : Fin 4096 → EReal) : ∃ j, top s = s j := by
  obtain ⟨j, -, hj⟩ := Finset.exists_max_image Finset.univ s ⟨0, Finset.mem_univ _⟩
  refine ⟨j, le_antisymm ?_ (le_top_score s j)⟩
  rw [top, Finset.fold_max_le, Cert.MhaIdeal.Step.neg_inf]
  exact ⟨bot_le, hj⟩

/-- The largest of the bent sums is the bent sum with the largest score: bending and adding keep the order. -/
theorem top_bend (s : Fin 4096 → EReal) (d : EReal) : top (fun j => bend (d + s j)) = shift s d := by
  obtain ⟨j, hj⟩ := top_score s
  obtain ⟨k, hk⟩ := top_score fun j => bend (d + s j)
  refine le_antisymm ?_ ?_
  · rw [hk]
    exact bend_mono (add_le_add le_rfl (le_top_score s k))
  · rw [shift, hj]
    exact le_top_score (fun j => bend (d + s j)) j

/-- The product of two exponentials is the exponential of the bent and shifted score, infinite scores included: there both
    are zero. -/
theorem product (d s t : EReal) (h : s ≤ t) :
    (if 0 < d + s then Ideal.exp (d - bend (d + t)) * Ideal.exp s
      else Ideal.exp (slopeWord * d - bend (d + t)) * Ideal.exp (slopeWord * s)) = Ideal.exp (bend (d + s) - bend (d + t)) := by
  have hsum : d + s ≤ d + t := add_le_add le_rfl h
  rcases eq_or_ne (d + t) ⊤ with e | ht
  · rw [e, bend_top]
    simp only [EReal.sub_top, Ideal.exp_bot, zero_mul, ite_self]
  rcases eq_or_ne (d + t) ⊥ with e | hb
  · have e' : d + s = ⊥ := le_bot_iff.mp (e ▸ hsum)
    rw [e, e', bend_bot, if_neg (by simp), EReal.bot_sub, Ideal.exp_bot]
    rcases EReal.add_eq_bot_iff.mp e with rfl | rfl
    · rw [slope_bot, EReal.bot_sub, Ideal.exp_bot, zero_mul]
    · rw [le_bot_iff.mp h, slope_bot, Ideal.exp_bot, mul_zero]
  induction d using EReal.rec with
  | bot => simp at hb
  | top =>
    induction t using EReal.rec with
    | bot => simp at hb
    | top => simp at ht
    | coe t => simp at ht
  | coe d =>
    induction t using EReal.rec with
    | bot => simp at hb
    | top => simp at ht
    | coe t =>
      rw [← EReal.coe_add, bend_real]
      induction s using EReal.rec with
      | top => exact absurd h (by simp)
      | bot =>
        rw [EReal.add_bot, bend_bot, if_neg (by simp), slope_bot, EReal.bot_sub, Ideal.exp_bot, mul_zero]
      | coe s =>
        rw [← EReal.coe_add, bend_real]
        unfold bendR
        by_cases hp : 0 < d + s
        · rw [if_pos (EReal.coe_pos.mpr hp), if_pos hp, ← EReal.coe_sub, ← EReal.coe_sub, Ideal.exp_coe, Ideal.exp_coe,
            Ideal.exp_coe, ← EReal.coe_mul, ← Real.exp_add]
          congr 2; ring
        · rw [if_neg (fun h' => hp (EReal.coe_pos.mp h')), if_neg hp, slope_eq, ← EReal.coe_mul, ← EReal.coe_mul,
            ← EReal.coe_sub, ← EReal.coe_sub, Ideal.exp_coe, Ideal.exp_coe, Ideal.exp_coe, ← EReal.coe_mul, ← Real.exp_add]
          congr 2; ring

/-- The weight of node `j`, from multiplicities `c`, scores `s` and the row's own score `d`: the multiplicity times the
    exponential of the bent score less the largest bent score. -/
def mass (c s : Fin 4096 → EReal) (d : EReal) (j : Fin 4096) : EReal :=
  c j * Ideal.exp (bend (d + s j) - top fun k => bend (d + s k))

/-- The kernel's weight is that. -/
theorem weight_mass (c s : Fin 4096 → EReal) (d : EReal) (j : Fin 4096) : weight (c j) (s j) d (shift s d) = mass c s d j := by
  rw [mass, top_bend, weight, shift, product d (s j) (top s) (le_top_score s j)]

theorem exp_nonneg (z : EReal) : 0 ≤ Ideal.exp z := by
  induction z using EReal.rec with
  | bot => rw [Ideal.exp_bot]
  | top => rw [Ideal.exp_top]; exact le_top
  | coe r => rw [Ideal.exp_coe]; exact EReal.coe_nonneg.mpr (Real.exp_pos r).le

theorem mass_nonneg (c s : Fin 4096 → EReal) (hc : ∀ j, 0 ≤ c j) (d : EReal) (j : Fin 4096) : 0 ≤ mass c s d j :=
  mul_nonneg (hc j) (exp_nonneg _)

/-- The weighted average of the values `x`, guarded. -/
def mix (c s : Fin 4096 → EReal) (d : EReal) (x : Fin 4096 → EReal) : EReal :=
  ∑ j, Ideal.div (mass c s d j) (∑ k, mass c s d k + guardWord) * x j

theorem div_top (z : EReal) : Ideal.div z ⊤ = 0 := by
  rw [Ideal.div, if_neg EReal.top_ne_zero, EReal.inv_top, mul_zero]

/-- The normaliser with its guard is plus infinity or a positive real number. -/
theorem guarded (z : EReal) (hz : 0 ≤ z) : z + guardWord = ⊤ ∨ ∃ δ : ℝ, 0 < δ ∧ z + guardWord = (δ : EReal) := by
  obtain ⟨ε, hε, e⟩ := guard_eq
  rw [e]
  induction z using EReal.rec with
  | bot => simp at hz
  | top => exact .inl (EReal.top_add_coe ε)
  | coe r => exact .inr ⟨r + ε, add_pos_of_nonneg_of_pos (EReal.coe_nonneg.mp hz) hε, (EReal.coe_add r ε).symm⟩

/-- Dividing the weighted sum once gives the guarded average. -/
theorem div_sum (c s : Fin 4096 → EReal) (hc : ∀ j, 0 ≤ c j) (d : EReal) (x : Fin 4096 → EReal) :
    Ideal.div (∑ j, mass c s d j * x j) (∑ k, mass c s d k + guardWord) = mix c s d x := by
  unfold mix
  rcases guarded _ (Finset.sum_nonneg fun j _ => mass_nonneg c s hc d j) with e | ⟨δ, hδ, e⟩
  · rw [e, div_top]
    simp only [div_top, zero_mul, Finset.sum_const_zero]
  · rw [e, Ideal.div_coe hδ.ne', sum_mul_real _ _ _ (by positivity)]
    refine Finset.sum_congr rfl fun j _ => ?_
    rw [Ideal.div_coe hδ.ne', mul_right_comm]

/-- The exponential linear unit. -/
def elu (z : EReal) : EReal := if 0 < z then z else Ideal.exp z - 1

/-- Below zero the kernel's minimum with zero changes nothing. -/
theorem elu_min (z : EReal) : (if 0 < z then z else Ideal.exp (min z 0) - 1) = elu z := by
  unfold elu
  split
  · rfl
  · rw [min_eq_left (not_lt.mp ‹_›)]

/-- The reference takes the exponential of zero where the score is positive, and does not use it. -/
theorem elu_ref (z : EReal) : (if 0 < z then z else 1 * (Ideal.exp (if 0 < z then 0 else z) - 1)) = elu z := by
  unfold elu
  split
  · rfl
  · rw [one_mul]

section
variable {L : ℕ} (n : EReal) (v g β : Fin L → EReal)

/-- The mean of a row, its length the number `n`. -/
def mean : EReal := Ideal.div (∑ x, v x) n

/-- The variance of a row. -/
def variance : EReal := Ideal.div (∑ x, (v x - mean n v) * (v x - mean n v)) n

/-- Layer normalisation as the kernel computes it. -/
def normed (l : Fin L) : EReal := (v l - mean n v) * Ideal.rsqrt (variance n v + varWord) * g l + β l

theorem sq_nonneg (z : EReal) : 0 ≤ z * z := by
  rcases le_total 0 z with h | h
  · exact mul_nonneg h h
  · rw [← neg_mul_neg]
    exact mul_nonneg (EReal.neg_nonneg.mpr h) (EReal.neg_nonneg.mpr h)

theorem variance_nonneg (r : ℝ) (hr : 0 < r) : 0 ≤ variance (r : EReal) v := by
  rw [variance, Ideal.div_coe hr.ne']
  exact mul_nonneg (Finset.sum_nonneg fun x _ => sq_nonneg _) (EReal.coe_nonneg.mpr (by positivity))

/-- Dividing by the square root is multiplying by its reciprocal, above zero. -/
theorem div_sqrt (z x : EReal) (hx : 0 < x) : Ideal.div z (Ideal.sqrt x) = z * Ideal.rsqrt x := by
  induction x using EReal.rec with
  | bot => simp at hx
  | top =>
    rw [Ideal.rsqrt_top, Ideal.sqrt_top, Ideal.div, if_neg EReal.top_ne_zero, EReal.inv_top]
  | coe r =>
    have hr : 0 < r := EReal.coe_pos.mp hx
    rw [Ideal.rsqrt_coe, if_neg hr.not_gt, if_neg hr.ne', Ideal.sqrt_coe, if_neg hr.not_gt,
      Ideal.div_coe (Real.sqrt_pos.mpr hr).ne', one_div]

/-- Layer normalisation as the reference computes it. -/
theorem normed_ref (r : ℝ) (hr : 0 < r) (l : Fin L) :
    Ideal.div (v l - mean (r : EReal) v) (Ideal.sqrt (variance (r : EReal) v + varWord)) * g l + β l
      = normed (r : EReal) v g β l := by
  obtain ⟨ε, hε, e⟩ := var_eq
  have h : 0 < variance (r : EReal) v + varWord := by
    rw [e]
    exact lt_of_lt_of_le (EReal.coe_pos.mpr hε) (le_add_of_nonneg_left (variance_nonneg v r hr))
  rw [normed, div_sqrt _ _ h]

end

section
variable {H L : ℕ} (head : Fin L → Fin H) (c : Fin 4096 → Fin 4096 → EReal) (s d : Fin 4096 → Fin H → EReal) (xp : Fin 4096 → Fin L → EReal)

/-- The weights of node `n` in head `h`. -/
def massOf (n : Fin 4096) (h : Fin H) : Fin 4096 → EReal := mass (c n) (fun j => s j h) (d n h)

/-- After `k` blocks of nodes the buffers of row block `i` hold the weighted sums and the sums of weights over them. -/
def Seen (i : Fin 8) (k : ℕ) (A : Fin 512 → Fin L → EReal) (Z : Fin 512 → Fin H → EReal) : Prop :=
  (∀ r l, A r l = ∑ j ∈ upTo k, massOf c s d (rowAt i.val i.isLt r) (head l) j * xp j l)
    ∧ (∀ r h, Z r h = ∑ j ∈ upTo k, massOf c s d (rowAt i.val i.isLt r) h j)

theorem seen_zero (i : Fin 8) : Seen head c s d xp i 0 (fun _ _ => 0) fun _ _ => 0 :=
  ⟨fun r l => by rw [upTo_zero, Finset.sum_empty], fun r h => by rw [upTo_zero, Finset.sum_empty]⟩

/-- One weighted sum carried over one more block, as the kernel computes it. -/
def aNext (C : Fin 512 → Fin 512 → EReal) (X : Fin 512 → Fin L → EReal) (S : Fin 4096 → Fin H → EReal)
    (D : Fin 512 → Fin H → EReal) (T : Fin H → Fin 512 → EReal) (A : Fin 512 → Fin L → EReal) (r : Fin 512) (l : Fin L) : EReal :=
  A r l + ∑ x, weight (C r x) (T (head l) x) (D r (head l)) (shift (fun j => S j (head l)) (D r (head l))) * X x l

/-- One sum of weights carried over one more block, as the kernel computes it. -/
def dNext (C : Fin 512 → Fin 512 → EReal) (S : Fin 4096 → Fin H → EReal) (D : Fin 512 → Fin H → EReal)
    (T : Fin H → Fin 512 → EReal) (Z : Fin 512 → Fin H → EReal) (r : Fin 512) (h : Fin H) : EReal :=
  Z r h + ∑ x, weight (C r x) (T h x) (D r h) (shift (fun j => S j h) (D r h))

/-- One step of the kernel adds one block of nodes. -/
theorem seen_step (i : Fin 8) (k : ℕ) (hk : k < 8) (C : Fin 512 → Fin 512 → EReal) (X : Fin 512 → Fin L → EReal)
    (S : Fin 4096 → Fin H → EReal) (D : Fin 512 → Fin H → EReal) (T : Fin H → Fin 512 → EReal)
    (hC : ∀ r x, C r x = c (rowAt i.val i.isLt r) (rowAt k hk x)) (hX : ∀ x l, X x l = xp (rowAt k hk x) l)
    (hS : ∀ j h, S j h = s j h) (hD : ∀ r h, D r h = d (rowAt i.val i.isLt r) h) (hT : ∀ h x, T h x = s (rowAt k hk x) h)
    (A A' : Fin 512 → Fin L → EReal) (Z Z' : Fin 512 → Fin H → EReal) (hs : Seen head c s d xp i k A Z)
    (hA : ∀ r l, A' r l = aNext head C X S D T A r l) (hZ : ∀ r h, Z' r h = dNext C S D T Z r h) :
    Seen head c s d xp i (k + 1) A' Z' := by
  have hw : ∀ (r x : Fin 512) (h : Fin H), weight (C r x) (T h x) (D r h) (shift (fun j => S j h) (D r h))
      = massOf c s d (rowAt i.val i.isLt r) h (rowAt k hk x) := fun r x h => by
    simp only [hC, hT, hD, hS]
    exact weight_mass (c _) (fun j => s j h) _ (rowAt k hk x)
  refine ⟨fun r l => ?_, fun r h => ?_⟩
  · rw [hA, aNext, hs.1, sum_upTo_succ k hk]
    simp only [hw, hX]
  · rw [hZ, dNext, hs.2, sum_upTo_succ k hk]
    simp only [hw]

/-- After all eight blocks, divided: each node's guarded average. -/
theorem seen_all (hc : ∀ n j, 0 ≤ c n j) (i : Fin 8) (A : Fin 512 → Fin L → EReal) (Z : Fin 512 → Fin H → EReal)
    (hs : Seen head c s d xp i 8 A Z) (r : Fin 512) (l : Fin L) :
    Ideal.div (A r l) (Z r (head l) + guardWord)
      = mix (c (rowAt i.val i.isLt r)) (fun j => s j (head l)) (d (rowAt i.val i.isLt r) (head l)) fun j => xp j l := by
  rw [hs.1, hs.2, upTo_all]
  exact div_sum _ _ (hc _) _ _

end

end Cert.Gat
end
-- ==== Proof.Flash0Ref.lean ====
/-
  The plain graph attention of four heads read at an index, its layer normalised: the bent scores, their
  shifted exponentials times the multiplicities, the guarded average, the exponential linear unit, the norm.
-/
module
public import proofs.«01_k».proof.Proof.Gen.Flash0RefIdeal.Run
public import proofs.«01_k».proof.Proof.Gat
public import Idealize.ShloMosaic.Lib.Pointwise
@[expose] public section
set_option maxRecDepth 16384
noncomputable section
open Idealize.ShloMosaic
namespace Cert.Flash0RefIdeal.Read
open Cert.Flash0RefIdeal Cert.Flash0RefIdeal.Gen Cert.Gat Cert.Softmax

/-- The sums of a destination score and a source score. -/
def scores (s d : FVec Ideal S4096x4 .f32) : FVec Ideal S4x4096x4096 .f32 :=
  addf (broadcastInDim S4x4096x4096 ![0, 1, 2] bcast_S4x4096x1_S4x4096x4096_0_1_2
      (broadcastInDim S4x4096x1 ![0, 1] bcast_S4x4096_S4x4096x1_0_1 (transpose S4x4096 [1, 0] d transposes_S4096x4_S4x4096_1_0)))
    (broadcastInDim S4x4096x4096 ![0, 1, 2] bcast_S4x1x4096_S4x4096x4096_0_1_2
      (broadcastInDim S4x1x4096 ![0, 2] bcast_S4x4096_S4x1x4096_0_2 (transpose S4x4096 [1, 0] s transposes_S4096x4_S4x4096_1_0)))

theorem scores_at (s d : FVec Ideal S4096x4 .f32) (h : Fin 4) (n j : Fin 4096) :
    scores s d (ix3 h n j) = d (ix2 n h) + s (ix2 j h) := by
  pointwise [scores]

/-- The scores bent below zero. -/
def bent (E : FVec Ideal S4x4096x4096 .f32) : FVec Ideal S4x4096x4096 .f32 :=
  select (cmpf .oge E (broadcastInDim S4x4096x4096 ![] bcast_S_S4x4096x4096 (constant S_ .f32 0x00000000#32))) E
    (mulf (broadcastInDim S4x4096x4096 ![] bcast_S_S4x4096x4096 (id (constant S_ .f32 0x3E4CCCCD#32))) E)

theorem bent_at (E : FVec Ideal S4x4096x4096 .f32) (h : Fin 4) (n j : Fin 4096) :
    bent E (ix3 h n j) = bend (E (ix3 h n j)) := by
  rw [← bend_ge]
  pointwise [bent, slopeWord, id]

/-- Each row's maximum. -/
def rowMax (B : FVec Ideal S4x4096x4096 .f32) : FVec Ideal S4x4096 .f32 :=
  Host.reduce FloatOps.maximumf B (constant S_ .f32 0xFF800000#32) reducesTo_S4x4096x4096_S4x4096_d2 h_S_

theorem rowMax_at (B : FVec Ideal S4x4096x4096 .f32) (h : Fin 4) (n : Fin 4096) :
    rowMax B (ix2 h n) = Finset.univ.fold max (Ideal.ofBits .f32 0xFF800000#32) fun x : Fin 4096 => B (ix3 h n x) := by
  pointwise [rowMax]

/-- The multiplicities times the exponentials of the scores less their row's maximum. -/
def masses (C : FVec Ideal S4096x4096 .f32) (B : FVec Ideal S4x4096x4096 .f32) (M : FVec Ideal S4x4096 .f32) : FVec Ideal S4x4096x4096 .f32 :=
  mulf (broadcastInDim S4x4096x4096 ![0, 1, 2] bcast_S1x4096x4096_S4x4096x4096_0_1_2
      (broadcastInDim S1x4096x4096 ![1, 2] bcast_S4096x4096_S1x4096x4096_1_2 C))
    (Host.exp (subf B (broadcastInDim S4x4096x4096 ![0, 1, 2] bcast_S4x4096x1_S4x4096x4096_0_1_2
      (broadcastInDim S4x4096x1 ![0, 1] bcast_S4x4096_S4x4096x1_0_1 M))))

theorem masses_at (C : FVec Ideal S4096x4096 .f32) (B : FVec Ideal S4x4096x4096 .f32) (M : FVec Ideal S4x4096 .f32) (h : Fin 4)
    (n j : Fin 4096) : masses C B M (ix3 h n j) = C (ix2 n j) * Ideal.exp (B (ix3 h n j) - M (ix2 h n)) := by
  pointwise [masses]

/-- The weights over their guarded sum. -/
def share (W : FVec Ideal S4x4096x4096 .f32) : FVec Ideal S4x4096x4096 .f32 :=
  Host.divf W (broadcastInDim S4x4096x4096 ![0, 1, 2] bcast_S4x4096x1_S4x4096x4096_0_1_2
    (addf (broadcastInDim S4x4096x1 ![0, 1] bcast_S4x4096_S4x4096x1_0_1
        (Host.reduceAdd W (constant S_ .f32 0x00000000#32) reducesTo_S4x4096x4096_S4x4096_d2 h_S_))
      (broadcastInDim S4x4096x1 ![] bcast_S_S4x4096x1 (constant S_ .f32 0x24E69595#32))))

theorem share_at (W : FVec Ideal S4x4096x4096 .f32) (h : Fin 4) (n j : Fin 4096) :
    share W (ix3 h n j) = Ideal.div (W (ix3 h n j)) (∑ x : Fin 4096, W (ix3 h n x) + guardWord) := by
  pointwise [share, guardWord]

/-- The averages of the mapped node rows, the heads side by side, plus the bias. -/
def attend (P : FVec Ideal S4x4096x4096 .f32) (xp : FVec Ideal S4096x512 .f32) (b : FVec Ideal S512 .f32) : FVec Ideal S4096x512 .f32 :=
  addf (shapeCast S4096x512 (transpose S4096x4x128 [2, 0, 1]
      (Host.dotGeneral dot_S4096x4x128_S4x4096x4096_S4x128x4096_0_2_2_1_1_0 none
        (shapeCast S4096x4x128 xp shapeCasts_S4096x512_S4096x4x128) P) transposes_S4x128x4096_S4096x4x128_2_0_1)
      shapeCasts_S4096x4x128_S4096x512)
    (broadcastInDim S4096x512 ![0, 1] bcast_S1x512_S4096x512_0_1 (broadcastInDim S1x512 ![1] bcast_S512_S1x512_1 b))

theorem attend_at (P : FVec Ideal S4x4096x4096 .f32) (xp : FVec Ideal S4096x512 .f32) (b : FVec Ideal S512 .f32) (n : Fin 4096)
    (l : Fin 512) : attend P xp b (ix2 n l) = (∑ j : Fin 4096, xp (ix2 j l) * P (ix3 ⟨l.val / 128, by omega⟩ n j)) + b (ix1 l) := by
  pointwise [attend]

/-- The exponential linear unit. -/
def unit (V : FVec Ideal S4096x512 .f32) : FVec Ideal S4096x512 .f32 :=
  select (cmpf .ogt V (broadcastInDim S4096x512 ![] bcast_S_S4096x512 (constant S_ .f32 0x00000000#32))) V
    (mulf (broadcastInDim S4096x512 ![] bcast_S_S4096x512 (constant S_ .f32 0x3F800000#32))
      (Host.expm1 (select (cmpf .ogt V (broadcastInDim S4096x512 ![] bcast_S_S4096x512 (constant S_ .f32 0x00000000#32)))
        (broadcastInDim S4096x512 ![] bcast_S_S4096x512 (id (constant S_ .f32 0x00000000#32))) V)))

theorem unit_at (V : FVec Ideal S4096x512 .f32) (n : Fin 4096) (l : Fin 512) : unit V (ix2 n l) = elu (V (ix2 n l)) := by
  rw [← elu_ref]
  pointwise [unit, id, Ideal.expm1]

/-- The column of the rows' means. -/
def means (V : FVec Ideal S4096x512 .f32) : FVec Ideal S4096x1 .f32 :=
  Host.divf (broadcastInDim S4096x1 ![0] bcast_S4096_S4096x1_0
    (Host.reduceAdd V (constant S_ .f32 0x00000000#32) reducesTo_S4096x512_S4096_d1 h_S_))
    (broadcastInDim S4096x1 ![] bcast_S_S4096x1 (constant S_ .f32 0x44000000#32))

theorem means_at (V : FVec Ideal S4096x512 .f32) (n : Fin 4096) :
    means V (ix2 n 0) = mean (Ideal.ofBits .f32 0x44000000#32) fun x : Fin 512 => V (ix2 n x) := by
  pointwise [means, mean]

/-- The rows less their means. -/
def centred (V : FVec Ideal S4096x512 .f32) : FVec Ideal S4096x512 .f32 :=
  subf V (broadcastInDim S4096x512 ![0, 1] bcast_S4096x1_S4096x512_0_1 (means V))

theorem centred_at (V : FVec Ideal S4096x512 .f32) (n : Fin 4096) (l : Fin 512) :
    centred V (ix2 n l) = V (ix2 n l) - mean (Ideal.ofBits .f32 0x44000000#32) fun x : Fin 512 => V (ix2 n x) := by
  rw [← means_at]
  pointwise [centred]

/-- The number of lanes, nothing taken off it. -/
def count : FVec Ideal S_ .f32 := subf (constant S_ .f32 0x44000000#32) (sitofp .f32 (constantI S_ 32 0#32))

theorem count_at : count ix0 = Ideal.ofBits .f32 0x44000000#32 := by
  pointwise [count]
  rw [show (FloatOps.sitofp .f32 0#32 : Ideal .f32) = (0 : EReal) from by simp [FloatOps.sitofp]]
  exact sub_zero _

/-- The number of lanes is five hundred and twelve. -/
theorem lanes : Ideal.ofBits .f32 0x44000000#32 = ((512 : ℝ) : EReal) := by
  simp [Ideal.ofBits, Ideal.ieee, -EReal.coe_mul]; norm_num

/-- The column of the rows' variances. -/
def variances (Z : FVec Ideal S4096x512 .f32) : FVec Ideal S4096x1 .f32 :=
  select (broadcastInDim S4096x1 ![] bcast_S_S4096x1 (cmpf .ogt count (constant S_ .f32 0x00000000#32)))
    (Host.divf (broadcastInDim S4096x1 ![0] bcast_S4096_S4096x1_0
      (Host.reduceAdd (mulf Z Z) (constant S_ .f32 0x00000000#32) reducesTo_S4096x512_S4096_d1 h_S_))
      (broadcastInDim S4096x1 ![] bcast_S_S4096x1 count))
    (broadcastInDim S4096x1 ![] bcast_S_S4096x1 (id (constant S_ .f32 0x7FC00000#32)))

theorem variances_at (Z : FVec Ideal S4096x512 .f32) (n : Fin 4096) :
    variances Z (ix2 n 0) = Ideal.div (∑ x : Fin 512, Z (ix2 n x) * Z (ix2 n x)) (Ideal.ofBits .f32 0x44000000#32) := by
  have hc : 0 < Ideal.ofBits .f32 0x44000000#32 := by rw [lanes]; exact EReal.coe_pos.mpr (by norm_num)
  pointwise [variances, id]
  simp only [count_at, if_pos hc]

/-- The layer norm. -/
def norm (V : FVec Ideal S4096x512 .f32) (g β : FVec Ideal S512 .f32) : FVec Ideal S4096x512 .f32 :=
  addf (mulf (Host.divf (centred V) (broadcastInDim S4096x512 ![0, 1] bcast_S4096x1_S4096x512_0_1
      (Host.sqrt (addf (variances (centred V)) (broadcastInDim S4096x1 ![] bcast_S_S4096x1 (constant S_ .f32 0x3727C5AC#32))))))
      (broadcastInDim S4096x512 ![0, 1] bcast_S1x512_S4096x512_0_1 (broadcastInDim S1x512 ![1] bcast_S512_S1x512_1 g)))
    (broadcastInDim S4096x512 ![0, 1] bcast_S1x512_S4096x512_0_1 (broadcastInDim S1x512 ![1] bcast_S512_S1x512_1 β))

theorem norm_at (V : FVec Ideal S4096x512 .f32) (g β : FVec Ideal S512 .f32) (n : Fin 4096) (l : Fin 512) :
    norm V g β (ix2 n l) = normed (Ideal.ofBits .f32 0x44000000#32) (fun x : Fin 512 => V (ix2 n x)) (fun x => g (ix1 x)) (fun x => β (ix1 x)) l := by
  rw [lanes, ← normed_ref _ _ _ 512 (by norm_num), ← lanes]
  have hv : variances (centred V) (ix2 n 0) = variance (Ideal.ofBits .f32 0x44000000#32) fun x : Fin 512 => V (ix2 n x) := by
    rw [variances_at, variance]
    simp only [centred_at]
  rw [← hv, ← centred_at]
  pointwise [norm, varWord]

/-- The plain attention, before its unit and norm. -/
def gat (C : FVec Ideal S4096x4096 .f32) (xp : FVec Ideal S4096x512 .f32) (s d : FVec Ideal S4096x4 .f32) (b : FVec Ideal S512 .f32) :
    FVec Ideal S4096x512 .f32 :=
  attend (share (masses C (bent (scores s d)) (rowMax (bent (scores s d))))) xp b

/-- The guarded average of each head, plus the bias. -/
theorem gat_at (C : FVec Ideal S4096x4096 .f32) (xp : FVec Ideal S4096x512 .f32) (s d : FVec Ideal S4096x4 .f32) (b : FVec Ideal S512 .f32)
    (n : Fin 4096) (l : Fin 512) :
    gat C xp s d b (ix2 n l) = mix (fun j => C (ix2 n j)) (fun j => s (ix2 j ⟨l.val / 128, by omega⟩)) (d (ix2 n ⟨l.val / 128, by omega⟩)) (fun j => xp (ix2 j l))
      + b (ix1 l) := by
  have hm : ∀ (h : Fin 4) (n j : Fin 4096), masses C (bent (scores s d)) (rowMax (bent (scores s d))) (ix3 h n j)
      = mass (fun j => C (ix2 n j)) (fun j => s (ix2 j h)) (d (ix2 n h)) j := fun h n j => by
    rw [masses_at, rowMax_at]
    simp only [bent_at, scores_at]
    rfl
  rw [gat, attend_at, mix]
  refine congrArg (fun z : EReal => z + _) (Finset.sum_congr rfl fun j _ => ?_)
  rw [share_at, mul_comm]
  simp only [hm]

/-- The plain layer. -/
def out (C : FVec Ideal S4096x4096 .f32) (xp : FVec Ideal S4096x512 .f32) (s d : FVec Ideal S4096x4 .f32) (b g β : FVec Ideal S512 .f32) :
    FVec Ideal S4096x512 .f32 :=
  norm (unit (gat C xp s d b)) g β

end Cert.Flash0RefIdeal.Read
end
-- ==== Proof.Flash0State.lean ====
/-
  The first attention kernel, of four heads: what each grid point leaves in the carried sums and what the last point of
  a row block writes out, in the terms of Gat.lean.
-/
module
public import proofs.«01_k».proof.Proof.Gen.Flash0Ideal.Value
public import proofs.«01_k».proof.Proof.StateFirst
public import proofs.«01_k».proof.Proof.Out
public import proofs.«01_k».proof.Proof.Gat
@[expose] public section
set_option maxRecDepth 16384
noncomputable section
open Idealize.ShloMosaic Idealize.ShloMosaic.TcCoe Idealize.SL.Sem
open Idealize.ShloMosaic.Pipeline (Dat)
namespace Cert.Flash0Ideal.Step
open Cert.Flash0Ideal Cert.Flash0Ideal.Gen Cert.Flash0Ideal.Value Cert.Gat
open Cert.MhaIdeal.Step (canon_over_fill readCov_eq_ld)
variable (m : (ℓ : Loc nD τ sig) → Buf (Elt Ideal) ℓ) (c : Dev nD) (t : Fin cfg0.N)

/-- The head of a lane. -/
def head (l : Fin 512) : Fin 4 := ⟨l.val / 128, by omega⟩

/-- The point's block of multiplicities. -/
def multB (r x : Fin 512) : EReal := iblk m c 0 t (ix2 r x)
/-- The point's block of mapped node rows. -/
def valB (x : Fin 512) (l : Fin 512) : EReal := iblk m c 1 t (ix2 x l)
/-- All source scores. -/
def srcB (j : Fin 4096) (h : Fin 4) : EReal := iblk m c 2 t (ix2 j h)
/-- The point's block of destination scores. -/
def dstB (r : Fin 512) (h : Fin 4) : EReal := iblk m c 3 t (ix2 r h)
/-- The point's block of source scores, as a row. -/
def rowB (h : Fin 4) (x : Fin 512) : EReal := iblk m c 4 t (ix2 h x)
/-- The weighted sums a point leaves. -/
def sums (r : Fin 512) (l : Fin 512) : EReal := (outsAt0 m c t.val t.isLt).2.1 (ix2 r l)
/-- The sums of weights a point leaves. -/
def norms (r : Fin 512) (h : Fin 4) : EReal := (outsAt0 m c t.val t.isLt).2.2 (ix2 r h)

/-- A point that continues a row block adds its block of nodes to the weighted sums. -/
theorem sums_next (s : Fin cfg0.N) (hs : s.val = t.val - 1) (h0 : ¬t.val % 8 = 0) (r : Fin 512) (l : Fin 512) :
    sums m c t r l = aNext head (multB m c t) (valB m c t) (srcB m c t) (dstB m c t) (rowB m c t) (sums m c s) r l := by
  obtain ⟨_, _⟩ := s
  subst hs
  suffices H : ∀ y : S512x512.Idx, (outsAt0 m c t.val t.isLt).2.1 y = aNext head (multB m c t) (valB m c t) (srcB m c t) (dstB m c t) (rowB m c t) (sums m c ⟨t.val - 1, by omega⟩) (y 0) (y 1) from H (ix2 r l)
  intro y
  by_cases h1 : t.val % 8 = 7 <;> [rw [outsAt0_C m c t h0 h1]; rw [outsAt0_B m c t h0 h1]] <;>
    (frame_out
     simp only [read_unread_whole]
     canon_tiles x h
     all_goals (open_payloads; pointwise [aNext, weight, shift, bend, top, slopeWord, multB, valB, srcB, dstB, rowB, head, sums]; blk_point []))

/-- … and to the sums of weights. -/
theorem norms_next (s : Fin cfg0.N) (hs : s.val = t.val - 1) (h0 : ¬t.val % 8 = 0) (r : Fin 512) (h : Fin 4) :
    norms m c t r h = dNext (multB m c t) (srcB m c t) (dstB m c t) (rowB m c t) (norms m c s) r h := by
  obtain ⟨_, _⟩ := s
  subst hs
  suffices H : ∀ y : S512x4.Idx, (outsAt0 m c t.val t.isLt).2.2 y = dNext (multB m c t) (srcB m c t) (dstB m c t) (rowB m c t) (norms m c ⟨t.val - 1, by omega⟩) (y 0) (y 1) from H (ix2 r h)
  intro y
  by_cases h1 : t.val % 8 = 7 <;> [rw [outsAt0_C m c t h0 h1]; rw [outsAt0_B m c t h0 h1]] <;>
    (frame_out
     simp only [read_unread_whole]
     canon_tiles x hx
     all_goals (open_payloads; pointwise [dNext, weight, shift, bend, top, slopeWord, multB, valB, srcB, dstB, rowB, head, norms]; blk_point []))

/-- The first point of a row block starts the weighted sums from zero. -/
theorem sums_first (h0 : t.val % 8 = 0) (r : Fin 512) (l : Fin 512) :
    sums m c t r l = aNext head (multB m c t) (valB m c t) (srcB m c t) (dstB m c t) (rowB m c t) (fun _ _ => 0) r l := by
  suffices H : ∀ y : S512x512.Idx, (outsAt0 m c t.val t.isLt).2.1 y = aNext head (multB m c t) (valB m c t) (srcB m c t) (dstB m c t) (rowB m c t) (fun _ _ => 0) (y 0) (y 1) from H (ix2 r l)
  intro y
  rw [outsAt0_A m c t h0 (by omega)]
  frame_open
  simp (disch := decide) only [↓View.readCov_skip, ↓View.readCov_fill]
  frame_out
  refine (canon_over_fill _ _ [_, _, _, _] (View.cover_of_tiled_head _ _ _ (by rfl) _)).trans ?_
  canon_tiles x hx
  all_goals (open_payloads; pointwise [aNext, weight, shift, bend, top, slopeWord, multB, valB, srcB, dstB, rowB, head, k0_pay6]; blk_point [])

/-- … and the sums of weights. -/
theorem norms_first (h0 : t.val % 8 = 0) (r : Fin 512) (h : Fin 4) :
    norms m c t r h = dNext (multB m c t) (srcB m c t) (dstB m c t) (rowB m c t) (fun _ _ => 0) r h := by
  suffices H : ∀ y : S512x4.Idx, (outsAt0 m c t.val t.isLt).2.2 y = dNext (multB m c t) (srcB m c t) (dstB m c t) (rowB m c t) (fun _ _ => 0) (y 0) (y 1) from H (ix2 r h)
  intro y
  rw [outsAt0_A m c t h0 (by omega)]
  frame_open
  simp (disch := decide) only [↓View.readCov_skip, ↓View.readCov_fill]
  frame_out
  refine (canon_over_fill _ _ [_, _, _, _] (View.cover_of_tiled_head _ _ _ (by rfl) _)).trans ?_
  canon_tiles x hx
  all_goals (open_payloads; pointwise [dNext, weight, shift, bend, top, slopeWord, multB, valB, srcB, dstB, rowB, head, k0_pay7]; blk_point [])

/-- The four quotients side by side are, at each lane, the quotient of its own head. -/
theorem quotients (A : Fin 512 → EReal) (L : Fin 4 → EReal) (x : Fin 512) :
    (if h : x.val < 128 then Ideal.div (A x) (L 0 + guardWord)
      else if h' : x.val - 128 < 128 then Ideal.div (A ⟨128 + (x.val - 128), by omega⟩) (L 1 + guardWord)
      else if h'' : x.val - 128 - 128 < 128 then Ideal.div (A ⟨256 + (x.val - 128 - 128), by omega⟩) (L 2 + guardWord)
      else Ideal.div (A ⟨384 + (x.val - 128 - 128 - 128), by omega⟩) (L 3 + guardWord))
      = Ideal.div (A x) (L (head x) + guardWord) := by
  have e : ∀ (a : ℕ) (ha : a < 512) (b : ℕ) (hb : b < 4), a = x.val → b = x.val / 128 →
      Ideal.div (A ⟨a, ha⟩) (L ⟨b, hb⟩ + guardWord) = Ideal.div (A x) (L (head x) + guardWord) := by
    intro a ha b hb e1 e2
    subst e1 e2
    rfl
  have hx := x.isLt
  split
  · exact e _ x.isLt 0 (by decide) rfl (by omega)
  · split
    · exact e _ _ 1 (by decide) (by omega) (by omega)
    · split
      · exact e _ _ 2 (by decide) (by omega) (by omega)
      · exact e _ _ 3 (by decide) (by omega) (by omega)

/-- The last point of a row block writes out the normalised rows. -/
theorem out_last (h0 : t.val % 8 = 7) (r : Fin 512) (l : Fin 512) :
    (outsAt0 m c t.val t.isLt).1 (ix2 r l) = normed (Ideal.ofBits .f32 0x44000000#32)
      (fun x => elu (Ideal.div (sums m c t r x) (norms m c t r (head x) + guardWord) + iblk m c 5 t (ix2 0 x)))
      (fun x => iblk m c 6 t (ix2 0 x)) (fun x => iblk m c 7 t (ix2 0 x)) l := by
  unfold sums norms
  rw [outsAt0_C m c t (by omega) h0]
  frame_out
  simp only [read_unread_whole, readCov_eq_ld]
  generalize View.canon (Val := Elt Ideal) (s := S512x4) (e := .f32) _ = L
  generalize View.canon (Val := Elt Ideal) (s := S512x512) (e := .f32) _ = A
  open_payloads
  pointwise [normed, variance, mean, varWord]
  have q := fun x : Fin 512 => quotients (fun x => A (ix2 r x)) (fun h => L (ix2 r h)) x
  simp only [guardWord] at q
  simp only [q, elu_min]
  rfl
end Cert.Flash0Ideal.Step
end
-- ==== Proof.Flash0Sweep.lean ====
/-
  The first attention kernel swept over its grid: after point `8 i + b` the carried buffers hold the sums
  over the first `b + 1` blocks of nodes; so the last point of a row block writes out the normalised averages.
-/
module
public import proofs.«01_k».proof.Proof.Flash0State
@[expose] public section
set_option maxRecDepth 16384
noncomputable section
open Idealize.ShloMosaic Idealize.ShloMosaic.TcCoe Idealize.SL.Sem
open Idealize.ShloMosaic.Pipeline (Dat)
namespace Cert.Flash0Ideal.Step
open Cert.Flash0Ideal Cert.Flash0Ideal.Gen Cert.Flash0Ideal.Value Cert.Gat Cert.Softmax
variable (m : (ℓ : Loc nD τ sig) → Buf (Elt Ideal) ℓ) (c : Dev nD)

/-- The index maps of the inputs. -/
theorem idx : ∀ t : Fin cfg0.N, win0_0.index t = ![t.val / 8, t.val % 8] ∧ win0_1.index t = ![t.val % 8, 0]
    ∧ win0_2.index t = ![0, 0] ∧ win0_3.index t = ![t.val / 8, 0] ∧ win0_4.index t = ![0, t.val % 8]
    ∧ win0_5.index t = ![0, 0] ∧ win0_6.index t = ![0, 0] ∧ win0_7.index t = ![0, 0] ∧ win0_8.index t = ![t.val / 8, 0] :=
  (by decide +kernel : ∀ t : Fin grid0.N, _)

section
variable (t : Fin cfg0.N) (i b : Fin 8) (hi : t.val / 8 = i.val) (hb : t.val % 8 = b.val)
include hi hb

theorem multB_at (r x : Fin 512) : multB m c t r x = m ((c : Thread nD τ).loc main_arg0) (ix2 (rowAt i.val i.isLt r) (rowAt b.val b.isLt x)) := by
  obtain ⟨e0, e1, e2, e3, e4, e5, e6, e7, e8⟩ := idx t
  unfold rowAt multB
  blk_ext! [iblk, V, e0]

theorem valB_at (x : Fin 512) (l : Fin 512) : valB m c t x l = m ((c : Thread nD τ).loc main_arg1) (ix2 (rowAt b.val b.isLt x) l) := by
  obtain ⟨e0, e1, e2, e3, e4, e5, e6, e7, e8⟩ := idx t
  unfold rowAt valB
  blk_ext! [iblk, V, e1]

theorem dstB_at (r : Fin 512) (h : Fin 4) : dstB m c t r h = m ((c : Thread nD τ).loc main_arg3) (ix2 (rowAt i.val i.isLt r) h) := by
  obtain ⟨e0, e1, e2, e3, e4, e5, e6, e7, e8⟩ := idx t
  unfold rowAt dstB
  blk_ext! [iblk, V, e3]

theorem rowB_at (h : Fin 4) (x : Fin 512) : rowB m c t h x = m ((c : Thread nD τ).loc main_arg2) (ix2 (rowAt b.val b.isLt x) h) := by
  obtain ⟨e0, e1, e2, e3, e4, e5, e6, e7, e8⟩ := idx t
  unfold rowAt rowB
  blk_ext! [iblk, V, e4]

end

theorem srcB_at (t : Fin cfg0.N) (j : Fin 4096) (h : Fin 4) : srcB m c t j h = m ((c : Thread nD τ).loc main_arg2) (ix2 j h) := by
  obtain ⟨e0, e1, e2, e3, e4, e5, e6, e7, e8⟩ := idx t
  unfold srcB
  blk_ext! [iblk, V, e2]

theorem bias_at (t : Fin cfg0.N) (l : Fin 512) : iblk m c 5 t (ix2 0 l) = m ((c : Thread nD τ).loc main_arg4) (ix1 l) := by
  obtain ⟨e0, e1, e2, e3, e4, e5, e6, e7, e8⟩ := idx t
  blk_ext! [iblk, V, e5]

theorem gain_at (t : Fin cfg0.N) (l : Fin 512) : iblk m c 6 t (ix2 0 l) = m ((c : Thread nD τ).loc main_arg5) (ix1 l) := by
  obtain ⟨e0, e1, e2, e3, e4, e5, e6, e7, e8⟩ := idx t
  blk_ext! [iblk, V, e6]

theorem offset_at (t : Fin cfg0.N) (l : Fin 512) : iblk m c 7 t (ix2 0 l) = m ((c : Thread nD τ).loc main_arg6) (ix1 l) := by
  obtain ⟨e0, e1, e2, e3, e4, e5, e6, e7, e8⟩ := idx t
  blk_ext! [iblk, V, e7]

/-- The multiplicities. -/
abbrev mult : Fin 4096 → Fin 4096 → EReal := fun n j => m ((c : Thread nD τ).loc main_arg0) (ix2 n j)

/-- The source scores. -/
abbrev src : Fin 4096 → Fin 4 → EReal := fun n h => m ((c : Thread nD τ).loc main_arg2) (ix2 n h)

/-- The destination scores. -/
abbrev dst : Fin 4096 → Fin 4 → EReal := fun n h => m ((c : Thread nD τ).loc main_arg3) (ix2 n h)

/-- After point `8 i + b` the buffers have seen `b + 1` blocks of nodes. -/
theorem seen_at (i : Fin 8) : ∀ (b : ℕ) (hb : b < 8) (t : Fin cfg0.N), t.val = 8 * i.val + b →
    Seen head (mult m c) (src m c) (dst m c) (fun j l => m ((c : Thread nD τ).loc main_arg1) (ix2 j l)) i (b + 1) (sums m c t) (norms m c t)
  | 0, hb, t, ht =>
    have h0 : t.val % 8 = 0 := by omega
    have hi : t.val / 8 = i.val := by omega
    seen_step head (mult m c) (src m c) (dst m c) _ i 0 hb (multB m c t) (valB m c t) (srcB m c t) (dstB m c t) (rowB m c t)
      (fun r x => multB_at m c t i ⟨0, hb⟩ hi h0 r x) (fun x l => valB_at m c t i ⟨0, hb⟩ hi h0 x l)
      (fun j h => srcB_at m c t j h) (fun r h => dstB_at m c t i ⟨0, hb⟩ hi h0 r h)
      (fun h x => rowB_at m c t i ⟨0, hb⟩ hi h0 h x) _ _ _ _
      (seen_zero head (mult m c) (src m c) (dst m c) _ i)
      (sums_first m c t h0) (norms_first m c t h0)
  | b + 1, hb, t, ht =>
    have h0 : t.val % 8 = b + 1 := by omega
    have hi : t.val / 8 = i.val := by omega
    have hp : t.val - 1 < cfg0.N := by have := t.isLt; omega
    seen_step head (mult m c) (src m c) (dst m c) _ i (b + 1) hb (multB m c t) (valB m c t) (srcB m c t) (dstB m c t) (rowB m c t)
      (fun r x => multB_at m c t i ⟨b + 1, hb⟩ hi h0 r x) (fun x l => valB_at m c t i ⟨b + 1, hb⟩ hi h0 x l)
      (fun j h => srcB_at m c t j h) (fun r h => dstB_at m c t i ⟨b + 1, hb⟩ hi h0 r h)
      (fun h x => rowB_at m c t i ⟨b + 1, hb⟩ hi h0 h x) _ _ _ _
      (seen_at i b (by omega) ⟨t.val - 1, hp⟩ (by show t.val - 1 = _; omega))
      (sums_next m c t ⟨t.val - 1, hp⟩ rfl (by omega)) (norms_next m c t ⟨t.val - 1, hp⟩ rfl (by omega))

/-- The kernel's result at node `n`, lane `o`. -/
theorem result (hc : ∀ n j, 0 ≤ mult m c n j) (n : Fin 4096) (o : Fin 512) :
    G9 m c (ix2 n o) = normed (Ideal.ofBits .f32 0x44000000#32)
      (fun l => elu (mix (mult m c n) (fun j => src m c j (head l)) (dst m c n (head l)) (fun j => m ((c : Thread nD τ).loc main_arg1) (ix2 j l))
        + m ((c : Thread nD τ).loc main_arg4) (ix1 l)))
      (fun l => m ((c : Thread nD τ).loc main_arg5) (ix1 l)) (fun l => m ((c : Thread nD τ).loc main_arg6) (ix1 l)) o := by
  have hN : cfg0.N = 64 := N_0
  have hpt : pt9Of (ix2 n o) = 8 * (n.val / 512) + 7 := by
    show 8 * (1 * (n.val / 512 - 0) + 1 * (o.val / 512 - 0)) + 7 = _
    omega
  have hlt : pt9Of (ix2 n o) < cfg0.N := by omega
  obtain ⟨t, ht⟩ : ∃ t : Fin cfg0.N, t.val = pt9Of (ix2 n o) := ⟨⟨_, hlt⟩, rfl⟩
  have hloc : loc9Of (ix2 n o) = ix2 ⟨n.val % 512, Nat.mod_lt _ (by decide)⟩ o := by
    refine (eq_ix2 _).trans ?_
    refine congrArg₂ ix2 rfl (Fin.ext ?_)
    show o.val % 512 = o.val
    omega
  have hn : rowAt (n.val / 512) (by omega) ⟨n.val % 512, Nat.mod_lt _ (by decide)⟩ = n := by
    refine Fin.ext ?_
    show 512 * (n.val / 512) + n.val % 512 = n.val
    omega
  have hs := seen_all head (mult m c) (src m c) (dst m c) _ hc _ _ _ (seen_at m c ⟨n.val / 512, by omega⟩ 7 (by decide) t (by rw [ht, hpt]))
    ⟨n.val % 512, Nat.mod_lt _ (by decide)⟩
  rw [hn] at hs
  have ho := out_last m c t (by omega) ⟨n.val % 512, Nat.mod_lt _ (by decide)⟩ o
  simp only [hs, bias_at, gain_at, offset_at] at ho
  unfold G9
  rw [dif_pos hlt, hloc, fold0_congr m c _ _ t.val (by have := t.isLt; omega) ht.symm, ← outsAt0_sweep m c t.val t.isLt, ho]

end Cert.Flash0Ideal.Step
end
-- ==== Proof.FlashPre.lean ====
/-
  The preconditions of the three graph-attention calls read: no multiplicity is negative.
-/
module
public import proofs.«01_k».proof.Proof.Gen.Pre_first_ok
public import proofs.«01_k».proof.Proof.Gen.Pre_middle_ok
public import proofs.«01_k».proof.Proof.Gen.Pre_last_ok
public import Idealize.ShloMosaic.Lib.Pointwise
public import Idealize.ShloMosaic.Lib.ReduceAll
@[expose] public section
set_option maxRecDepth 16384
noncomputable section
open Idealize.ShloMosaic

namespace Cert.Gat

/-- A number the comparison finds at least zero is not negative. -/
theorem nonneg_of_cmp (x : EReal) (h : BitVec.ofBool (decide (Ideal.ofBits .f32 0x00000000#32 ≤ x)) = 1#1) : 0 ≤ x := by
  have hz : Ideal.ofBits .f32 0x00000000#32 = 0 := by simp [Ideal.ofBits, Ideal.ieee]
  rw [hz] at h
  by_contra hc
  rw [decide_eq_false hc] at h
  exact absurd h (by decide)

end Cert.Gat

namespace Cert.Pre_last_ok.Read
open Cert.Pre_last_ok Cert.Pre_last_ok.Gen Cert.Gat

theorem nonneg (C : FVec Ideal S4096x4096 .f32) (xp : FVec Ideal S4096x128 .f32) (s d : FVec Ideal S4096x1 .f32) (b g β : FVec Ideal S128 .f32)
    (h : fn (F := Ideal) C xp s d b g β = fun _ => 1#1) (i : S4096x4096.Idx) : 0 ≤ C i :=
  nonneg_of_cmp _ (Host.reduce_andi_all _ _ _ _ _ (congrFun h ix0) i)

end Cert.Pre_last_ok.Read

namespace Cert.Pre_first_ok.Read
open Cert.Pre_first_ok Cert.Pre_first_ok.Gen Cert.Gat

theorem nonneg (C : FVec Ideal S4096x4096 .f32) (xp : FVec Ideal S4096x512 .f32) (s d : FVec Ideal S4096x4 .f32) (b g β : FVec Ideal S512 .f32)
    (h : fn (F := Ideal) C xp s d b g β = fun _ => 1#1) (i : S4096x4096.Idx) : 0 ≤ C i :=
  nonneg_of_cmp _ (Host.reduce_andi_all _ _ _ _ _ (congrFun h ix0) i)

end Cert.Pre_first_ok.Read

namespace Cert.Pre_middle_ok.Read
open Cert.Pre_middle_ok Cert.Pre_middle_ok.Gen

/-- The residual is not constrained, so the middle call's precondition is the first call's. -/
theorem nonneg (C : FVec Ideal S4096x4096 .f32) (xp : FVec Ideal S4096x512 .f32) (s d : FVec Ideal S4096x4 .f32) (b g β : FVec Ideal S512 .f32)
    (res : FVec Ideal S4096x512 .f32) (h : fn (F := Ideal) C xp s d b g β res = fun _ => 1#1) (i : S4096x4096.Idx) : 0 ≤ C i :=
  Cert.Pre_first_ok.Read.nonneg C xp s d b g β h i

end Cert.Pre_middle_ok.Read
end
-- ==== Proof.Flash0Match.lean ====
/-
  The first attention kernel's result and the plain layer's are one array when no multiplicity is
  negative.
-/
module
public import proofs.«01_k».proof.Defs
public import proofs.«01_k».proof.Proof.Flash0Ref
public import proofs.«01_k».proof.Proof.Flash0Sweep
public import proofs.«01_k».proof.Proof.FlashPre
@[expose] public section
set_option maxRecDepth 16384
noncomputable section
open Idealize.ShloMosaic Idealize.SL.Sem
namespace Cert.Flash0RefIdeal.Read
open Cert.Flash0RefIdeal Cert.Flash0RefIdeal.Gen

/-- The plain layer and the kernel agree. -/
theorem out_eq (m : (ℓ : Loc Cert.Flash0Ideal.nD Cert.Flash0Ideal.τ Cert.Flash0Ideal.sig) → Buf (Elt Ideal) ℓ)
    (hp : Cert.Pre_Flash0Ideal_first_ok (hPre_first_ok := Cert.Pre_first_ok.Gen.facts) m) (c : Dev Cert.Flash0Ideal.nD) :
    out (m ((c.tc : Thread _ _).loc Cert.Flash0Ideal.main_arg0))
      (m ((c.tc : Thread _ _).loc Cert.Flash0Ideal.main_arg1))
      (m ((c.tc : Thread _ _).loc Cert.Flash0Ideal.main_arg2))
      (m ((c.tc : Thread _ _).loc Cert.Flash0Ideal.main_arg3))
      (m ((c.tc : Thread _ _).loc Cert.Flash0Ideal.main_arg4))
      (m ((c.tc : Thread _ _).loc Cert.Flash0Ideal.main_arg5))
      (m ((c.tc : Thread _ _).loc Cert.Flash0Ideal.main_arg6))
      = Cert.Flash0Ideal.Value.G9 (F := Ideal) m c := by
  have hC := Cert.Pre_first_ok.Read.nonneg _ _ _ _ _ _ _ (hp c)
  funext i
  obtain ⟨n, o, rfl⟩ : ∃ (n : Fin 4096) (o : Fin 512), i = ix2 n o := ⟨i 0, i 1, eq_ix2 i⟩
  rw [Cert.Flash0Ideal.Step.result m c (fun n j => hC _) n o]
  have g := fun l : Fin 512 => gat_at (m ((c.tc : Thread _ _).loc Cert.Flash0Ideal.main_arg0)) (m ((c.tc : Thread _ _).loc Cert.Flash0Ideal.main_arg1)) (m ((c.tc : Thread _ _).loc Cert.Flash0Ideal.main_arg2)) (m ((c.tc : Thread _ _).loc Cert.Flash0Ideal.main_arg3)) (m ((c.tc : Thread _ _).loc Cert.Flash0Ideal.main_arg4)) n l
  rw [out, norm_at]
  simp only [unit_at, g]
  rfl

/-- What the plain program leaves is the plain layer of its arguments. -/
theorem run_out (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v47) = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c).1.trans rfl, (h c).2⟩) (Cert.Flash0RefIdeal.Value.run (F := Ideal) m ρ)

end Cert.Flash0RefIdeal.Read
end
-- ==== Proof.Flash1State.lean ====
/-
  The second attention kernel, of four heads: what each grid point leaves in the carried sums and what the last point of
  a row block writes out, in the terms of Gat.lean.
-/
module
public import proofs.«01_k».proof.Proof.Gen.Flash1Ideal.Value
public import proofs.«01_k».proof.Proof.StateFirst
public import proofs.«01_k».proof.Proof.Out
public import proofs.«01_k».proof.Proof.Gat
@[expose] public section
set_option maxRecDepth 16384
noncomputable section
open Idealize.ShloMosaic Idealize.ShloMosaic.TcCoe Idealize.SL.Sem
open Idealize.ShloMosaic.Pipeline (Dat)
namespace Cert.Flash1Ideal.Step
open Cert.Flash1Ideal Cert.Flash1Ideal.Gen Cert.Flash1Ideal.Value Cert.Gat
open Cert.MhaIdeal.Step (canon_over_fill readCov_eq_ld)
variable (m : (ℓ : Loc nD τ sig) → Buf (Elt Ideal) ℓ) (c : Dev nD) (t : Fin cfg0.N)

/-- The head of a lane. -/
def head (l : Fin 512) : Fin 4 := ⟨l.val / 128, by omega⟩

/-- The point's block of multiplicities. -/
def multB (r x : Fin 512) : EReal := iblk m c 0 t (ix2 r x)
/-- The point's block of mapped node rows. -/
def valB (x : Fin 512) (l : Fin 512) : EReal := iblk m c 1 t (ix2 x l)
/-- All source scores. -/
def srcB (j : Fin 4096) (h : Fin 4) : EReal := iblk m c 2 t (ix2 j h)
/-- The point's block of destination scores. -/
def dstB (r : Fin 512) (h : Fin 4) : EReal := iblk m c 3 t (ix2 r h)
/-- The point's block of source scores, as a row. -/
def rowB (h : Fin 4) (x : Fin 512) : EReal := iblk m c 4 t (ix2 h x)
/-- The weighted sums a point leaves. -/
def sums (r : Fin 512) (l : Fin 512) : EReal := (outsAt0 m c t.val t.isLt).2.1 (ix2 r l)
/-- The sums of weights a point leaves. -/
def norms (r : Fin 512) (h : Fin 4) : EReal := (outsAt0 m c t.val t.isLt).2.2 (ix2 r h)

/-- A point that continues a row block adds its block of nodes to the weighted sums. -/
theorem sums_next (s : Fin cfg0.N) (hs : s.val = t.val - 1) (h0 : ¬t.val % 8 = 0) (r : Fin 512) (l : Fin 512) :
    sums m c t r l = aNext head (multB m c t) (valB m c t) (srcB m c t) (dstB m c t) (rowB m c t) (sums m c s) r l := by
  obtain ⟨_, _⟩ := s
  subst hs
  suffices H : ∀ y : S512x512.Idx, (outsAt0 m c t.val t.isLt).2.1 y = aNext head (multB m c t) (valB m c t) (srcB m c t) (dstB m c t) (rowB m c t) (sums m c ⟨t.val - 1, by omega⟩) (y 0) (y 1) from H (ix2 r l)
  intro y
  by_cases h1 : t.val % 8 = 7 <;> [rw [outsAt0_C m c t h0 h1]; rw [outsAt0_B m c t h0 h1]] <;>
    (frame_out
     simp only [read_unread_whole]
     canon_tiles x h
     all_goals (open_payloads; pointwise [aNext, weight, shift, bend, top, slopeWord, multB, valB, srcB, dstB, rowB, head, sums]; blk_point []))

/-- … and to the sums of weights. -/
theorem norms_next (s : Fin cfg0.N) (hs : s.val = t.val - 1) (h0 : ¬t.val % 8 = 0) (r : Fin 512) (h : Fin 4) :
    norms m c t r h = dNext (multB m c t) (srcB m c t) (dstB m c t) (rowB m c t) (norms m c s) r h := by
  obtain ⟨_, _⟩ := s
  subst hs
  suffices H : ∀ y : S512x4.Idx, (outsAt0 m c t.val t.isLt).2.2 y = dNext (multB m c t) (srcB m c t) (dstB m c t) (rowB m c t) (norms m c ⟨t.val - 1, by omega⟩) (y 0) (y 1) from H (ix2 r h)
  intro y
  by_cases h1 : t.val % 8 = 7 <;> [rw [outsAt0_C m c t h0 h1]; rw [outsAt0_B m c t h0 h1]] <;>
    (frame_out
     simp only [read_unread_whole]
     canon_tiles x hx
     all_goals (open_payloads; pointwise [dNext, weight, shift, bend, top, slopeWord, multB, valB, srcB, dstB, rowB, head, norms]; blk_point []))

/-- The first point of a row block starts the weighted sums from zero. -/
theorem sums_first (h0 : t.val % 8 = 0) (r : Fin 512) (l : Fin 512) :
    sums m c t r l = aNext head (multB m c t) (valB m c t) (srcB m c t) (dstB m c t) (rowB m c t) (fun _ _ => 0) r l := by
  suffices H : ∀ y : S512x512.Idx, (outsAt0 m c t.val t.isLt).2.1 y = aNext head (multB m c t) (valB m c t) (srcB m c t) (dstB m c t) (rowB m c t) (fun _ _ => 0) (y 0) (y 1) from H (ix2 r l)
  intro y
  rw [outsAt0_A m c t h0 (by omega)]
  frame_open
  simp (disch := decide) only [↓View.readCov_skip, ↓View.readCov_fill]
  frame_out
  refine (canon_over_fill _ _ [_, _, _, _] (View.cover_of_tiled_head _ _ _ (by rfl) _)).trans ?_
  canon_tiles x hx
  all_goals (open_payloads; pointwise [aNext, weight, shift, bend, top, slopeWord, multB, valB, srcB, dstB, rowB, head, k0_pay6]; blk_point [])

/-- … and the sums of weights. -/
theorem norms_first (h0 : t.val % 8 = 0) (r : Fin 512) (h : Fin 4) :
    norms m c t r h = dNext (multB m c t) (srcB m c t) (dstB m c t) (rowB m c t) (fun _ _ => 0) r h := by
  suffices H : ∀ y : S512x4.Idx, (outsAt0 m c t.val t.isLt).2.2 y = dNext (multB m c t) (srcB m c t) (dstB m c t) (rowB m c t) (fun _ _ => 0) (y 0) (y 1) from H (ix2 r h)
  intro y
  rw [outsAt0_A m c t h0 (by omega)]
  frame_open
  simp (disch := decide) only [↓View.readCov_skip, ↓View.readCov_fill]
  frame_out
  refine (canon_over_fill _ _ [_, _, _, _] (View.cover_of_tiled_head _ _ _ (by rfl) _)).trans ?_
  canon_tiles x hx
  all_goals (open_payloads; pointwise [dNext, weight, shift, bend, top, slopeWord, multB, valB, srcB, dstB, rowB, head, k0_pay7]; blk_point [])

/-- The four quotients side by side are, at each lane, the quotient of its own head. -/
theorem quotients (A : Fin 512 → EReal) (L : Fin 4 → EReal) (x : Fin 512) :
    (if h : x.val < 128 then Ideal.div (A x) (L 0 + guardWord)
      else if h' : x.val - 128 < 128 then Ideal.div (A ⟨128 + (x.val - 128), by omega⟩) (L 1 + guardWord)
      else if h'' : x.val - 128 - 128 < 128 then Ideal.div (A ⟨256 + (x.val - 128 - 128), by omega⟩) (L 2 + guardWord)
      else Ideal.div (A ⟨384 + (x.val - 128 - 128 - 128), by omega⟩) (L 3 + guardWord))
      = Ideal.div (A x) (L (head x) + guardWord) := by
  have e : ∀ (a : ℕ) (ha : a < 512) (b : ℕ) (hb : b < 4), a = x.val → b = x.val / 128 →
      Ideal.div (A ⟨a, ha⟩) (L ⟨b, hb⟩ + guardWord) = Ideal.div (A x) (L (head x) + guardWord) := by
    intro a ha b hb e1 e2
    subst e1 e2
    rfl
  have hx := x.isLt
  split
  · exact e _ x.isLt 0 (by decide) rfl (by omega)
  · split
    · exact e _ _ 1 (by decide) (by omega) (by omega)
    · split
      · exact e _ _ 2 (by decide) (by omega) (by omega)
      · exact e _ _ 3 (by decide) (by omega) (by omega)

/-- The last point of a row block writes out the normalised rows, the residual added. -/
theorem out_last (h0 : t.val % 8 = 7) (r : Fin 512) (l : Fin 512) :
    (outsAt0 m c t.val t.isLt).1 (ix2 r l) = normed (Ideal.ofBits .f32 0x44000000#32)
      (fun x => elu (Ideal.div (sums m c t r x) (norms m c t r (head x) + guardWord) + iblk m c 5 t (ix2 0 x)))
      (fun x => iblk m c 6 t (ix2 0 x)) (fun x => iblk m c 7 t (ix2 0 x)) l + iblk m c 8 t (ix2 r l) := by
  unfold sums norms
  rw [outsAt0_C m c t (by omega) h0]
  frame_out
  simp only [read_unread_whole, readCov_eq_ld]
  generalize View.canon (Val := Elt Ideal) (s := S512x4) (e := .f32) _ = L
  generalize View.canon (Val := Elt Ideal) (s := S512x512) (e := .f32) _ = A
  open_payloads
  pointwise [normed, variance, mean, varWord]
  have q := fun x : Fin 512 => quotients (fun x => A (ix2 r x)) (fun h => L (ix2 r h)) x
  simp only [guardWord] at q
  simp only [q, elu_min]
  rfl
end Cert.Flash1Ideal.Step
end
-- ==== Proof.Flash1Sweep.lean ====
/-
  The second attention kernel swept over its grid: after point `8 i + b` the carried buffers hold the sums
  over the first `b + 1` blocks of nodes; so the last point of a row block writes out the normalised averages.
-/
module
public import proofs.«01_k».proof.Proof.Flash1State
@[expose] public section
set_option maxRecDepth 16384
noncomputable section
open Idealize.ShloMosaic Idealize.ShloMosaic.TcCoe Idealize.SL.Sem
open Idealize.ShloMosaic.Pipeline (Dat)
namespace Cert.Flash1Ideal.Step
open Cert.Flash1Ideal Cert.Flash1Ideal.Gen Cert.Flash1Ideal.Value Cert.Gat Cert.Softmax
variable (m : (ℓ : Loc nD τ sig) → Buf (Elt Ideal) ℓ) (c : Dev nD)

/-- The index maps of the inputs. -/
theorem idx : ∀ t : Fin cfg0.N, win0_0.index t = ![t.val / 8, t.val % 8] ∧ win0_1.index t = ![t.val % 8, 0]
    ∧ win0_2.index t = ![0, 0] ∧ win0_3.index t = ![t.val / 8, 0] ∧ win0_4.index t = ![0, t.val % 8]
    ∧ win0_5.index t = ![0, 0] ∧ win0_6.index t = ![0, 0] ∧ win0_7.index t = ![0, 0] ∧ win0_8.index t = ![t.val / 8, 0] :=
  (by decide +kernel : ∀ t : Fin grid0.N, _)

section
variable (t : Fin cfg0.N) (i b : Fin 8) (hi : t.val / 8 = i.val) (hb : t.val % 8 = b.val)
include hi hb

theorem multB_at (r x : Fin 512) : multB m c t r x = m ((c : Thread nD τ).loc main_arg0) (ix2 (rowAt i.val i.isLt r) (rowAt b.val b.isLt x)) := by
  obtain ⟨e0, e1, e2, e3, e4, e5, e6, e7, e8⟩ := idx t
  unfold rowAt multB
  blk_ext! [iblk, V, e0]

theorem valB_at (x : Fin 512) (l : Fin 512) : valB m c t x l = m ((c : Thread nD τ).loc main_arg1) (ix2 (rowAt b.val b.isLt x) l) := by
  obtain ⟨e0, e1, e2, e3, e4, e5, e6, e7, e8⟩ := idx t
  unfold rowAt valB
  blk_ext! [iblk, V, e1]

theorem dstB_at (r : Fin 512) (h : Fin 4) : dstB m c t r h = m ((c : Thread nD τ).loc main_arg3) (ix2 (rowAt i.val i.isLt r) h) := by
  obtain ⟨e0, e1, e2, e3, e4, e5, e6, e7, e8⟩ := idx t
  unfold rowAt dstB
  blk_ext! [iblk, V, e3]

theorem rowB_at (h : Fin 4) (x : Fin 512) : rowB m c t h x = m ((c : Thread nD τ).loc main_arg2) (ix2 (rowAt b.val b.isLt x) h) := by
  obtain ⟨e0, e1, e2, e3, e4, e5, e6, e7, e8⟩ := idx t
  unfold rowAt rowB
  blk_ext! [iblk, V, e4]

end

theorem srcB_at (t : Fin cfg0.N) (j : Fin 4096) (h : Fin 4) : srcB m c t j h = m ((c : Thread nD τ).loc main_arg2) (ix2 j h) := by
  obtain ⟨e0, e1, e2, e3, e4, e5, e6, e7, e8⟩ := idx t
  unfold srcB
  blk_ext! [iblk, V, e2]

theorem bias_at (t : Fin cfg0.N) (l : Fin 512) : iblk m c 5 t (ix2 0 l) = m ((c : Thread nD τ).loc main_arg4) (ix1 l) := by
  obtain ⟨e0, e1, e2, e3, e4, e5, e6, e7, e8⟩ := idx t
  blk_ext! [iblk, V, e5]

theorem gain_at (t : Fin cfg0.N) (l : Fin 512) : iblk m c 6 t (ix2 0 l) = m ((c : Thread nD τ).loc main_arg5) (ix1 l) := by
  obtain ⟨e0, e1, e2, e3, e4, e5, e6, e7, e8⟩ := idx t
  blk_ext! [iblk, V, e6]

theorem offset_at (t : Fin cfg0.N) (l : Fin 512) : iblk m c 7 t (ix2 0 l) = m ((c : Thread nD τ).loc main_arg6) (ix1 l) := by
  obtain ⟨e0, e1, e2, e3, e4, e5, e6, e7, e8⟩ := idx t
  blk_ext! [iblk, V, e7]

theorem residual_at (t : Fin cfg0.N) (i : Fin 8) (hi : t.val / 8 = i.val) (r : Fin 512) (l : Fin 512) :
    iblk m c 8 t (ix2 r l) = m ((c : Thread nD τ).loc main_arg7) (ix2 (rowAt i.val i.isLt r) l) := by
  obtain ⟨e0, e1, e2, e3, e4, e5, e6, e7, e8⟩ := idx t
  unfold rowAt
  blk_ext! [iblk, V, e8]

/-- The multiplicities. -/
abbrev mult : Fin 4096 → Fin 4096 → EReal := fun n j => m ((c : Thread nD τ).loc main_arg0) (ix2 n j)

/-- The source scores. -/
abbrev src : Fin 4096 → Fin 4 → EReal := fun n h => m ((c : Thread nD τ).loc main_arg2) (ix2 n h)

/-- The destination scores. -/
abbrev dst : Fin 4096 → Fin 4 → EReal := fun n h => m ((c : Thread nD τ).loc main_arg3) (ix2 n h)

/-- After point `8 i + b` the buffers have seen `b + 1` blocks of nodes. -/
theorem seen_at (i : Fin 8) : ∀ (b : ℕ) (hb : b < 8) (t : Fin cfg0.N), t.val = 8 * i.val + b →
    Seen head (mult m c) (src m c) (dst m c) (fun j l => m ((c : Thread nD τ).loc main_arg1) (ix2 j l)) i (b + 1) (sums m c t) (norms m c t)
  | 0, hb, t, ht =>
    have h0 : t.val % 8 = 0 := by omega
    have hi : t.val / 8 = i.val := by omega
    seen_step head (mult m c) (src m c) (dst m c) _ i 0 hb (multB m c t) (valB m c t) (srcB m c t) (dstB m c t) (rowB m c t)
      (fun r x => multB_at m c t i ⟨0, hb⟩ hi h0 r x) (fun x l => valB_at m c t i ⟨0, hb⟩ hi h0 x l)
      (fun j h => srcB_at m c t j h) (fun r h => dstB_at m c t i ⟨0, hb⟩ hi h0 r h)
      (fun h x => rowB_at m c t i ⟨0, hb⟩ hi h0 h x) _ _ _ _
      (seen_zero head (mult m c) (src m c) (dst m c) _ i)
      (sums_first m c t h0) (norms_first m c t h0)
  | b + 1, hb, t, ht =>
    have h0 : t.val % 8 = b + 1 := by omega
    have hi : t.val / 8 = i.val := by omega
    have hp : t.val - 1 < cfg0.N := by have := t.isLt; omega
    seen_step head (mult m c) (src m c) (dst m c) _ i (b + 1) hb (multB m c t) (valB m c t) (srcB m c t) (dstB m c t) (rowB m c t)
      (fun r x => multB_at m c t i ⟨b + 1, hb⟩ hi h0 r x) (fun x l => valB_at m c t i ⟨b + 1, hb⟩ hi h0 x l)
      (fun j h => srcB_at m c t j h) (fun r h => dstB_at m c t i ⟨b + 1, hb⟩ hi h0 r h)
      (fun h x => rowB_at m c t i ⟨b + 1, hb⟩ hi h0 h x) _ _ _ _
      (seen_at i b (by omega) ⟨t.val - 1, hp⟩ (by show t.val - 1 = _; omega))
      (sums_next m c t ⟨t.val - 1, hp⟩ rfl (by omega)) (norms_next m c t ⟨t.val - 1, hp⟩ rfl (by omega))

/-- The kernel's result at node `n`, lane `o`. -/
theorem result (hc : ∀ n j, 0 ≤ mult m c n j) (n : Fin 4096) (o : Fin 512) :
    G9 m c (ix2 n o) = normed (Ideal.ofBits .f32 0x44000000#32)
      (fun l => elu (mix (mult m c n) (fun j => src m c j (head l)) (dst m c n (head l)) (fun j => m ((c : Thread nD τ).loc main_arg1) (ix2 j l))
        + m ((c : Thread nD τ).loc main_arg4) (ix1 l)))
      (fun l => m ((c : Thread nD τ).loc main_arg5) (ix1 l)) (fun l => m ((c : Thread nD τ).loc main_arg6) (ix1 l)) o + m ((c : Thread nD τ).loc main_arg7) (ix2 n o) := by
  have hN : cfg0.N = 64 := N_0
  have hpt : pt9Of (ix2 n o) = 8 * (n.val / 512) + 7 := by
    show 8 * (1 * (n.val / 512 - 0) + 1 * (o.val / 512 - 0)) + 7 = _
    omega
  have hlt : pt9Of (ix2 n o) < cfg0.N := by omega
  obtain ⟨t, ht⟩ : ∃ t : Fin cfg0.N, t.val = pt9Of (ix2 n o) := ⟨⟨_, hlt⟩, rfl⟩
  have hloc : loc9Of (ix2 n o) = ix2 ⟨n.val % 512, Nat.mod_lt _ (by decide)⟩ o := by
    refine (eq_ix2 _).trans ?_
    refine congrArg₂ ix2 rfl (Fin.ext ?_)
    show o.val % 512 = o.val
    omega
  have hn : rowAt (n.val / 512) (by omega) ⟨n.val % 512, Nat.mod_lt _ (by decide)⟩ = n := by
    refine Fin.ext ?_
    show 512 * (n.val / 512) + n.val % 512 = n.val
    omega
  have hs := seen_all head (mult m c) (src m c) (dst m c) _ hc _ _ _ (seen_at m c ⟨n.val / 512, by omega⟩ 7 (by decide) t (by rw [ht, hpt]))
    ⟨n.val % 512, Nat.mod_lt _ (by decide)⟩
  rw [hn] at hs
  have ho := out_last m c t (by omega) ⟨n.val % 512, Nat.mod_lt _ (by decide)⟩ o
  have hres := residual_at m c t ⟨n.val / 512, by omega⟩ (by show t.val / 8 = n.val / 512; omega) ⟨n.val % 512, Nat.mod_lt _ (by decide)⟩ o
  rw [hn] at hres
  simp only [hs, bias_at, gain_at, offset_at, hres] at ho
  unfold G9
  rw [dif_pos hlt, hloc, fold0_congr m c _ _ t.val (by have := t.isLt; omega) ht.symm, ← outsAt0_sweep m c t.val t.isLt, ho]

end Cert.Flash1Ideal.Step
end
-- ==== Proof.Flash1Match.lean ====
/-
  The second attention kernel's result and the plain layer's are one array when no multiplicity is
  negative.
-/
module
public import proofs.«01_k».proof.Defs
public import proofs.«01_k».proof.Proof.Flash0Ref
public import proofs.«01_k».proof.Proof.Gen.Flash1RefIdeal.Run
public import proofs.«01_k».proof.Proof.Flash1Sweep
public import proofs.«01_k».proof.Proof.FlashPre
@[expose] public section
set_option maxRecDepth 16384
noncomputable section
open Idealize.ShloMosaic Idealize.SL.Sem
namespace Cert.Flash1RefIdeal.Read
open Cert.Flash1RefIdeal Cert.Flash1RefIdeal.Gen

/-- The plain middle layer: the plain first layer, the residual added. -/
def out (C : FVec Ideal S4096x4096 .f32) (xp : FVec Ideal S4096x512 .f32) (s d : FVec Ideal S4096x4 .f32) (b g β : FVec Ideal S512 .f32)
    (res : FVec Ideal S4096x512 .f32) : FVec Ideal S4096x512 .f32 :=
  addf (Cert.Flash0RefIdeal.Read.out C xp s d b g β) res

/-- The plain layer and the kernel agree. -/
theorem out_eq (m : (ℓ : Loc Cert.Flash1Ideal.nD Cert.Flash1Ideal.τ Cert.Flash1Ideal.sig) → Buf (Elt Ideal) ℓ)
    (hp : Cert.Pre_Flash1Ideal_middle_ok (hPre_middle_ok := Cert.Pre_middle_ok.Gen.facts) m) (c : Dev Cert.Flash1Ideal.nD) :
    out (m ((c.tc : Thread _ _).loc Cert.Flash1Ideal.main_arg0))
      (m ((c.tc : Thread _ _).loc Cert.Flash1Ideal.main_arg1))
      (m ((c.tc : Thread _ _).loc Cert.Flash1Ideal.main_arg2))
      (m ((c.tc : Thread _ _).loc Cert.Flash1Ideal.main_arg3))
      (m ((c.tc : Thread _ _).loc Cert.Flash1Ideal.main_arg4))
      (m ((c.tc : Thread _ _).loc Cert.Flash1Ideal.main_arg5))
      (m ((c.tc : Thread _ _).loc Cert.Flash1Ideal.main_arg6))
      (m ((c.tc : Thread _ _).loc Cert.Flash1Ideal.main_arg7))
      = Cert.Flash1Ideal.Value.G9 (F := Ideal) m c := by
  have hC := Cert.Pre_middle_ok.Read.nonneg _ _ _ _ _ _ _ _ (hp c)
  funext i
  obtain ⟨n, o, rfl⟩ : ∃ (n : Fin 4096) (o : Fin 512), i = ix2 n o := ⟨i 0, i 1, eq_ix2 i⟩
  rw [Cert.Flash1Ideal.Step.result m c (fun n j => hC _) n o]
  have g := fun l : Fin 512 => Cert.Flash0RefIdeal.Read.gat_at (m ((c.tc : Thread _ _).loc Cert.Flash1Ideal.main_arg0)) (m ((c.tc : Thread _ _).loc Cert.Flash1Ideal.main_arg1)) (m ((c.tc : Thread _ _).loc Cert.Flash1Ideal.main_arg2)) (m ((c.tc : Thread _ _).loc Cert.Flash1Ideal.main_arg3)) (m ((c.tc : Thread _ _).loc Cert.Flash1Ideal.main_arg4)) n l
  refine congrArg (fun z : EReal => z + _) ?_
  rw [Cert.Flash0RefIdeal.Read.out, Cert.Flash0RefIdeal.Read.norm_at]
  simp only [Cert.Flash0RefIdeal.Read.unit_at, g]
  rfl

/-- What the plain program leaves is the plain layer of its arguments. -/
theorem run_out (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v48) = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c).1.trans rfl, (h c).2⟩) (Cert.Flash1RefIdeal.Value.run (F := Ideal) m ρ)

end Cert.Flash1RefIdeal.Read
end
-- ==== Proof.Flash2Ref.lean ====
/-
  The plain graph attention of one head read at an index, its layer normalised: the bent scores, their
  shifted exponentials times the multiplicities, the guarded average, the norm.
-/
module
public import proofs.«01_k».proof.Proof.Gen.Flash2RefIdeal.Run
public import proofs.«01_k».proof.Proof.Gat
public import Idealize.ShloMosaic.Lib.Pointwise
@[expose] public section
set_option maxRecDepth 16384
noncomputable section
open Idealize.ShloMosaic
namespace Cert.Flash2RefIdeal.Read
open Cert.Flash2RefIdeal Cert.Flash2RefIdeal.Gen Cert.Gat Cert.Softmax

/-- The sums of a destination score and a source score. -/
def scores (s d : FVec Ideal S4096x1 .f32) : FVec Ideal S1x4096x4096 .f32 :=
  addf (broadcastInDim S1x4096x4096 ![0, 1, 2] bcast_S1x4096x1_S1x4096x4096_0_1_2
      (broadcastInDim S1x4096x1 ![0, 1] bcast_S1x4096_S1x4096x1_0_1 (transpose S1x4096 [1, 0] d transposes_S4096x1_S1x4096_1_0)))
    (broadcastInDim S1x4096x4096 ![0, 1, 2] bcast_S1x1x4096_S1x4096x4096_0_1_2
      (broadcastInDim S1x1x4096 ![0, 2] bcast_S1x4096_S1x1x4096_0_2 (transpose S1x4096 [1, 0] s transposes_S4096x1_S1x4096_1_0)))

theorem scores_at (s d : FVec Ideal S4096x1 .f32) (h : Fin 1) (n j : Fin 4096) :
    scores s d (ix3 h n j) = d (ix2 n h) + s (ix2 j h) := by
  obtain rfl : h = 0 := Subsingleton.elim _ _
  pointwise [scores]

/-- The scores bent below zero. -/
def bent (E : FVec Ideal S1x4096x4096 .f32) : FVec Ideal S1x4096x4096 .f32 :=
  select (cmpf .oge E (broadcastInDim S1x4096x4096 ![] bcast_S_S1x4096x4096 (constant S_ .f32 0x00000000#32))) E
    (mulf (broadcastInDim S1x4096x4096 ![] bcast_S_S1x4096x4096 (id (constant S_ .f32 0x3E4CCCCD#32))) E)

theorem bent_at (E : FVec Ideal S1x4096x4096 .f32) (h : Fin 1) (n j : Fin 4096) :
    bent E (ix3 h n j) = bend (E (ix3 h n j)) := by
  rw [← bend_ge]
  pointwise [bent, slopeWord, id]

/-- Each row's maximum. -/
def rowMax (B : FVec Ideal S1x4096x4096 .f32) : FVec Ideal S1x4096 .f32 :=
  Host.reduce FloatOps.maximumf B (constant S_ .f32 0xFF800000#32) reducesTo_S1x4096x4096_S1x4096_d2 h_S_

theorem rowMax_at (B : FVec Ideal S1x4096x4096 .f32) (h : Fin 1) (n : Fin 4096) :
    rowMax B (ix2 h n) = Finset.univ.fold max (Ideal.ofBits .f32 0xFF800000#32) fun x : Fin 4096 => B (ix3 h n x) := by
  obtain rfl : h = 0 := Subsingleton.elim _ _
  pointwise [rowMax]

/-- The multiplicities times the exponentials of the scores less their row's maximum. -/
def masses (C : FVec Ideal S4096x4096 .f32) (B : FVec Ideal S1x4096x4096 .f32) (M : FVec Ideal S1x4096 .f32) : FVec Ideal S1x4096x4096 .f32 :=
  mulf (broadcastInDim S1x4096x4096 ![1, 2] bcast_S4096x4096_S1x4096x4096_1_2 C)
    (Host.exp (subf B (broadcastInDim S1x4096x4096 ![0, 1, 2] bcast_S1x4096x1_S1x4096x4096_0_1_2
      (broadcastInDim S1x4096x1 ![0, 1] bcast_S1x4096_S1x4096x1_0_1 M))))

theorem masses_at (C : FVec Ideal S4096x4096 .f32) (B : FVec Ideal S1x4096x4096 .f32) (M : FVec Ideal S1x4096 .f32) (h : Fin 1)
    (n j : Fin 4096) : masses C B M (ix3 h n j) = C (ix2 n j) * Ideal.exp (B (ix3 h n j) - M (ix2 h n)) := by
  obtain rfl : h = 0 := Subsingleton.elim _ _
  pointwise [masses]

/-- The weights over their guarded sum. -/
def share (W : FVec Ideal S1x4096x4096 .f32) : FVec Ideal S1x4096x4096 .f32 :=
  Host.divf W (broadcastInDim S1x4096x4096 ![0, 1, 2] bcast_S1x4096x1_S1x4096x4096_0_1_2
    (addf (broadcastInDim S1x4096x1 ![0, 1] bcast_S1x4096_S1x4096x1_0_1
        (Host.reduceAdd W (constant S_ .f32 0x00000000#32) reducesTo_S1x4096x4096_S1x4096_d2 h_S_))
      (broadcastInDim S1x4096x1 ![] bcast_S_S1x4096x1 (constant S_ .f32 0x24E69595#32))))

theorem share_at (W : FVec Ideal S1x4096x4096 .f32) (h : Fin 1) (n j : Fin 4096) :
    share W (ix3 h n j) = Ideal.div (W (ix3 h n j)) (∑ x : Fin 4096, W (ix3 h n x) + guardWord) := by
  obtain rfl : h = 0 := Subsingleton.elim _ _
  pointwise [share, guardWord]

/-- The averages of the mapped node rows, plus the bias. -/
def attend (P : FVec Ideal S1x4096x4096 .f32) (xp : FVec Ideal S4096x128 .f32) (b : FVec Ideal S128 .f32) : FVec Ideal S4096x128 .f32 :=
  addf (shapeCast S4096x128 (transpose S4096x1x128 [2, 0, 1]
      (Host.dotGeneral dot_S4096x1x128_S1x4096x4096_S1x128x4096_0_2_2_1_1_0 none
        (shapeCast S4096x1x128 xp shapeCasts_S4096x128_S4096x1x128) P) transposes_S1x128x4096_S4096x1x128_2_0_1)
      shapeCasts_S4096x1x128_S4096x128)
    (broadcastInDim S4096x128 ![0, 1] bcast_S1x128_S4096x128_0_1 (broadcastInDim S1x128 ![1] bcast_S128_S1x128_1 b))

theorem attend_at (P : FVec Ideal S1x4096x4096 .f32) (xp : FVec Ideal S4096x128 .f32) (b : FVec Ideal S128 .f32) (n : Fin 4096)
    (l : Fin 128) : attend P xp b (ix2 n l) = (∑ j : Fin 4096, xp (ix2 j l) * P (ix3 0 n j)) + b (ix1 l) := by
  pointwise [attend]

/-- The column of the rows' means. -/
def means (V : FVec Ideal S4096x128 .f32) : FVec Ideal S4096x1 .f32 :=
  Host.divf (broadcastInDim S4096x1 ![0] bcast_S4096_S4096x1_0
    (Host.reduceAdd V (constant S_ .f32 0x00000000#32) reducesTo_S4096x128_S4096_d1 h_S_))
    (broadcastInDim S4096x1 ![] bcast_S_S4096x1 (constant S_ .f32 0x43000000#32))

theorem means_at (V : FVec Ideal S4096x128 .f32) (n : Fin 4096) :
    means V (ix2 n 0) = mean (Ideal.ofBits .f32 0x43000000#32) fun x : Fin 128 => V (ix2 n x) := by
  pointwise [means, mean]

/-- The rows less their means. -/
def centred (V : FVec Ideal S4096x128 .f32) : FVec Ideal S4096x128 .f32 :=
  subf V (broadcastInDim S4096x128 ![0, 1] bcast_S4096x1_S4096x128_0_1 (means V))

theorem centred_at (V : FVec Ideal S4096x128 .f32) (n : Fin 4096) (l : Fin 128) :
    centred V (ix2 n l) = V (ix2 n l) - mean (Ideal.ofBits .f32 0x43000000#32) fun x : Fin 128 => V (ix2 n x) := by
  rw [← means_at]
  pointwise [centred]

/-- The number of lanes, nothing taken off it. -/
def count : FVec Ideal S_ .f32 := subf (constant S_ .f32 0x43000000#32) (sitofp .f32 (constantI S_ 32 0#32))

theorem count_at : count ix0 = Ideal.ofBits .f32 0x43000000#32 := by
  pointwise [count]
  rw [show (FloatOps.sitofp .f32 0#32 : Ideal .f32) = (0 : EReal) from by simp [FloatOps.sitofp]]
  exact sub_zero _

/-- The number of lanes is one hundred and twenty-eight. -/
theorem lanes : Ideal.ofBits .f32 0x43000000#32 = ((128 : ℝ) : EReal) := by
  simp [Ideal.ofBits, Ideal.ieee, -EReal.coe_mul]; norm_num

/-- The column of the rows' variances. -/
def variances (Z : FVec Ideal S4096x128 .f32) : FVec Ideal S4096x1 .f32 :=
  select (broadcastInDim S4096x1 ![] bcast_S_S4096x1 (cmpf .ogt count (constant S_ .f32 0x00000000#32)))
    (Host.divf (broadcastInDim S4096x1 ![0] bcast_S4096_S4096x1_0
      (Host.reduceAdd (mulf Z Z) (constant S_ .f32 0x00000000#32) reducesTo_S4096x128_S4096_d1 h_S_))
      (broadcastInDim S4096x1 ![] bcast_S_S4096x1 count))
    (broadcastInDim S4096x1 ![] bcast_S_S4096x1 (id (constant S_ .f32 0x7FC00000#32)))

theorem variances_at (Z : FVec Ideal S4096x128 .f32) (n : Fin 4096) :
    variances Z (ix2 n 0) = Ideal.div (∑ x : Fin 128, Z (ix2 n x) * Z (ix2 n x)) (Ideal.ofBits .f32 0x43000000#32) := by
  have hc : 0 < Ideal.ofBits .f32 0x43000000#32 := by rw [lanes]; exact EReal.coe_pos.mpr (by norm_num)
  pointwise [variances, id]
  simp only [count_at, if_pos hc]

/-- The layer norm. -/
def norm (V : FVec Ideal S4096x128 .f32) (g β : FVec Ideal S128 .f32) : FVec Ideal S4096x128 .f32 :=
  addf (mulf (Host.divf (centred V) (broadcastInDim S4096x128 ![0, 1] bcast_S4096x1_S4096x128_0_1
      (Host.sqrt (addf (variances (centred V)) (broadcastInDim S4096x1 ![] bcast_S_S4096x1 (constant S_ .f32 0x3727C5AC#32))))))
      (broadcastInDim S4096x128 ![0, 1] bcast_S1x128_S4096x128_0_1 (broadcastInDim S1x128 ![1] bcast_S128_S1x128_1 g)))
    (broadcastInDim S4096x128 ![0, 1] bcast_S1x128_S4096x128_0_1 (broadcastInDim S1x128 ![1] bcast_S128_S1x128_1 β))

theorem norm_at (V : FVec Ideal S4096x128 .f32) (g β : FVec Ideal S128 .f32) (n : Fin 4096) (l : Fin 128) :
    norm V g β (ix2 n l) = normed (Ideal.ofBits .f32 0x43000000#32) (fun x : Fin 128 => V (ix2 n x)) (fun x => g (ix1 x)) (fun x => β (ix1 x)) l := by
  rw [lanes, ← normed_ref _ _ _ 128 (by norm_num), ← lanes]
  have hv : variances (centred V) (ix2 n 0) = variance (Ideal.ofBits .f32 0x43000000#32) fun x : Fin 128 => V (ix2 n x) := by
    rw [variances_at, variance]
    simp only [centred_at]
  rw [← hv, ← centred_at]
  pointwise [norm, varWord]

/-- The plain attention, before its norm. -/
def gat (C : FVec Ideal S4096x4096 .f32) (xp : FVec Ideal S4096x128 .f32) (s d : FVec Ideal S4096x1 .f32) (b : FVec Ideal S128 .f32) :
    FVec Ideal S4096x128 .f32 :=
  attend (share (masses C (bent (scores s d)) (rowMax (bent (scores s d))))) xp b

/-- The guarded average, plus the bias. -/
theorem gat_at (C : FVec Ideal S4096x4096 .f32) (xp : FVec Ideal S4096x128 .f32) (s d : FVec Ideal S4096x1 .f32) (b : FVec Ideal S128 .f32)
    (n : Fin 4096) (l : Fin 128) :
    gat C xp s d b (ix2 n l) = mix (fun j => C (ix2 n j)) (fun j => s (ix2 j 0)) (d (ix2 n 0)) (fun j => xp (ix2 j l))
      + b (ix1 l) := by
  have hm : ∀ (h : Fin 1) (n j : Fin 4096), masses C (bent (scores s d)) (rowMax (bent (scores s d))) (ix3 h n j)
      = mass (fun j => C (ix2 n j)) (fun j => s (ix2 j h)) (d (ix2 n h)) j := fun h n j => by
    rw [masses_at, rowMax_at]
    simp only [bent_at, scores_at]
    rfl
  rw [gat, attend_at, mix]
  refine congrArg (fun z : EReal => z + _) (Finset.sum_congr rfl fun j _ => ?_)
  rw [share_at, mul_comm]
  simp only [hm]

/-- The plain layer. -/
def out (C : FVec Ideal S4096x4096 .f32) (xp : FVec Ideal S4096x128 .f32) (s d : FVec Ideal S4096x1 .f32) (b g β : FVec Ideal S128 .f32) :
    FVec Ideal S4096x128 .f32 :=
  norm (gat C xp s d b) g β

end Cert.Flash2RefIdeal.Read
end
-- ==== Proof.Flash2State.lean ====
/-
  The attention kernel of one head: what each grid point leaves in the carried sums and what the last point of
  a row block writes out, in the terms of Gat.lean.
-/
module
public import proofs.«01_k».proof.Proof.Gen.Flash2Ideal.Value
public import proofs.«01_k».proof.Proof.StateFirst
public import proofs.«01_k».proof.Proof.Out
public import proofs.«01_k».proof.Proof.Gat
@[expose] public section
set_option maxRecDepth 16384
noncomputable section
open Idealize.ShloMosaic Idealize.ShloMosaic.TcCoe Idealize.SL.Sem
open Idealize.ShloMosaic.Pipeline (Dat)
namespace Cert.Flash2Ideal.Step
open Cert.Flash2Ideal Cert.Flash2Ideal.Gen Cert.Flash2Ideal.Value Cert.Gat
open Cert.MhaIdeal.Step (canon_over_fill readCov_eq_ld)
variable (m : (ℓ : Loc nD τ sig) → Buf (Elt Ideal) ℓ) (c : Dev nD) (t : Fin cfg0.N)

/-- The one head. -/
def head (_ : Fin 128) : Fin 1 := 0

/-- The point's block of multiplicities. -/
def multB (r x : Fin 512) : EReal := iblk m c 0 t (ix2 r x)
/-- The point's block of mapped node rows. -/
def valB (x : Fin 512) (l : Fin 128) : EReal := iblk m c 1 t (ix2 x l)
/-- All source scores. -/
def srcB (j : Fin 4096) (h : Fin 1) : EReal := iblk m c 2 t (ix2 j h)
/-- The point's block of destination scores. -/
def dstB (r : Fin 512) (h : Fin 1) : EReal := iblk m c 3 t (ix2 r h)
/-- The point's block of source scores, as a row. -/
def rowB (h : Fin 1) (x : Fin 512) : EReal := iblk m c 4 t (ix2 h x)
/-- The weighted sums a point leaves. -/
def sums (r : Fin 512) (l : Fin 128) : EReal := (outsAt0 m c t.val t.isLt).2.1 (ix2 r l)
/-- The sums of weights a point leaves. -/
def norms (r : Fin 512) (h : Fin 1) : EReal := (outsAt0 m c t.val t.isLt).2.2 (ix2 r h)

/-- A point that continues a row block adds its block of nodes to the weighted sums. -/
theorem sums_next (s : Fin cfg0.N) (hs : s.val = t.val - 1) (h0 : ¬t.val % 8 = 0) (r : Fin 512) (l : Fin 128) :
    sums m c t r l = aNext head (multB m c t) (valB m c t) (srcB m c t) (dstB m c t) (rowB m c t) (sums m c s) r l := by
  obtain ⟨_, _⟩ := s
  subst hs
  unfold sums
  by_cases h1 : t.val % 8 = 7 <;> [rw [outsAt0_C m c t h0 h1]; rw [outsAt0_B m c t h0 h1]] <;>
    (frame_out
     simp only [read_unread_whole]
     open_payloads
     pointwise [aNext, weight, shift, bend, top, slopeWord, multB, valB, srcB, dstB, rowB, head])

/-- … and to the sums of weights. -/
theorem norms_next (s : Fin cfg0.N) (hs : s.val = t.val - 1) (h0 : ¬t.val % 8 = 0) (r : Fin 512) (h : Fin 1) :
    norms m c t r h = dNext (multB m c t) (srcB m c t) (dstB m c t) (rowB m c t) (norms m c s) r h := by
  obtain ⟨_, _⟩ := s
  subst hs
  obtain rfl : h = 0 := Subsingleton.elim _ _
  unfold norms
  by_cases h1 : t.val % 8 = 7 <;> [rw [outsAt0_C m c t h0 h1]; rw [outsAt0_B m c t h0 h1]] <;>
    (frame_out
     simp only [read_unread_whole]
     open_payloads
     pointwise [dNext, weight, shift, bend, top, slopeWord, multB, valB, srcB, dstB, rowB, head])

/-- The first point of a row block starts the weighted sums from zero. -/
theorem sums_first (h0 : t.val % 8 = 0) (r : Fin 512) (l : Fin 128) :
    sums m c t r l = aNext head (multB m c t) (valB m c t) (srcB m c t) (dstB m c t) (rowB m c t) (fun _ _ => 0) r l := by
  unfold sums
  rw [outsAt0_A m c t h0 (by omega)]
  frame_open
  simp (disch := decide) only [↓View.readCov_skip, ↓View.readCov_fill]
  frame_out
  open_payloads
  pointwise [aNext, weight, shift, bend, top, slopeWord, multB, valB, srcB, dstB, rowB, head, k0_pay5]

/-- … and the sums of weights. -/
theorem norms_first (h0 : t.val % 8 = 0) (r : Fin 512) (h : Fin 1) :
    norms m c t r h = dNext (multB m c t) (srcB m c t) (dstB m c t) (rowB m c t) (fun _ _ => 0) r h := by
  obtain rfl : h = 0 := Subsingleton.elim _ _
  unfold norms
  rw [outsAt0_A m c t h0 (by omega)]
  frame_open
  simp (disch := decide) only [↓View.readCov_skip, ↓View.readCov_fill]
  frame_out
  open_payloads
  pointwise [dNext, weight, shift, bend, top, slopeWord, multB, valB, srcB, dstB, rowB, head, k0_pay6]

/-- The last point of a row block writes out the normalised rows. -/
theorem out_last (h0 : t.val % 8 = 7) (r : Fin 512) (l : Fin 128) :
    (outsAt0 m c t.val t.isLt).1 (ix2 r l) = normed (Ideal.ofBits .f32 0x43000000#32)
      (fun x => Ideal.div (sums m c t r x) (norms m c t r (head x) + guardWord) + iblk m c 5 t (ix2 0 x))
      (fun x => iblk m c 6 t (ix2 0 x)) (fun x => iblk m c 7 t (ix2 0 x)) l := by
  unfold sums norms
  rw [outsAt0_C m c t (by omega) h0]
  frame_out
  simp only [read_unread_whole, readCov_eq_ld]
  generalize View.canon (Val := Elt Ideal) (s := S512x1) (e := .f32) _ = L
  generalize View.canon (Val := Elt Ideal) (s := S512x128) (e := .f32) _ = A
  pointwise [k0_pay4, normed, variance, mean, guardWord, varWord, head]
end Cert.Flash2Ideal.Step
end
-- ==== Proof.Flash2Sweep.lean ====
/-
  The attention kernel of one head swept over its grid: after point `8 i + b` the carried buffers hold the sums
  over the first `b + 1` blocks of nodes; so the last point of a row block writes out the normalised averages.
-/
module
public import proofs.«01_k».proof.Proof.Flash2State
@[expose] public section
set_option maxRecDepth 16384
noncomputable section
open Idealize.ShloMosaic Idealize.ShloMosaic.TcCoe Idealize.SL.Sem
open Idealize.ShloMosaic.Pipeline (Dat)
namespace Cert.Flash2Ideal.Step
open Cert.Flash2Ideal Cert.Flash2Ideal.Gen Cert.Flash2Ideal.Value Cert.Gat Cert.Softmax
variable (m : (ℓ : Loc nD τ sig) → Buf (Elt Ideal) ℓ) (c : Dev nD)

/-- The index maps of the inputs. -/
theorem idx : ∀ t : Fin cfg0.N, win0_0.index t = ![t.val / 8, t.val % 8] ∧ win0_1.index t = ![t.val % 8, 0]
    ∧ win0_2.index t = ![0, 0] ∧ win0_3.index t = ![t.val / 8, 0] ∧ win0_4.index t = ![0, t.val % 8]
    ∧ win0_5.index t = ![0, 0] ∧ win0_6.index t = ![0, 0] ∧ win0_7.index t = ![0, 0] ∧ win0_8.index t = ![t.val / 8, 0] :=
  (by decide +kernel : ∀ t : Fin grid0.N, _)

section
variable (t : Fin cfg0.N) (i b : Fin 8) (hi : t.val / 8 = i.val) (hb : t.val % 8 = b.val)
include hi hb

theorem multB_at (r x : Fin 512) : multB m c t r x = m ((c : Thread nD τ).loc main_arg0) (ix2 (rowAt i.val i.isLt r) (rowAt b.val b.isLt x)) := by
  obtain ⟨e0, e1, e2, e3, e4, e5, e6, e7, e8⟩ := idx t
  unfold rowAt multB
  blk_ext! [iblk, V, e0]

theorem valB_at (x : Fin 512) (l : Fin 128) : valB m c t x l = m ((c : Thread nD τ).loc main_arg1) (ix2 (rowAt b.val b.isLt x) l) := by
  obtain ⟨e0, e1, e2, e3, e4, e5, e6, e7, e8⟩ := idx t
  unfold rowAt valB
  blk_ext! [iblk, V, e1]

theorem dstB_at (r : Fin 512) (h : Fin 1) : dstB m c t r h = m ((c : Thread nD τ).loc main_arg3) (ix2 (rowAt i.val i.isLt r) h) := by
  obtain ⟨e0, e1, e2, e3, e4, e5, e6, e7, e8⟩ := idx t
  unfold rowAt dstB
  blk_ext! [iblk, V, e3]

theorem rowB_at (h : Fin 1) (x : Fin 512) : rowB m c t h x = m ((c : Thread nD τ).loc main_arg2) (ix2 (rowAt b.val b.isLt x) h) := by
  obtain ⟨e0, e1, e2, e3, e4, e5, e6, e7, e8⟩ := idx t
  unfold rowAt rowB
  blk_ext! [iblk, V, e4]

end

theorem srcB_at (t : Fin cfg0.N) (j : Fin 4096) (h : Fin 1) : srcB m c t j h = m ((c : Thread nD τ).loc main_arg2) (ix2 j h) := by
  obtain ⟨e0, e1, e2, e3, e4, e5, e6, e7, e8⟩ := idx t
  unfold srcB
  blk_ext! [iblk, V, e2]

theorem bias_at (t : Fin cfg0.N) (l : Fin 128) : iblk m c 5 t (ix2 0 l) = m ((c : Thread nD τ).loc main_arg4) (ix1 l) := by
  obtain ⟨e0, e1, e2, e3, e4, e5, e6, e7, e8⟩ := idx t
  blk_ext! [iblk, V, e5]

theorem gain_at (t : Fin cfg0.N) (l : Fin 128) : iblk m c 6 t (ix2 0 l) = m ((c : Thread nD τ).loc main_arg5) (ix1 l) := by
  obtain ⟨e0, e1, e2, e3, e4, e5, e6, e7, e8⟩ := idx t
  blk_ext! [iblk, V, e6]

theorem offset_at (t : Fin cfg0.N) (l : Fin 128) : iblk m c 7 t (ix2 0 l) = m ((c : Thread nD τ).loc main_arg6) (ix1 l) := by
  obtain ⟨e0, e1, e2, e3, e4, e5, e6, e7, e8⟩ := idx t
  blk_ext! [iblk, V, e7]

/-- The multiplicities. -/
abbrev mult : Fin 4096 → Fin 4096 → EReal := fun n j => m ((c : Thread nD τ).loc main_arg0) (ix2 n j)

/-- The source scores. -/
abbrev src : Fin 4096 → Fin 1 → EReal := fun n h => m ((c : Thread nD τ).loc main_arg2) (ix2 n h)

/-- The destination scores. -/
abbrev dst : Fin 4096 → Fin 1 → EReal := fun n h => m ((c : Thread nD τ).loc main_arg3) (ix2 n h)

/-- After point `8 i + b` the buffers have seen `b + 1` blocks of nodes. -/
theorem seen_at (i : Fin 8) : ∀ (b : ℕ) (hb : b < 8) (t : Fin cfg0.N), t.val = 8 * i.val + b →
    Seen head (mult m c) (src m c) (dst m c) (fun j l => m ((c : Thread nD τ).loc main_arg1) (ix2 j l)) i (b + 1) (sums m c t) (norms m c t)
  | 0, hb, t, ht =>
    have h0 : t.val % 8 = 0 := by omega
    have hi : t.val / 8 = i.val := by omega
    seen_step head (mult m c) (src m c) (dst m c) _ i 0 hb (multB m c t) (valB m c t) (srcB m c t) (dstB m c t) (rowB m c t)
      (fun r x => multB_at m c t i ⟨0, hb⟩ hi h0 r x) (fun x l => valB_at m c t i ⟨0, hb⟩ hi h0 x l)
      (fun j h => srcB_at m c t j h) (fun r h => dstB_at m c t i ⟨0, hb⟩ hi h0 r h)
      (fun h x => rowB_at m c t i ⟨0, hb⟩ hi h0 h x) _ _ _ _
      (seen_zero head (mult m c) (src m c) (dst m c) _ i)
      (sums_first m c t h0) (norms_first m c t h0)
  | b + 1, hb, t, ht =>
    have h0 : t.val % 8 = b + 1 := by omega
    have hi : t.val / 8 = i.val := by omega
    have hp : t.val - 1 < cfg0.N := by have := t.isLt; omega
    seen_step head (mult m c) (src m c) (dst m c) _ i (b + 1) hb (multB m c t) (valB m c t) (srcB m c t) (dstB m c t) (rowB m c t)
      (fun r x => multB_at m c t i ⟨b + 1, hb⟩ hi h0 r x) (fun x l => valB_at m c t i ⟨b + 1, hb⟩ hi h0 x l)
      (fun j h => srcB_at m c t j h) (fun r h => dstB_at m c t i ⟨b + 1, hb⟩ hi h0 r h)
      (fun h x => rowB_at m c t i ⟨b + 1, hb⟩ hi h0 h x) _ _ _ _
      (seen_at i b (by omega) ⟨t.val - 1, hp⟩ (by show t.val - 1 = _; omega))
      (sums_next m c t ⟨t.val - 1, hp⟩ rfl (by omega)) (norms_next m c t ⟨t.val - 1, hp⟩ rfl (by omega))

/-- The kernel's result at node `n`, lane `o`. -/
theorem result (hc : ∀ n j, 0 ≤ mult m c n j) (n : Fin 4096) (o : Fin 128) :
    G9 m c (ix2 n o) = normed (Ideal.ofBits .f32 0x43000000#32)
      (fun l => mix (mult m c n) (fun j => src m c j (head l)) (dst m c n (head l)) (fun j => m ((c : Thread nD τ).loc main_arg1) (ix2 j l))
        + m ((c : Thread nD τ).loc main_arg4) (ix1 l))
      (fun l => m ((c : Thread nD τ).loc main_arg5) (ix1 l)) (fun l => m ((c : Thread nD τ).loc main_arg6) (ix1 l)) o := by
  have hN : cfg0.N = 64 := N_0
  have hpt : pt9Of (ix2 n o) = 8 * (n.val / 512) + 7 := by
    show 8 * (1 * (n.val / 512 - 0) + 1 * (o.val / 128 - 0)) + 7 = _
    omega
  have hlt : pt9Of (ix2 n o) < cfg0.N := by omega
  obtain ⟨t, ht⟩ : ∃ t : Fin cfg0.N, t.val = pt9Of (ix2 n o) := ⟨⟨_, hlt⟩, rfl⟩
  have hloc : loc9Of (ix2 n o) = ix2 ⟨n.val % 512, Nat.mod_lt _ (by decide)⟩ o := by
    refine (eq_ix2 _).trans ?_
    refine congrArg₂ ix2 rfl (Fin.ext ?_)
    show o.val % 128 = o.val
    omega
  have hn : rowAt (n.val / 512) (by omega) ⟨n.val % 512, Nat.mod_lt _ (by decide)⟩ = n := by
    refine Fin.ext ?_
    show 512 * (n.val / 512) + n.val % 512 = n.val
    omega
  have hs := seen_all head (mult m c) (src m c) (dst m c) _ hc _ _ _ (seen_at m c ⟨n.val / 512, by omega⟩ 7 (by decide) t (by rw [ht, hpt]))
    ⟨n.val % 512, Nat.mod_lt _ (by decide)⟩
  rw [hn] at hs
  have ho := out_last m c t (by omega) ⟨n.val % 512, Nat.mod_lt _ (by decide)⟩ o
  simp only [hs, bias_at, gain_at, offset_at] at ho
  unfold G9
  rw [dif_pos hlt, hloc, fold0_congr m c _ _ t.val (by have := t.isLt; omega) ht.symm, ← outsAt0_sweep m c t.val t.isLt, ho]

end Cert.Flash2Ideal.Step
end
-- ==== Proof.Flash2Match.lean ====
/-
  The last attention kernel's result and the plain layer's are one array when no multiplicity is
  negative.
-/
module
public import proofs.«01_k».proof.Defs
public import proofs.«01_k».proof.Proof.Flash2Ref
public import proofs.«01_k».proof.Proof.Flash2Sweep
public import proofs.«01_k».proof.Proof.FlashPre
@[expose] public section
set_option maxRecDepth 16384
noncomputable section
open Idealize.ShloMosaic Idealize.SL.Sem
namespace Cert.Flash2RefIdeal.Read
open Cert.Flash2RefIdeal Cert.Flash2RefIdeal.Gen

/-- The plain layer and the kernel agree. -/
theorem out_eq (m : (ℓ : Loc Cert.Flash2Ideal.nD Cert.Flash2Ideal.τ Cert.Flash2Ideal.sig) → Buf (Elt Ideal) ℓ)
    (hp : Cert.Pre_Flash2Ideal_last_ok (hPre_last_ok := Cert.Pre_last_ok.Gen.facts) m) (c : Dev Cert.Flash2Ideal.nD) :
    out (m ((c.tc : Thread _ _).loc Cert.Flash2Ideal.main_arg0))
      (m ((c.tc : Thread _ _).loc Cert.Flash2Ideal.main_arg1))
      (m ((c.tc : Thread _ _).loc Cert.Flash2Ideal.main_arg2))
      (m ((c.tc : Thread _ _).loc Cert.Flash2Ideal.main_arg3))
      (m ((c.tc : Thread _ _).loc Cert.Flash2Ideal.main_arg4))
      (m ((c.tc : Thread _ _).loc Cert.Flash2Ideal.main_arg5))
      (m ((c.tc : Thread _ _).loc Cert.Flash2Ideal.main_arg6))
      = Cert.Flash2Ideal.Value.G9 (F := Ideal) m c := by
  have hC := Cert.Pre_last_ok.Read.nonneg _ _ _ _ _ _ _ (hp c)
  funext i
  obtain ⟨n, o, rfl⟩ : ∃ (n : Fin 4096) (o : Fin 128), i = ix2 n o := ⟨i 0, i 1, eq_ix2 i⟩
  rw [Cert.Flash2Ideal.Step.result m c (fun n j => hC _) n o]
  have g := fun l : Fin 128 => gat_at (m ((c.tc : Thread _ _).loc Cert.Flash2Ideal.main_arg0)) (m ((c.tc : Thread _ _).loc Cert.Flash2Ideal.main_arg1)) (m ((c.tc : Thread _ _).loc Cert.Flash2Ideal.main_arg2)) (m ((c.tc : Thread _ _).loc Cert.Flash2Ideal.main_arg3)) (m ((c.tc : Thread _ _).loc Cert.Flash2Ideal.main_arg4)) n l
  rw [out, norm_at]
  simp only [g]
  rfl

/-- What the plain program leaves is the plain layer of its arguments. -/
theorem run_out (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v45) = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c).1.trans rfl, (h c).2⟩) (Cert.Flash2RefIdeal.Value.run (F := Ideal) m ρ)

end Cert.Flash2RefIdeal.Read
end
-- ==== Proof.lean ====
module

public import proofs.«01_k».proof.Defs
public import proofs.«01_k».proof.Proof.Gen.Mha.Frame
public import proofs.«01_k».proof.Proof.Gen.MhaIdeal.Value
public import proofs.«01_k».proof.Proof.Gen.MhaRefIdeal.Run
public import proofs.«01_k».proof.Proof.Gen.Qkv.Frame
public import proofs.«01_k».proof.Proof.Gen.QkvIdeal.Value
public import proofs.«01_k».proof.Proof.Gen.QkvRefIdeal.Run
public import proofs.«01_k».proof.Proof.Gen.Pre0.Frame
public import proofs.«01_k».proof.Proof.Gen.Pre0Ideal.Value
public import proofs.«01_k».proof.Proof.Gen.Pre0RefIdeal.Run
public import proofs.«01_k».proof.Proof.Gen.Pre1.Frame
public import proofs.«01_k».proof.Proof.Gen.Pre1Ideal.Value
public import proofs.«01_k».proof.Proof.Gen.Pre1RefIdeal.Run
public import proofs.«01_k».proof.Proof.Gen.Pre2.Frame
public import proofs.«01_k».proof.Proof.Gen.Pre2Ideal.Value
public import proofs.«01_k».proof.Proof.Gen.Pre2RefIdeal.Run
public import proofs.«01_k».proof.Proof.Gen.Flash0.Frame
public import proofs.«01_k».proof.Proof.Gen.Flash0Ideal.Value
public import proofs.«01_k».proof.Proof.Gen.Flash0RefIdeal.Run
public import proofs.«01_k».proof.Proof.Gen.Flash1.Frame
public import proofs.«01_k».proof.Proof.Gen.Flash1Ideal.Value
public import proofs.«01_k».proof.Proof.Gen.Flash1RefIdeal.Run
public import proofs.«01_k».proof.Proof.Gen.Flash2.Frame
public import proofs.«01_k».proof.Proof.Gen.Flash2Ideal.Value
public import proofs.«01_k».proof.Proof.Gen.Flash2RefIdeal.Run
public import proofs.«01_k».proof.Proof.Gen.Pre_finite_qk
public import proofs.«01_k».proof.Proof.Gen.Pre_first_ok
public import proofs.«01_k».proof.Proof.Gen.Pre_middle_ok
public import proofs.«01_k».proof.Proof.Gen.Pre_last_ok
public import Idealize.ShloMosaic.Adequacy
public import Idealize.ShloMosaic.Init
public import Idealize.ShloMosaic.Lib.Quiescent
public import proofs.«01_k».proof.Proof.Sweep
public import proofs.«01_k».proof.Proof.Match
public import proofs.«01_k».proof.Proof.Finite
public import proofs.«01_k».proof.Proof.Qkv
public import proofs.«01_k».proof.Proof.Pre0
public import proofs.«01_k».proof.Proof.Pre1
public import proofs.«01_k».proof.Proof.Pre2
public import proofs.«01_k».proof.Proof.Flash0Match
public import proofs.«01_k».proof.Proof.Flash1Match
public import proofs.«01_k».proof.Proof.Flash2Match

@[expose] public section

noncomputable section

namespace Cert.Proof

open Idealize.ShloMosaic Idealize.SL.Sem

theorem quiescent_MhaRefIdeal : quiescent_MhaRefIdeal := fun m ρ _ =>
  (θ_run Cert.MhaRefIdeal.defs _ _).mono (fun r h => ⟨fun c => (h c).2, sem_eq_zero_of_no_sems (by decide) r.2⟩)
    (Cert.MhaRefIdeal.Value.run (F := Ideal) m ρ)

/-- The kernel's array and the reference's are one, on finite queries and keys. -/
theorem mha_eq (m : (ℓ : Loc Cert.MhaIdeal.nD Cert.MhaIdeal.τ Cert.MhaIdeal.sig) → Buf (Elt Ideal) ℓ)
    (hp : Pre_MhaIdeal_finite_qk (hPre_finite_qk := Cert.Pre_finite_qk.Gen.facts) m) (c : Dev Cert.MhaIdeal.nD) :
    Cert.MhaRefIdeal.Read.out (m ((c.tc : Thread _ _).loc Cert.MhaIdeal.main_arg0)) (m ((c.tc : Thread _ _).loc Cert.MhaIdeal.main_arg1))
      (m ((c.tc : Thread _ _).loc Cert.MhaIdeal.main_arg2)) (m ((c.tc : Thread _ _).loc Cert.MhaIdeal.main_arg3))
      (m ((c.tc : Thread _ _).loc Cert.MhaIdeal.main_arg4)) = Cert.MhaIdeal.Value.G5 (F := Ideal) m c := by
  obtain ⟨hq, hk⟩ := Cert.Pre_finite_qk.Read.real _ _ _ _ _ (hp c)
  choose q hq using hq
  choose k hk using hk
  funext i
  obtain ⟨n, o, rfl⟩ : ∃ (n : Fin 4096) (o : Fin 128), i = ix2 n o := ⟨i 0, i 1, eq_ix2 i⟩
  exact (Cert.MhaRefIdeal.Read.out_at _ _ _ _ _ (fun n l => q (ix2 n l)) (fun n l => k (ix2 n l)) (fun n l => hq _) (fun n l => hk _) n o).trans
    (Cert.MhaIdeal.Step.result m c (fun n l => q (ix2 n l)) (fun n l => k (ix2 n l)) ⟨fun n l => hq _, fun n l => hk _⟩ n o).symm

/-- The attention kernel and the plain multi-head attention end with equal results over the extended reals. -/
theorem algebraic_Mha : algebraic_MhaIdeal_MhaRefIdeal_pre_finite_qk (hMhaIdeal := Cert.MhaIdeal.Gen.facts)
    (hMhaRefIdeal := Cert.MhaRefIdeal.Gen.facts) (hPre_finite_qk := Cert.Pre_finite_qk.Gen.facts) := by
  intro m ρ m' ρ' hp hagree
  refine ⟨_, Cert.MhaIdeal.Value.run (F := Ideal) m ρ, ?_⟩
  refine (θ_run Cert.MhaRefIdeal.defs _ _).mono (fun _ h c => ⟨?_, (h c).2⟩) (Cert.MhaRefIdeal.Value.run (F := Ideal) m' ρ')
  rw [(h c).1]
  simp only [hagree c]
  exact mha_eq m hp c

/-- The plain projections leave their arguments and every semaphore as they were. -/
theorem quiescent_QkvRefIdeal : quiescent_QkvRefIdeal := fun m ρ _ =>
  (θ_run Cert.QkvRefIdeal.defs _ _).mono (fun r h => ⟨fun c => (h c).2.2.2, sem_eq_zero_of_no_sems (by decide) r.2⟩)
    (Cert.QkvRefIdeal.Value.run (F := Ideal) m ρ)

/-- The projection kernel and the plain projections end with equal queries, keys and values. -/
theorem algebraic_Qkv : algebraic_QkvIdeal_QkvRefIdeal (hQkvIdeal := Cert.QkvIdeal.Gen.facts) (hQkvRefIdeal := Cert.QkvRefIdeal.Gen.facts) := by
  intro m ρ m' ρ' _ hagree
  refine ⟨_, _, _, Cert.QkvIdeal.Value.run_blocks (F := Ideal) m ρ, ?_⟩
  refine (θ_run Cert.QkvRefIdeal.defs _ _).mono (fun _ h c => ?_) (Cert.QkvRefIdeal.Value.run (F := Ideal) m' ρ')
  obtain ⟨hq, hk, hv, rest⟩ := h c
  refine ⟨hq.trans ?_, hk.trans ?_, hv.trans ?_, rest⟩ <;> simp only [hagree c]
  · exact (Cert.QkvIdeal.Arrays.queries m c).symm
  · exact (Cert.QkvIdeal.Arrays.keys m c).symm
  · exact (Cert.QkvIdeal.Arrays.values m c).symm

/-- Layer 0's plain linear map and scores leave their arguments and every semaphore as they were. -/
theorem quiescent_Pre0RefIdeal : quiescent_Pre0RefIdeal := fun m ρ _ =>
  (θ_run Cert.Pre0RefIdeal.defs _ _).mono (fun r h => ⟨fun c => (h c).2.2.2.2, sem_eq_zero_of_no_sems (by decide) r.2⟩)
    (Cert.Pre0RefIdeal.Value.run (F := Ideal) m ρ)

/-- Layer 0's kernel and the plain linear map with its scores end with equal results. -/
theorem algebraic_Pre0 : algebraic_Pre0Ideal_Pre0RefIdeal (hPre0Ideal := Cert.Pre0Ideal.Gen.facts) (hPre0RefIdeal := Cert.Pre0RefIdeal.Gen.facts) := by
  intro m ρ m' ρ' _ hagree
  refine ⟨_, _, _, _, Cert.Pre0Ideal.Value.run_blocks (F := Ideal) m ρ, ?_⟩
  refine (θ_run Cert.Pre0RefIdeal.defs _ _).mono (fun _ h c => ?_) (Cert.Pre0RefIdeal.Value.run (F := Ideal) m' ρ')
  obtain ⟨hx, hs, hd, ht, rest⟩ := h c
  refine ⟨hx.trans ?_, hs.trans ?_, hd.trans ?_, ht.trans ?_, rest⟩ <;> simp only [hagree c]
  · exact (Cert.Pre0Ideal.Arrays.mapped m c).symm
  · exact (Cert.Pre0Ideal.Arrays.source m c).symm
  · exact (Cert.Pre0Ideal.Arrays.destination m c).symm
  · exact (Cert.Pre0Ideal.Arrays.source_rows m c).symm

/-- Layer 1's plain linear map and scores leave their arguments and every semaphore as they were. -/
theorem quiescent_Pre1RefIdeal : quiescent_Pre1RefIdeal := fun m ρ _ =>
  (θ_run Cert.Pre1RefIdeal.defs _ _).mono (fun r h => ⟨fun c => (h c).2.2.2.2, sem_eq_zero_of_no_sems (by decide) r.2⟩)
    (Cert.Pre1RefIdeal.Value.run (F := Ideal) m ρ)

/-- Layer 1's kernel and the plain linear map with its scores end with equal results. -/
theorem algebraic_Pre1 : algebraic_Pre1Ideal_Pre1RefIdeal (hPre1Ideal := Cert.Pre1Ideal.Gen.facts) (hPre1RefIdeal := Cert.Pre1RefIdeal.Gen.facts) := by
  intro m ρ m' ρ' _ hagree
  refine ⟨_, _, _, _, Cert.Pre1Ideal.Value.run_blocks (F := Ideal) m ρ, ?_⟩
  refine (θ_run Cert.Pre1RefIdeal.defs _ _).mono (fun _ h c => ?_) (Cert.Pre1RefIdeal.Value.run (F := Ideal) m' ρ')
  obtain ⟨hx, hs, hd, ht, rest⟩ := h c
  refine ⟨hx.trans ?_, hs.trans ?_, hd.trans ?_, ht.trans ?_, rest⟩ <;> simp only [hagree c]
  · exact (Cert.Pre1Ideal.Arrays.mapped m c).symm
  · exact (Cert.Pre1Ideal.Arrays.source m c).symm
  · exact (Cert.Pre1Ideal.Arrays.destination m c).symm
  · exact (Cert.Pre1Ideal.Arrays.source_rows m c).symm

/-- Layer 2's plain linear map and scores leave their arguments and every semaphore as they were. -/
theorem quiescent_Pre2RefIdeal : quiescent_Pre2RefIdeal := fun m ρ _ =>
  (θ_run Cert.Pre2RefIdeal.defs _ _).mono (fun r h => ⟨fun c => (h c).2.2.2.2, sem_eq_zero_of_no_sems (by decide) r.2⟩)
    (Cert.Pre2RefIdeal.Value.run (F := Ideal) m ρ)

/-- Layer 2's kernel and the plain linear map with its scores end with equal results. -/
theorem algebraic_Pre2 : algebraic_Pre2Ideal_Pre2RefIdeal (hPre2Ideal := Cert.Pre2Ideal.Gen.facts) (hPre2RefIdeal := Cert.Pre2RefIdeal.Gen.facts) := by
  intro m ρ m' ρ' _ hagree
  refine ⟨_, _, _, _, Cert.Pre2Ideal.Value.run_blocks (F := Ideal) m ρ, ?_⟩
  refine (θ_run Cert.Pre2RefIdeal.defs _ _).mono (fun _ h c => ?_) (Cert.Pre2RefIdeal.Value.run (F := Ideal) m' ρ')
  obtain ⟨hx, hs, hd, ht, rest⟩ := h c
  refine ⟨hx.trans ?_, hs.trans ?_, hd.trans ?_, ht.trans ?_, rest⟩ <;> simp only [hagree c]
  · exact (Cert.Pre2Ideal.Arrays.mapped m c).symm
  · exact (Cert.Pre2Ideal.Arrays.source m c).symm
  · exact (Cert.Pre2Ideal.Arrays.destination m c).symm
  · exact (Cert.Pre2Ideal.Arrays.source_rows m c).symm

/-- The plain first attention layer leaves its arguments and every semaphore as they were. -/
theorem quiescent_Flash0RefIdeal : quiescent_Flash0RefIdeal := fun m ρ _ =>
  (θ_run Cert.Flash0RefIdeal.defs _ _).mono (fun r h => ⟨fun c => (h c).2, sem_eq_zero_of_no_sems (by decide) r.2⟩)
    (Cert.Flash0RefIdeal.Read.run_out m ρ)

/-- The first attention kernel and the plain attention layer end with equal results. -/
theorem algebraic_Flash0 : algebraic_Flash0Ideal_Flash0RefIdeal_pre_first_ok (hFlash0Ideal := Cert.Flash0Ideal.Gen.facts)
    (hFlash0RefIdeal := Cert.Flash0RefIdeal.Gen.facts) (hPre_first_ok := Cert.Pre_first_ok.Gen.facts) := by
  intro m ρ m' ρ' hp hagree
  refine ⟨_, Cert.Flash0Ideal.Value.run (F := Ideal) m ρ, ?_⟩
  refine (θ_run Cert.Flash0RefIdeal.defs _ _).mono (fun _ h c => ⟨(h c).1.trans ?_, (h c).2⟩) (Cert.Flash0RefIdeal.Read.run_out m' ρ')
  simp only [hagree c]
  exact Cert.Flash0RefIdeal.Read.out_eq m hp c

/-- The plain second attention layer leaves its arguments and every semaphore as they were. -/
theorem quiescent_Flash1RefIdeal : quiescent_Flash1RefIdeal := fun m ρ _ =>
  (θ_run Cert.Flash1RefIdeal.defs _ _).mono (fun r h => ⟨fun c => (h c).2, sem_eq_zero_of_no_sems (by decide) r.2⟩)
    (Cert.Flash1RefIdeal.Read.run_out m ρ)

/-- The second attention kernel and the plain attention layer end with equal results. -/
theorem algebraic_Flash1 : algebraic_Flash1Ideal_Flash1RefIdeal_pre_middle_ok (hFlash1Ideal := Cert.Flash1Ideal.Gen.facts)
    (hFlash1RefIdeal := Cert.Flash1RefIdeal.Gen.facts) (hPre_middle_ok := Cert.Pre_middle_ok.Gen.facts) := by
  intro m ρ m' ρ' hp hagree
  refine ⟨_, Cert.Flash1Ideal.Value.run (F := Ideal) m ρ, ?_⟩
  refine (θ_run Cert.Flash1RefIdeal.defs _ _).mono (fun _ h c => ⟨(h c).1.trans ?_, (h c).2⟩) (Cert.Flash1RefIdeal.Read.run_out m' ρ')
  simp only [hagree c]
  exact Cert.Flash1RefIdeal.Read.out_eq m hp c

/-- The plain last attention layer leaves its arguments and every semaphore as they were. -/
theorem quiescent_Flash2RefIdeal : quiescent_Flash2RefIdeal := fun m ρ _ =>
  (θ_run Cert.Flash2RefIdeal.defs _ _).mono (fun r h => ⟨fun c => (h c).2, sem_eq_zero_of_no_sems (by decide) r.2⟩)
    (Cert.Flash2RefIdeal.Read.run_out m ρ)

/-- The last attention kernel and the plain attention layer end with equal results. -/
theorem algebraic_Flash2 : algebraic_Flash2Ideal_Flash2RefIdeal_pre_last_ok (hFlash2Ideal := Cert.Flash2Ideal.Gen.facts)
    (hFlash2RefIdeal := Cert.Flash2RefIdeal.Gen.facts) (hPre_last_ok := Cert.Pre_last_ok.Gen.facts) := by
  intro m ρ m' ρ' hp hagree
  refine ⟨_, Cert.Flash2Ideal.Value.run (F := Ideal) m ρ, ?_⟩
  refine (θ_run Cert.Flash2RefIdeal.defs _ _).mono (fun _ h c => ⟨(h c).1.trans ?_, (h c).2⟩) (Cert.Flash2RefIdeal.Read.run_out m' ρ')
  simp only [hagree c]
  exact Cert.Flash2RefIdeal.Read.out_eq m hp c

theorem claim : Cert.Claim := ⟨Cert.Mha.Gen.facts, Cert.MhaIdeal.Gen.facts, Cert.MhaRefIdeal.Gen.facts, Cert.Qkv.Gen.facts, Cert.QkvIdeal.Gen.facts, Cert.QkvRefIdeal.Gen.facts, Cert.Pre0.Gen.facts, Cert.Pre0Ideal.Gen.facts, Cert.Pre0RefIdeal.Gen.facts, Cert.Pre1.Gen.facts, Cert.Pre1Ideal.Gen.facts, Cert.Pre1RefIdeal.Gen.facts, Cert.Pre2.Gen.facts, Cert.Pre2Ideal.Gen.facts, Cert.Pre2RefIdeal.Gen.facts, Cert.Flash0.Gen.facts, Cert.Flash0Ideal.Gen.facts, Cert.Flash0RefIdeal.Gen.facts, Cert.Flash1.Gen.facts, Cert.Flash1Ideal.Gen.facts, Cert.Flash1RefIdeal.Gen.facts, Cert.Flash2.Gen.facts, Cert.Flash2Ideal.Gen.facts, Cert.Flash2RefIdeal.Gen.facts, Cert.Pre_finite_qk.Gen.facts, Cert.Pre_first_ok.Gen.facts, Cert.Pre_middle_ok.Gen.facts, Cert.Pre_last_ok.Gen.facts,
  fun m ρ _ => Cert.Mha.Gen.frame m ρ,
  fun m ρ _ => Cert.MhaIdeal.Gen.frame m ρ,
  fun m ρ _ => Cert.MhaIdeal.Gen.frame m ρ,
  quiescent_MhaRefIdeal,
  fun m ρ _ => quiescent_MhaRefIdeal m ρ trivial,
  fun m ρ _ => Cert.Qkv.Gen.frame m ρ,
  fun m ρ _ => Cert.QkvIdeal.Gen.frame m ρ,
  quiescent_QkvRefIdeal,
  fun m ρ _ => Cert.Pre0.Gen.frame m ρ,
  fun m ρ _ => Cert.Pre0Ideal.Gen.frame m ρ,
  quiescent_Pre0RefIdeal,
  fun m ρ _ => Cert.Pre1.Gen.frame m ρ,
  fun m ρ _ => Cert.Pre1Ideal.Gen.frame m ρ,
  quiescent_Pre1RefIdeal,
  fun m ρ _ => Cert.Pre2.Gen.frame m ρ,
  fun m ρ _ => Cert.Pre2Ideal.Gen.frame m ρ,
  quiescent_Pre2RefIdeal,
  fun m ρ _ => Cert.Flash0.Gen.frame m ρ,
  fun m ρ _ => Cert.Flash0Ideal.Gen.frame m ρ,
  fun m ρ _ => Cert.Flash0Ideal.Gen.frame m ρ,
  quiescent_Flash0RefIdeal,
  fun m ρ _ => quiescent_Flash0RefIdeal m ρ trivial,
  fun m ρ _ => Cert.Flash1.Gen.frame m ρ,
  fun m ρ _ => Cert.Flash1Ideal.Gen.frame m ρ,
  fun m ρ _ => Cert.Flash1Ideal.Gen.frame m ρ,
  quiescent_Flash1RefIdeal,
  fun m ρ _ => quiescent_Flash1RefIdeal m ρ trivial,
  fun m ρ _ => Cert.Flash2.Gen.frame m ρ,
  fun m ρ _ => Cert.Flash2Ideal.Gen.frame m ρ,
  fun m ρ _ => Cert.Flash2Ideal.Gen.frame m ρ,
  quiescent_Flash2RefIdeal,
  fun m ρ _ => quiescent_Flash2RefIdeal m ρ trivial,
  (trivial : preserves_Mha_MhaIdeal),
  algebraic_Mha,
  (trivial : preserves_Qkv_QkvIdeal),
  algebraic_Qkv,
  (trivial : preserves_Pre0_Pre0Ideal),
  algebraic_Pre0,
  (trivial : preserves_Pre1_Pre1Ideal),
  algebraic_Pre1,
  (trivial : preserves_Pre2_Pre2Ideal),
  algebraic_Pre2,
  (trivial : preserves_Flash0_Flash0Ideal),
  algebraic_Flash0,
  (trivial : preserves_Flash1_Flash1Ideal),
  algebraic_Flash1,
  (trivial : preserves_Flash2_Flash2Ideal),
  algebraic_Flash2⟩

end Cert.Proof

end
